-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![2, 8192, 512]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 8192, 4, 64]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 8192, 4, 64]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 256, 512]⟩ ⟨3, ![2, 8192, 512]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x4x64 : S_.BroadcastsInDim S2x256x4x64 (![] : Fin 0 → Fin S2x256x4x64.rank)
  reducesTo_S2x256x4x64_S_d0_1_2_3 : S2x256x4x64.ReducesTo [0, 1, 2, 3] S_

variable [Facts]

def fn {F : FTy → Type} [FloatOps F] (main_arg0 : FVec F S2x256x512 .f32) (main_arg1 : FVec F S512x256 .f32) (main_arg2 : FVec F S2x256x4x64 .f32) (main_arg3 : FVec F S2x256x4x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x256x4x64 .f32 := Host.absf main_arg2
  let main_cst_2 : FVec F S_ .f32 := constant S_ .f32 0x7F800000#32
  let main_v10 : FVec F S2x256x4x64 .f32 := broadcastInDim S2x256x4x64 ![] bcast_S_S2x256x4x64 main_cst_2
  let main_v11 : IVec S2x256x4x64 1 := cmpf .olt main_v9 main_v10
  let main_c_3 : IVec S_ 1 := constantI S_ 1 1#1
  let main_v12 : IVec S_ 1 := (fun x v => Host.reduce IntOp.andi x v reducesTo_S2x256x4x64_S_d0_1_2_3 h_S_) main_v11 main_c_3
  let main_v13 : IVec S_ 1 := andi main_v8 main_v12
  main_v13
-- ==== Pre_finite_inputs_ReferenceIdeal.lean ====
abbrev S2x8192x512 : Shape := ⟨3, ![2, 8192, 512]⟩
abbrev S512x256 : Shape := ⟨2, ![512, 256]⟩
abbrev S2x8192x4x64 : Shape := ⟨4, ![2, 8192, 4, 64]⟩
abbrev S256x512 : Shape := ⟨2, ![256, 512]⟩
abbrev S_ : Shape := ⟨0, ![]⟩

class Facts : Prop where
  bcast_S_S2x8192x512 : S_.BroadcastsInDim S2x8192x512 (![] : Fin 0 → Fin S2x8192x512.rank)
  reducesTo_S2x8192x512_S_d0_1_2 : S2x8192x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x8192x4x64 : S_.BroadcastsInDim S2x8192x4x64 (![] : Fin 0 → Fin S2x8192x4x64.rank)
  reducesTo_S2x8192x4x64_S_d0_1_2_3 : S2x8192x4x64.ReducesTo [0, 1, 2, 3] S_

variable [Facts]

def fn {F : FTy → Type} [FloatOps F] (main_arg0 : FVec F S2x8192x512 .f32) (main_arg1 : FVec F S512x256 .f32) (main_arg2 : FVec F S2x8192x4x64 .f32) (main_arg3 : FVec F S2x8192x4x64 .f32) (main_arg4 : FVec F S256x512 .f32) : IVec S_ 1 :=
  let main_v0 : FVec F S2x8192x512 .f32 := Host.absf main_arg0
  let main_cst : FVec F S_ .f32 := constant S_ .f32 0x7F800000#32
  let main_v1 : FVec F S2x8192x512 .f32 := broadcastInDim S2x8192x512 ![] bcast_S_S2x8192x512 main_cst
  let main_v2 : IVec S2x8192x512 1 := cmpf .olt main_v0 main_v1
  let main_c : IVec S_ 1 := constantI S_ 1 1#1
  let main_v3 : IVec S_ 1 := (fun x v => Host.reduce IntOp.andi x v reducesTo_S2x8192x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x8192x4x64 .f32 := Host.absf main_arg2
  let main_cst_2 : FVec F S_ .f32 := constant S_ .f32 0x7F800000#32
  let main_v10 : FVec F S2x8192x4x64 .f32 := broadcastInDim S2x8192x4x64 ![] bcast_S_S2x8192x4x64 main_cst_2
  let main_v11 : IVec S2x8192x4x64 1 := cmpf .olt main_v9 main_v10
  let main_c_3 : IVec S_ 1 := constantI S_ 1 1#1
  let main_v12 : IVec S_ 1 := (fun x v => Host.reduce IntOp.andi x v reducesTo_S2x8192x4x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S2x4x256x64 : Shape := ⟨4, ![2, 4, 256, 64]⟩
abbrev S2x4x256x1 : Shape := ⟨4, ![2, 4, 256, 1]⟩
abbrev S4x2x256x256 : Shape := ⟨4, ![4, 2, 256, 256]⟩
abbrev S4 : Shape := ⟨1, ![4]⟩
abbrev S4x2 : Shape := ⟨2, ![4, 2]⟩
abbrev S_ : Shape := ⟨0, ![]⟩
abbrev S2x256x256 : Shape := ⟨3, ![2, 256, 256]⟩
abbrev S1x2x256x256 : Shape := ⟨4, ![1, 2, 256, 256]⟩
abbrev S1x256x512 : Shape := ⟨3, ![1, 256, 512]⟩
abbrev S512x64 : Shape := ⟨2, ![512, 64]⟩
abbrev S256x64 : Shape := ⟨2, ![256, 64]⟩
abbrev S1x1x256x64 : Shape := ⟨4, ![1, 1, 256, 64]⟩
abbrev S256x256 : Shape := ⟨2, ![256, 256]⟩
abbrev S1 : Shape := ⟨1, ![1]⟩
abbrev S1x1 : Shape := ⟨2, ![1, 1]⟩
abbrev S1x1x256x256 : Shape := ⟨4, ![1, 1, 256, 256]⟩
abbrev S1x256x64 : Shape := ⟨3, ![1, 256, 64]⟩
abbrev S1x1x256x1 : Shape := ⟨4, ![1, 1, 256, 1]⟩
abbrev S256x1 : Shape := ⟨2, ![256, 1]⟩
abbrev S256 : Shape := ⟨1, ![256]⟩
abbrev S64x512 : Shape := ⟨2, ![64, 512]⟩

abbrev nBuf : Space → Nat
  | .hbm => 6
  | .vmem => 13
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x4x64, .f32⟩
  | .hbm, ⟨3, _⟩ => ⟨S2x256x4x64, .f32⟩
  | .hbm, ⟨4, _⟩ => ⟨S256x512, .f32⟩
  | .hbm, ⟨5, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S2x256x4x64, .f32⟩
  | .local _ .vmem, ⟨3, _⟩ => ⟨S2x256x4x64, .f32⟩
  | .local _ .vmem, ⟨4, _⟩ => ⟨S256x512, .f32⟩
  | .local _ .vmem, ⟨5, _⟩ => ⟨S2x256x512, .f32⟩
  | .local _ .vmem, ⟨6, _⟩ => ⟨S2x4x256x64, .bf16⟩
  | .local _ .vmem, ⟨7, _⟩ => ⟨S2x4x256x64, .f32⟩
  | .local _ .vmem, ⟨8, _⟩ => ⟨S2x4x256x1, .f32⟩
  | .local _ .vmem, ⟨9, _⟩ => ⟨S4x2x256x256, .fp8e4m3⟩
  | .local _ .vmem, ⟨10, _⟩ => ⟨S4x2x256x256, .bf16⟩
  | .local _ .vmem, ⟨11, _⟩ => ⟨S4x2x256x256, .fp8e4m3⟩
  | .local _ .vmem, ⟨12, _⟩ => ⟨S4x2x256x256, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 3 → Bool
  | ⟨0, _⟩ => true
  | ⟨1, _⟩ => true
  | ⟨2, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 3 54 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 2

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_8 : BitVec 32 := 1#32
  let v11 : BitVec 32 := Scalar.muli v4 c1_i32_8
  let v12 : BitVec 32 := Scalar.addi c0_i32_9 v11
  v12.toNat
@[reducible] def k0_t1_loop : Scf.Loop 32 :=
  let c0_i32_137 : BitVec 32 := 0#32
  let c17_i32 : BitVec 32 := 17#32
  let v182 : BitVec 32 := Scalar.addi c0_i32_137 c17_i32
  let c1_i32_138 : BitVec 32 := 1#32
  ⟨c0_i32_137, v182, c1_i32_138⟩
def k0_cond3 (k0_t1 : Fin k0_t1_loop.trips) : BitVec 1 :=
  let c0_i32_137 : BitVec 32 := 0#32
  let c1_i32_138 : BitVec 32 := 1#32
  let arg23 : BitVec 32 := Scf.iv c0_i32_137 c1_i32_138 k0_t1
  let c0_i32_241 : BitVec 32 := 0#32
  let v280 : BitVec 1 := Scalar.cmpi .sgt arg23 c0_i32_241
  let c16_i32_242 : BitVec 32 := 16#32
  let v281 : BitVec 1 := Scalar.cmpi .sle arg23 c16_i32_242
  let v282 : BitVec 1 := Scalar.andi v280 v281
  let v283 : BitVec 32 := Scalar.extui v282
  let c0_i32_243 : BitVec 32 := 0#32
  let v284 : BitVec 1 := Scalar.cmpi .ne v283 c0_i32_243
  v284

def k0_off1 (k0_t1 : Fin k0_t1_loop.trips) : Fin 1 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  ![v267.toNat]
def k0_off2 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let c0_i32_282 : BitVec 32 := 0#32
  let c0_i32_283 : BitVec 32 := 0#32
  let c0_i32_284 : BitVec 32 := 0#32
  ![v267.toNat, 0, 0, 0]
def k0_cond4 (k0_t1 : Fin k0_t1_loop.trips) : BitVec 1 :=
  let c0_i32_137 : BitVec 32 := 0#32
  let c1_i32_138 : BitVec 32 := 1#32
  let arg23 : BitVec 32 := Scf.iv c0_i32_137 c1_i32_138 k0_t1
  let c16_i32_244 : BitVec 32 := 16#32
  let v285 : BitVec 1 := Scalar.cmpi .slt arg23 c16_i32_244
  let v286 : BitVec 32 := Scalar.extui v285
  let c0_i32_245 : BitVec 32 := 0#32
  let v287 : BitVec 1 := Scalar.cmpi .ne v286 c0_i32_245
  v287

def k0_off3 (k0_t1 : Fin k0_t1_loop.trips) : Fin 1 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  ![v267.toNat]
def k0_off4 (k0_t1 : Fin k0_t1_loop.trips) : Fin 1 → Nat :=
  let c0_i32_137 : BitVec 32 := 0#32
  let c1_i32_138 : BitVec 32 := 1#32
  let arg23 : BitVec 32 := Scf.iv c0_i32_137 c1_i32_138 k0_t1
  let c1_i32_235 : BitVec 32 := 1#32
  let v268 : BitVec 32 := Scalar.addi arg23 c1_i32_235
  let c4_i32_236 : BitVec 32 := 4#32
  let v269 : BitVec 32 := Scalar.remsi v268 c4_i32_236
  ![v269.toNat]
def k0_off5 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c1_i32_235 : BitVec 32 := 1#32
  let v268 : BitVec 32 := Scalar.addi arg23 c1_i32_235
  let c4_i32_236 : BitVec 32 := 4#32
  let v269 : BitVec 32 := Scalar.remsi v268 c4_i32_236
  let c0_i32_282 : BitVec 32 := 0#32
  let c0_i32_283 : BitVec 32 := 0#32
  let c0_i32_284 : BitVec 32 := 0#32
  ![v269.toNat, 0, 0, 0]
def k0_off6 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let c0_i32_285 : BitVec 32 := 0#32
  let c0_i32_286 : BitVec 32 := 0#32
  let c0_i32_287 : BitVec 32 := 0#32
  ![v267.toNat, 0, 0, 0]
def k0_dev3 (d0 : Dev nD) : Nat :=
  let c0_i32_281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_280 : BitVec 32 := 1#32
  let v342 : BitVec 32 := Scalar.muli v4 c1_i32_280
  let v343 : BitVec 32 := Scalar.addi c0_i32_281 v342
  v343.toNat
def k0_cond5 (k0_t1 : Fin k0_t1_loop.trips) : BitVec 1 :=
  let c0_i32_137 : BitVec 32 := 0#32
  let c1_i32_138 : BitVec 32 := 1#32
  let arg23 : BitVec 32 := Scf.iv c0_i32_137 c1_i32_138 k0_t1
  let c0_i32_246 : BitVec 32 := 0#32
  let v288 : BitVec 1 := Scalar.cmpi .sgt arg23 c0_i32_246
  let c15_i32_247 : BitVec 32 := 15#32
  let v289 : BitVec 1 := Scalar.cmpi .sle arg23 c15_i32_247
  let v290 : BitVec 1 := Scalar.andi v288 v289
  let v291 : BitVec 32 := Scalar.extui v290
  let c0_i32_248 : BitVec 32 := 0#32
  let v292 : BitVec 1 := Scalar.cmpi .ne v291 c0_i32_248
  v292

def k0_off7 (k0_t1 : Fin k0_t1_loop.trips) : Fin 1 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  ![v267.toNat]
def k0_off8 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let c0_i32_282 : BitVec 32 := 0#32
  let c0_i32_283 : BitVec 32 := 0#32
  let c0_i32_284 : BitVec 32 := 0#32
  ![v267.toNat, 0, 0, 0]
def k0_cond6 (k0_t1 : Fin k0_t1_loop.trips) : BitVec 1 :=
  let c0_i32_137 : BitVec 32 := 0#32
  let c1_i32_138 : BitVec 32 := 1#32
  let arg23 : BitVec 32 := Scf.iv c0_i32_137 c1_i32_138 k0_t1
  let c15_i32_249 : BitVec 32 := 15#32
  let v293 : BitVec 1 := Scalar.cmpi .slt arg23 c15_i32_249
  let v294 : BitVec 32 := Scalar.extui v293
  let c0_i32_250 : BitVec 32 := 0#32
  let v295 : BitVec 1 := Scalar.cmpi .ne v294 c0_i32_250
  v295

def k0_off9 (k0_t1 : Fin k0_t1_loop.trips) : Fin 1 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  ![v267.toNat]
def k0_off10 (k0_t1 : Fin k0_t1_loop.trips) : Fin 1 → Nat :=
  let c0_i32_137 : BitVec 32 := 0#32
  let c1_i32_138 : BitVec 32 := 1#32
  let arg23 : BitVec 32 := Scf.iv c0_i32_137 c1_i32_138 k0_t1
  let c1_i32_235 : BitVec 32 := 1#32
  let v268 : BitVec 32 := Scalar.addi arg23 c1_i32_235
  let c4_i32_236 : BitVec 32 := 4#32
  let v269 : BitVec 32 := Scalar.remsi v268 c4_i32_236
  ![v269.toNat]
def k0_off11 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c1_i32_235 : BitVec 32 := 1#32
  let v268 : BitVec 32 := Scalar.addi arg23 c1_i32_235
  let c4_i32_236 : BitVec 32 := 4#32
  let v269 : BitVec 32 := Scalar.remsi v268 c4_i32_236
  let c0_i32_282 : BitVec 32 := 0#32
  let c0_i32_283 : BitVec 32 := 0#32
  let c0_i32_284 : BitVec 32 := 0#32
  ![v269.toNat, 0, 0, 0]
def k0_off12 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let c0_i32_285 : BitVec 32 := 0#32
  let c0_i32_286 : BitVec 32 := 0#32
  let c0_i32_287 : BitVec 32 := 0#32
  ![v267.toNat, 0, 0, 0]
def k0_dev4 (d0 : Dev nD) : Nat :=
  let c0_i32_281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_280 : BitVec 32 := 1#32
  let v342 : BitVec 32 := Scalar.muli v7 c1_i32_280
  let v343 : BitVec 32 := Scalar.addi c0_i32_281 v342
  v343.toNat
def k0_cond7 (k0_t1 : Fin k0_t1_loop.trips) : BitVec 1 :=
  let c0_i32_137 : BitVec 32 := 0#32
  let c1_i32_138 : BitVec 32 := 1#32
  let arg23 : BitVec 32 := Scf.iv c0_i32_137 c1_i32_138 k0_t1
  let c0_i32_251 : BitVec 32 := 0#32
  let v296 : BitVec 1 := Scalar.cmpi .sgt arg23 c0_i32_251
  let c16_i32_252 : BitVec 32 := 16#32
  let v297 : BitVec 1 := Scalar.cmpi .sle arg23 c16_i32_252
  let v298 : BitVec 1 := Scalar.andi v296 v297
  let v299 : BitVec 32 := Scalar.extui v298
  let c0_i32_253 : BitVec 32 := 0#32
  let v300 : BitVec 1 := Scalar.cmpi .ne v299 c0_i32_253
  v300

def k0_off13 (k0_t1 : Fin k0_t1_loop.trips) : Fin 2 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let c0_i32_282 : BitVec 32 := 0#32
  ![v267.toNat, 0]
def k0_off14 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let c0_i32_281 : BitVec 32 := 0#32
  let c0_i32_286 : BitVec 32 := 0#32
  let c0_i32_287 : BitVec 32 := 0#32
  ![v267.toNat, 0, 0, 0]
def k0_cond8 (k0_t1 : Fin k0_t1_loop.trips) : BitVec 1 :=
  let c0_i32_137 : BitVec 32 := 0#32
  let c1_i32_138 : BitVec 32 := 1#32
  let arg23 : BitVec 32 := Scf.iv c0_i32_137 c1_i32_138 k0_t1
  let c16_i32_254 : BitVec 32 := 16#32
  let v301 : BitVec 1 := Scalar.cmpi .slt arg23 c16_i32_254
  let v302 : BitVec 32 := Scalar.extui v301
  let c0_i32_255 : BitVec 32 := 0#32
  let v303 : BitVec 1 := Scalar.cmpi .ne v302 c0_i32_255
  v303

def k0_off15 (k0_t1 : Fin k0_t1_loop.trips) : Fin 2 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let c0_i32_283 : BitVec 32 := 0#32
  ![v267.toNat, 0]
def k0_off16 (k0_t1 : Fin k0_t1_loop.trips) : Fin 2 → Nat :=
  let c0_i32_137 : BitVec 32 := 0#32
  let c1_i32_138 : BitVec 32 := 1#32
  let arg23 : BitVec 32 := Scf.iv c0_i32_137 c1_i32_138 k0_t1
  let c1_i32_235 : BitVec 32 := 1#32
  let v268 : BitVec 32 := Scalar.addi arg23 c1_i32_235
  let c4_i32_236 : BitVec 32 := 4#32
  let v269 : BitVec 32 := Scalar.remsi v268 c4_i32_236
  let c0_i32_282 : BitVec 32 := 0#32
  ![v269.toNat, 0]
def k0_off17 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c1_i32_235 : BitVec 32 := 1#32
  let v268 : BitVec 32 := Scalar.addi arg23 c1_i32_235
  let c4_i32_236 : BitVec 32 := 4#32
  let v269 : BitVec 32 := Scalar.remsi v268 c4_i32_236
  let c0_i32_281 : BitVec 32 := 0#32
  let c0_i32_286 : BitVec 32 := 0#32
  let c0_i32_287 : BitVec 32 := 0#32
  ![v269.toNat, 0, 0, 0]
def k0_off18 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let c0_i32_280 : BitVec 32 := 0#32
  let c0_i32_288 : BitVec 32 := 0#32
  let c0_i32_289 : BitVec 32 := 0#32
  ![v267.toNat, 0, 0, 0]
def k0_dev5 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_284 : BitVec 32 := 1#32
  let v342 : BitVec 32 := Scalar.muli v4 c1_i32_284
  let v343 : BitVec 32 := Scalar.addi c0_i32_285 v342
  v343.toNat
def k0_cond9 (k0_t1 : Fin k0_t1_loop.trips) : BitVec 1 :=
  let c0_i32_137 : BitVec 32 := 0#32
  let c1_i32_138 : BitVec 32 := 1#32
  let arg23 : BitVec 32 := Scf.iv c0_i32_137 c1_i32_138 k0_t1
  let c0_i32_256 : BitVec 32 := 0#32
  let v304 : BitVec 1 := Scalar.cmpi .sgt arg23 c0_i32_256
  let c15_i32_257 : BitVec 32 := 15#32
  let v305 : BitVec 1 := Scalar.cmpi .sle arg23 c15_i32_257
  let v306 : BitVec 1 := Scalar.andi v304 v305
  let v307 : BitVec 32 := Scalar.extui v306
  let c0_i32_258 : BitVec 32 := 0#32
  let v308 : BitVec 1 := Scalar.cmpi .ne v307 c0_i32_258
  v308

def k0_off19 (k0_t1 : Fin k0_t1_loop.trips) : Fin 2 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let c0_i32_282 : BitVec 32 := 0#32
  ![v267.toNat, 0]
def k0_off20 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let c0_i32_281 : BitVec 32 := 0#32
  let c0_i32_286 : BitVec 32 := 0#32
  let c0_i32_287 : BitVec 32 := 0#32
  ![v267.toNat, 0, 0, 0]
def k0_cond10 (k0_t1 : Fin k0_t1_loop.trips) : BitVec 1 :=
  let c0_i32_137 : BitVec 32 := 0#32
  let c1_i32_138 : BitVec 32 := 1#32
  let arg23 : BitVec 32 := Scf.iv c0_i32_137 c1_i32_138 k0_t1
  let c15_i32_259 : BitVec 32 := 15#32
  let v309 : BitVec 1 := Scalar.cmpi .slt arg23 c15_i32_259
  let v310 : BitVec 32 := Scalar.extui v309
  let c0_i32_260 : BitVec 32 := 0#32
  let v311 : BitVec 1 := Scalar.cmpi .ne v310 c0_i32_260
  v311

def k0_off21 (k0_t1 : Fin k0_t1_loop.trips) : Fin 2 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let c0_i32_283 : BitVec 32 := 0#32
  ![v267.toNat, 0]
def k0_off22 (k0_t1 : Fin k0_t1_loop.trips) : Fin 2 → Nat :=
  let c0_i32_137 : BitVec 32 := 0#32
  let c1_i32_138 : BitVec 32 := 1#32
  let arg23 : BitVec 32 := Scf.iv c0_i32_137 c1_i32_138 k0_t1
  let c1_i32_235 : BitVec 32 := 1#32
  let v268 : BitVec 32 := Scalar.addi arg23 c1_i32_235
  let c4_i32_236 : BitVec 32 := 4#32
  let v269 : BitVec 32 := Scalar.remsi v268 c4_i32_236
  let c0_i32_282 : BitVec 32 := 0#32
  ![v269.toNat, 0]
def k0_off23 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c1_i32_235 : BitVec 32 := 1#32
  let v268 : BitVec 32 := Scalar.addi arg23 c1_i32_235
  let c4_i32_236 : BitVec 32 := 4#32
  let v269 : BitVec 32 := Scalar.remsi v268 c4_i32_236
  let c0_i32_281 : BitVec 32 := 0#32
  let c0_i32_286 : BitVec 32 := 0#32
  let c0_i32_287 : BitVec 32 := 0#32
  ![v269.toNat, 0, 0, 0]
def k0_off24 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let c0_i32_280 : BitVec 32 := 0#32
  let c0_i32_288 : BitVec 32 := 0#32
  let c0_i32_289 : BitVec 32 := 0#32
  ![v267.toNat, 0, 0, 0]
def k0_dev6 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_284 : BitVec 32 := 1#32
  let v342 : BitVec 32 := Scalar.muli v7 c1_i32_284
  let v343 : BitVec 32 := Scalar.addi c0_i32_285 v342
  v343.toNat
def k0_cond11 (k0_t1 : Fin k0_t1_loop.trips) : BitVec 1 :=
  let c0_i32_137 : BitVec 32 := 0#32
  let c1_i32_138 : BitVec 32 := 1#32
  let arg23 : BitVec 32 := Scf.iv c0_i32_137 c1_i32_138 k0_t1
  let c0_i32_261 : BitVec 32 := 0#32
  let v312 : BitVec 1 := Scalar.cmpi .sgt arg23 c0_i32_261
  let c16_i32_262 : BitVec 32 := 16#32
  let v313 : BitVec 1 := Scalar.cmpi .sle arg23 c16_i32_262
  let v314 : BitVec 1 := Scalar.andi v312 v313
  let v315 : BitVec 32 := Scalar.extui v314
  let c0_i32_263 : BitVec 32 := 0#32
  let v316 : BitVec 1 := Scalar.cmpi .ne v315 c0_i32_263
  v316

def k0_off25 (k0_t1 : Fin k0_t1_loop.trips) : Fin 2 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let c1_i32_282 : BitVec 32 := 1#32
  ![v267.toNat, 1]
def k0_off26 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let c1_i32_281 : BitVec 32 := 1#32
  let c0_i32_286 : BitVec 32 := 0#32
  let c0_i32_287 : BitVec 32 := 0#32
  ![v267.toNat, 1, 0, 0]
def k0_cond12 (k0_t1 : Fin k0_t1_loop.trips) : BitVec 1 :=
  let c0_i32_137 : BitVec 32 := 0#32
  let c1_i32_138 : BitVec 32 := 1#32
  let arg23 : BitVec 32 := Scf.iv c0_i32_137 c1_i32_138 k0_t1
  let c16_i32_264 : BitVec 32 := 16#32
  let v317 : BitVec 1 := Scalar.cmpi .slt arg23 c16_i32_264
  let v318 : BitVec 32 := Scalar.extui v317
  let c0_i32_265 : BitVec 32 := 0#32
  let v319 : BitVec 1 := Scalar.cmpi .ne v318 c0_i32_265
  v319

def k0_off27 (k0_t1 : Fin k0_t1_loop.trips) : Fin 2 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let c1_i32_283 : BitVec 32 := 1#32
  ![v267.toNat, 1]
def k0_off28 (k0_t1 : Fin k0_t1_loop.trips) : Fin 2 → Nat :=
  let c0_i32_137 : BitVec 32 := 0#32
  let c1_i32_138 : BitVec 32 := 1#32
  let arg23 : BitVec 32 := Scf.iv c0_i32_137 c1_i32_138 k0_t1
  let c1_i32_235 : BitVec 32 := 1#32
  let v268 : BitVec 32 := Scalar.addi arg23 c1_i32_235
  let c4_i32_236 : BitVec 32 := 4#32
  let v269 : BitVec 32 := Scalar.remsi v268 c4_i32_236
  let c1_i32_282 : BitVec 32 := 1#32
  ![v269.toNat, 1]
def k0_off29 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c1_i32_235 : BitVec 32 := 1#32
  let v268 : BitVec 32 := Scalar.addi arg23 c1_i32_235
  let c4_i32_236 : BitVec 32 := 4#32
  let v269 : BitVec 32 := Scalar.remsi v268 c4_i32_236
  let c1_i32_281 : BitVec 32 := 1#32
  let c0_i32_286 : BitVec 32 := 0#32
  let c0_i32_287 : BitVec 32 := 0#32
  ![v269.toNat, 1, 0, 0]
def k0_off30 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let c1_i32_280 : BitVec 32 := 1#32
  let c0_i32_288 : BitVec 32 := 0#32
  let c0_i32_289 : BitVec 32 := 0#32
  ![v267.toNat, 1, 0, 0]
def k0_dev7 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_284 : BitVec 32 := 1#32
  let v342 : BitVec 32 := Scalar.muli v4 c1_i32_284
  let v343 : BitVec 32 := Scalar.addi c0_i32_285 v342
  v343.toNat
def k0_cond13 (k0_t1 : Fin k0_t1_loop.trips) : BitVec 1 :=
  let c0_i32_137 : BitVec 32 := 0#32
  let c1_i32_138 : BitVec 32 := 1#32
  let arg23 : BitVec 32 := Scf.iv c0_i32_137 c1_i32_138 k0_t1
  let c0_i32_266 : BitVec 32 := 0#32
  let v320 : BitVec 1 := Scalar.cmpi .sgt arg23 c0_i32_266
  let c15_i32_267 : BitVec 32 := 15#32
  let v321 : BitVec 1 := Scalar.cmpi .sle arg23 c15_i32_267
  let v322 : BitVec 1 := Scalar.andi v320 v321
  let v323 : BitVec 32 := Scalar.extui v322
  let c0_i32_268 : BitVec 32 := 0#32
  let v324 : BitVec 1 := Scalar.cmpi .ne v323 c0_i32_268
  v324

def k0_off31 (k0_t1 : Fin k0_t1_loop.trips) : Fin 2 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let c1_i32_282 : BitVec 32 := 1#32
  ![v267.toNat, 1]
def k0_off32 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let c1_i32_281 : BitVec 32 := 1#32
  let c0_i32_286 : BitVec 32 := 0#32
  let c0_i32_287 : BitVec 32 := 0#32
  ![v267.toNat, 1, 0, 0]
def k0_cond14 (k0_t1 : Fin k0_t1_loop.trips) : BitVec 1 :=
  let c0_i32_137 : BitVec 32 := 0#32
  let c1_i32_138 : BitVec 32 := 1#32
  let arg23 : BitVec 32 := Scf.iv c0_i32_137 c1_i32_138 k0_t1
  let c15_i32_269 : BitVec 32 := 15#32
  let v325 : BitVec 1 := Scalar.cmpi .slt arg23 c15_i32_269
  let v326 : BitVec 32 := Scalar.extui v325
  let c0_i32_270 : BitVec 32 := 0#32
  let v327 : BitVec 1 := Scalar.cmpi .ne v326 c0_i32_270
  v327

def k0_off33 (k0_t1 : Fin k0_t1_loop.trips) : Fin 2 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let c1_i32_283 : BitVec 32 := 1#32
  ![v267.toNat, 1]
def k0_off34 (k0_t1 : Fin k0_t1_loop.trips) : Fin 2 → Nat :=
  let c0_i32_137 : BitVec 32 := 0#32
  let c1_i32_138 : BitVec 32 := 1#32
  let arg23 : BitVec 32 := Scf.iv c0_i32_137 c1_i32_138 k0_t1
  let c1_i32_235 : BitVec 32 := 1#32
  let v268 : BitVec 32 := Scalar.addi arg23 c1_i32_235
  let c4_i32_236 : BitVec 32 := 4#32
  let v269 : BitVec 32 := Scalar.remsi v268 c4_i32_236
  let c1_i32_282 : BitVec 32 := 1#32
  ![v269.toNat, 1]
def k0_off35 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c1_i32_235 : BitVec 32 := 1#32
  let v268 : BitVec 32 := Scalar.addi arg23 c1_i32_235
  let c4_i32_236 : BitVec 32 := 4#32
  let v269 : BitVec 32 := Scalar.remsi v268 c4_i32_236
  let c1_i32_281 : BitVec 32 := 1#32
  let c0_i32_286 : BitVec 32 := 0#32
  let c0_i32_287 : BitVec 32 := 0#32
  ![v269.toNat, 1, 0, 0]
def k0_off36 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let c1_i32_280 : BitVec 32 := 1#32
  let c0_i32_288 : BitVec 32 := 0#32
  let c0_i32_289 : BitVec 32 := 0#32
  ![v267.toNat, 1, 0, 0]
def k0_dev8 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_284 : BitVec 32 := 1#32
  let v342 : BitVec 32 := Scalar.muli v7 c1_i32_284
  let v343 : BitVec 32 := Scalar.addi c0_i32_285 v342
  v343.toNat
def k0_cond15 (k0_t1 : Fin k0_t1_loop.trips) : BitVec 1 :=
  let c0_i32_137 : BitVec 32 := 0#32
  let c1_i32_138 : BitVec 32 := 1#32
  let arg23 : BitVec 32 := Scf.iv c0_i32_137 c1_i32_138 k0_t1
  let c16_i32_271 : BitVec 32 := 16#32
  let v328 : BitVec 1 := Scalar.cmpi .sle arg23 c16_i32_271
  let v329 : BitVec 32 := Scalar.extui v328
  let c0_i32_272 : BitVec 32 := 0#32
  let v330 : BitVec 1 := Scalar.cmpi .ne v329 c0_i32_272
  v330

def k0_off37 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let v361 : Index := Scalar.indexCast v267
  let c0_287 : Index := 0#32
  let c0_288 : Index := 0#32
  let c0_289 : Index := 0#32
  ![v361.toNat, 0, 0, 0]
def k0_off38 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let c0_i32_294 : BitVec 32 := 0#32
  let c0_i32_295 : BitVec 32 := 0#32
  let c0_i32_296 : BitVec 32 := 0#32
  ![v267.toNat, 0, 0, 0]
def k0_cond16 (k0_t1 : Fin k0_t1_loop.trips) : BitVec 1 :=
  let c0_i32_137 : BitVec 32 := 0#32
  let c1_i32_138 : BitVec 32 := 1#32
  let arg23 : BitVec 32 := Scf.iv c0_i32_137 c1_i32_138 k0_t1
  let c0_i32_273 : BitVec 32 := 0#32
  let v331 : BitVec 1 := Scalar.cmpi .sgt arg23 c0_i32_273
  let c15_i32_274 : BitVec 32 := 15#32
  let v332 : BitVec 1 := Scalar.cmpi .sle arg23 c15_i32_274
  let v333 : BitVec 1 := Scalar.andi v331 v332
  let v334 : BitVec 32 := Scalar.extui v333
  let c0_i32_275 : BitVec 32 := 0#32
  let v335 : BitVec 1 := Scalar.cmpi .ne v334 c0_i32_275
  v335

def k0_off39 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let v360 : Index := Scalar.indexCast v267
  let c0_286 : Index := 0#32
  let c0_287 : Index := 0#32
  let c0_288 : Index := 0#32
  ![v360.toNat, 0, 0, 0]
def k0_off40 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let c0_i32_293 : BitVec 32 := 0#32
  let c0_i32_294 : BitVec 32 := 0#32
  let c0_i32_295 : BitVec 32 := 0#32
  ![v267.toNat, 0, 0, 0]
def k0_cond17 (k0_t1 : Fin k0_t1_loop.trips) : BitVec 1 :=
  let c0_i32_137 : BitVec 32 := 0#32
  let c1_i32_138 : BitVec 32 := 1#32
  let arg23 : BitVec 32 := Scf.iv c0_i32_137 c1_i32_138 k0_t1
  let c16_i32_276 : BitVec 32 := 16#32
  let v336 : BitVec 1 := Scalar.cmpi .slt arg23 c16_i32_276
  let v337 : BitVec 32 := Scalar.extui v336
  let c0_i32_277 : BitVec 32 := 0#32
  let v338 : BitVec 1 := Scalar.cmpi .ne v337 c0_i32_277
  v338

def k0_off41 (k0_t1 : Fin k0_t1_loop.trips) : Fin 1 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  ![v267.toNat]
def k0_off42 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let c0_i32_281 : BitVec 32 := 0#32
  let c0_i32_282 : BitVec 32 := 0#32
  let c0_i32_283 : BitVec 32 := 0#32
  ![v267.toNat, 0, 0, 0]
def k0_off43 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c1_i32_235 : BitVec 32 := 1#32
  let v268 : BitVec 32 := Scalar.addi arg23 c1_i32_235
  let c4_i32_236 : BitVec 32 := 4#32
  let v269 : BitVec 32 := Scalar.remsi v268 c4_i32_236
  let c0_i32_284 : BitVec 32 := 0#32
  let c0_i32_285 : BitVec 32 := 0#32
  let c0_i32_286 : BitVec 32 := 0#32
  ![v269.toNat, 0, 0, 0]
def k0_off44 (k0_t1 : Fin k0_t1_loop.trips) : Fin 2 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let c0_i32_289 : BitVec 32 := 0#32
  ![v267.toNat, 0]
def k0_off45 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let c0_i32_288 : BitVec 32 := 0#32
  let c0_i32_292 : BitVec 32 := 0#32
  let c0_i32_293 : BitVec 32 := 0#32
  ![v267.toNat, 0, 0, 0]
def k0_off46 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c1_i32_235 : BitVec 32 := 1#32
  let v268 : BitVec 32 := Scalar.addi arg23 c1_i32_235
  let c4_i32_236 : BitVec 32 := 4#32
  let v269 : BitVec 32 := Scalar.remsi v268 c4_i32_236
  let c0_i32_287 : BitVec 32 := 0#32
  let c0_i32_294 : BitVec 32 := 0#32
  let c0_i32_295 : BitVec 32 := 0#32
  ![v269.toNat, 0, 0, 0]
def k0_off47 (k0_t1 : Fin k0_t1_loop.trips) : Fin 2 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let c1_i32_298 : BitVec 32 := 1#32
  ![v267.toNat, 1]
def k0_off48 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let c1_i32_297 : BitVec 32 := 1#32
  let c0_i32_301 : BitVec 32 := 0#32
  let c0_i32_302 : BitVec 32 := 0#32
  ![v267.toNat, 1, 0, 0]
def k0_off49 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c1_i32_235 : BitVec 32 := 1#32
  let v268 : BitVec 32 := Scalar.addi arg23 c1_i32_235
  let c4_i32_236 : BitVec 32 := 4#32
  let v269 : BitVec 32 := Scalar.remsi v268 c4_i32_236
  let c1_i32_296 : BitVec 32 := 1#32
  let c0_i32_303 : BitVec 32 := 0#32
  let c0_i32_304 : BitVec 32 := 0#32
  ![v269.toNat, 1, 0, 0]
def k0_cond18 (k0_t1 : Fin k0_t1_loop.trips) : BitVec 1 :=
  let c0_i32_137 : BitVec 32 := 0#32
  let c1_i32_138 : BitVec 32 := 1#32
  let arg23 : BitVec 32 := Scf.iv c0_i32_137 c1_i32_138 k0_t1
  let c1_i32_305 : BitVec 32 := 1#32
  let v360 : BitVec 1 := Scalar.cmpi .sge arg23 c1_i32_305
  let c12_i32 : BitVec 32 := 12#32
  let v361 : BitVec 1 := Scalar.cmpi .sle arg23 c12_i32
  let v362 : BitVec 1 := Scalar.andi v360 v361
  let v363 : BitVec 32 := Scalar.extui v362
  let c0_i32_306 : BitVec 32 := 0#32
  let v364 : BitVec 1 := Scalar.cmpi .ne v363 c0_i32_306
  v364

def k0_dev9 (d0 : Dev nD) : Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_308 : BitVec 32 := 1#32
  let v365 : BitVec 32 := Scalar.muli v7 c1_i32_308
  let v366 : BitVec 32 := Scalar.addi c0_i32_309 v365
  v366.toNat
def k0_cond19 (k0_t1 : Fin k0_t1_loop.trips) : BitVec 1 :=
  let c0_i32_137 : BitVec 32 := 0#32
  let c1_i32_138 : BitVec 32 := 1#32
  let arg23 : BitVec 32 := Scf.iv c0_i32_137 c1_i32_138 k0_t1
  let c15_i32_278 : BitVec 32 := 15#32
  let v339 : BitVec 1 := Scalar.cmpi .slt arg23 c15_i32_278
  let v340 : BitVec 32 := Scalar.extui v339
  let c0_i32_279 : BitVec 32 := 0#32
  let v341 : BitVec 1 := Scalar.cmpi .ne v340 c0_i32_279
  v341

def k0_off50 (k0_t1 : Fin k0_t1_loop.trips) : Fin 1 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  ![v267.toNat]
def k0_off51 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let c0_i32_281 : BitVec 32 := 0#32
  let c0_i32_282 : BitVec 32 := 0#32
  let c0_i32_283 : BitVec 32 := 0#32
  ![v267.toNat, 0, 0, 0]
def k0_off52 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c1_i32_235 : BitVec 32 := 1#32
  let v268 : BitVec 32 := Scalar.addi arg23 c1_i32_235
  let c4_i32_236 : BitVec 32 := 4#32
  let v269 : BitVec 32 := Scalar.remsi v268 c4_i32_236
  let c0_i32_284 : BitVec 32 := 0#32
  let c0_i32_285 : BitVec 32 := 0#32
  let c0_i32_286 : BitVec 32 := 0#32
  ![v269.toNat, 0, 0, 0]
def k0_off53 (k0_t1 : Fin k0_t1_loop.trips) : Fin 2 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let c0_i32_289 : BitVec 32 := 0#32
  ![v267.toNat, 0]
def k0_off54 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let c0_i32_288 : BitVec 32 := 0#32
  let c0_i32_292 : BitVec 32 := 0#32
  let c0_i32_293 : BitVec 32 := 0#32
  ![v267.toNat, 0, 0, 0]
def k0_off55 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c1_i32_235 : BitVec 32 := 1#32
  let v268 : BitVec 32 := Scalar.addi arg23 c1_i32_235
  let c4_i32_236 : BitVec 32 := 4#32
  let v269 : BitVec 32 := Scalar.remsi v268 c4_i32_236
  let c0_i32_287 : BitVec 32 := 0#32
  let c0_i32_294 : BitVec 32 := 0#32
  let c0_i32_295 : BitVec 32 := 0#32
  ![v269.toNat, 0, 0, 0]
def k0_off56 (k0_t1 : Fin k0_t1_loop.trips) : Fin 2 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let c1_i32_298 : BitVec 32 := 1#32
  ![v267.toNat, 1]
def k0_off57 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c4_i32_234 : BitVec 32 := 4#32
  let v267 : BitVec 32 := Scalar.remsi arg23 c4_i32_234
  let c1_i32_297 : BitVec 32 := 1#32
  let c0_i32_301 : BitVec 32 := 0#32
  let c0_i32_302 : BitVec 32 := 0#32
  ![v267.toNat, 1, 0, 0]
def k0_off58 (k0_t1 : Fin k0_t1_loop.trips) : Fin 4 → Nat :=
  let c0_i32_137 : BitVec 32 := 0#32
  let c1_i32_138 : BitVec 32 := 1#32
  let arg23 : BitVec 32 := Scf.iv c0_i32_137 c1_i32_138 k0_t1
  let c1_i32_235 : BitVec 32 := 1#32
  let v268 : BitVec 32 := Scalar.addi arg23 c1_i32_235
  let c4_i32_236 : BitVec 32 := 4#32
  let v269 : BitVec 32 := Scalar.remsi v268 c4_i32_236
  let c1_i32_296 : BitVec 32 := 1#32
  let c0_i32_303 : BitVec 32 := 0#32
  let c0_i32_304 : BitVec 32 := 0#32
  ![v269.toNat, 1, 0, 0]
def k0_cond20 (k0_t1 : Fin k0_t1_loop.trips) : BitVec 1 :=
  let c0_i32_137 : BitVec 32 := 0#32
  let c1_i32_138 : BitVec 32 := 1#32
  let arg23 : BitVec 32 := Scf.iv c0_i32_137 c1_i32_138 k0_t1
  let c1_i32_305 : BitVec 32 := 1#32
  let v360 : BitVec 1 := Scalar.cmpi .sge arg23 c1_i32_305
  let c11_i32 : BitVec 32 := 11#32
  let v361 : BitVec 1 := Scalar.cmpi .sle arg23 c11_i32
  let v362 : BitVec 1 := Scalar.andi v360 v361
  let v363 : BitVec 32 := Scalar.extui v362
  let c0_i32_306 : BitVec 32 := 0#32
  let v364 : BitVec 1 := Scalar.cmpi .ne v363 c0_i32_306
  v364

def k0_dev10 (d0 : Dev nD) : Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_308 : BitVec 32 := 1#32
  let v365 : BitVec 32 := Scalar.muli v4 c1_i32_308
  let v366 : BitVec 32 := Scalar.addi c0_i32_309 v365
  v366.toNat
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x8192x512 : Shape := ⟨3, ![2, 8192, 512]⟩
abbrev S512x256 : Shape := ⟨2, ![512, 256]⟩
abbrev S2x8192x4x64 : Shape := ⟨4, ![2, 8192, 4, 64]⟩
abbrev S256x512 : Shape := ⟨2, ![256, 512]⟩
abbrev S2x8192x256 : Shape := ⟨3, ![2, 8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S2x4x8192x8192 : Shape := ⟨4, ![2, 4, 8192, 8192]⟩
abbrev S1x1x8192x8192 : Shape := ⟨4, ![1, 1, 8192, 8192]⟩
abbrev S2x4x8192 : Shape := ⟨3, ![2, 4, 8192]⟩
abbrev S2x4x8192x1 : Shape := ⟨4, ![2, 4, 8192, 1]⟩
abbrev S1x1x8192x1 : Shape := ⟨4, ![1, 1, 8192, 1]⟩
abbrev S2x4x64x8192 : Shape := ⟨4, ![2, 4, 64, 8192]⟩

abbrev nBuf : Space → Nat
  | .hbm => 123
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S512x256, .f32⟩
  | .hbm, ⟨2, _⟩ => ⟨S2x8192x4x64, .f32⟩
  | .hbm, ⟨3, _⟩ => ⟨S2x8192x4x64, .f32⟩
  | .hbm, ⟨4, _⟩ => ⟨S256x512, .f32⟩
  | .hbm, ⟨5, _⟩ => ⟨S2x8192x256, .f32⟩
  | .hbm, ⟨6, _⟩ => ⟨S2x8192x4x64, .f32⟩
  | .hbm, ⟨7, _⟩ => ⟨S8192, .i32⟩
  | .hbm, ⟨8, _⟩ => ⟨S_, .i32⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S8192, .i32⟩
  | .hbm, ⟨17, _⟩ => ⟨S8192, .i32⟩
  | .hbm, ⟨18, _⟩ => ⟨S_, .i32⟩
  | .hbm, ⟨19, _⟩ => ⟨S8192, .i32⟩
  | .hbm, ⟨20, _⟩ => ⟨S8192, .i1⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S8192, .i32⟩
  | .hbm, ⟨28, _⟩ => ⟨S_, .i32⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S8192, .i32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S8192, .i1⟩
  | .hbm, ⟨42, _⟩ => ⟨S_, .i32⟩
  | .hbm, ⟨43, _⟩ => ⟨S8192, .i32⟩
  | .hbm, ⟨44, _⟩ => ⟨S8192, .i32⟩
  | .hbm, ⟨45, _⟩ => ⟨S8192, .i32⟩
  | .hbm, ⟨46, _⟩ => ⟨S1x8192, .i32⟩
  | .hbm, ⟨47, _⟩ => ⟨S8192x8192, .i32⟩
  | .hbm, ⟨48, _⟩ => ⟨S8192x8192, .i32⟩
  | .hbm, ⟨49, _⟩ => ⟨S8192x8192, .i1⟩
  | .hbm, ⟨50, _⟩ => ⟨S_, .i32⟩
  | .hbm, ⟨51, _⟩ => ⟨S1x8192, .i32⟩
  | .hbm, ⟨52, _⟩ => ⟨S1x8192, .i1⟩
  | .hbm, ⟨53, _⟩ => ⟨S8192x8192, .i1⟩
  | .hbm, ⟨54, _⟩ => ⟨S8192x8192, .i1⟩
  | .hbm, ⟨55, _⟩ => ⟨S8192x8192, .i32⟩
  | .hbm, ⟨56, _⟩ => ⟨S8192x8192, .i32⟩
  | .hbm, ⟨57, _⟩ => ⟨S8192x8192, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S8192x8192, .i32⟩
  | .hbm, ⟨65, _⟩ => ⟨S8192x8192, .i32⟩
  | .hbm, ⟨66, _⟩ => ⟨S_, .i32⟩
  | .hbm, ⟨67, _⟩ => ⟨S8192x8192, .i32⟩
  | .hbm, ⟨68, _⟩ => ⟨S8192x8192, .i1⟩
  | .hbm, ⟨69, _⟩ => ⟨S_, .i32⟩
  | .hbm, ⟨70, _⟩ => ⟨S8192x8192, .i32⟩
  | .hbm, ⟨71, _⟩ => ⟨S8192x8192, .i1⟩
  | .hbm, ⟨72, _⟩ => ⟨S_, .i32⟩
  | .hbm, ⟨73, _⟩ => ⟨S_, .i1⟩
  | .hbm, ⟨74, _⟩ => ⟨S8192x8192, .i1⟩
  | .hbm, ⟨75, _⟩ => ⟨S8192x8192, .i1⟩
  | .hbm, ⟨76, _⟩ => ⟨S8192x8192, .i1⟩
  | .hbm, ⟨77, _⟩ => ⟨S8192x8192, .i32⟩
  | .hbm, ⟨78, _⟩ => ⟨S8192x8192, .i32⟩
  | .hbm, ⟨79, _⟩ => ⟨S8192x8192, .i32⟩
  | .hbm, ⟨80, _⟩ => ⟨S_, .i32⟩
  | .hbm, ⟨81, _⟩ => ⟨S8192x8192, .i32⟩
  | .hbm, ⟨82, _⟩ => ⟨S8192x8192, .i1⟩
  | .hbm, ⟨83, _⟩ => ⟨S8192x8192, .i1⟩
  | .hbm, ⟨84, _⟩ => ⟨S2x4x8192x8192, .f32⟩
  | .hbm, ⟨85, _⟩ => ⟨S_, .f32⟩
  | .hbm, ⟨86, _⟩ => ⟨S2x4x8192x8192, .f32⟩
  | .hbm, ⟨87, _⟩ => ⟨S2x4x8192x8192, .f32⟩
  | .hbm, ⟨88, _⟩ => ⟨S1x1x8192x8192, .i1⟩
  | .hbm, ⟨89, _⟩ => ⟨S_, .f32⟩
  | .hbm, ⟨90, _⟩ => ⟨S_, .f32⟩
  | .hbm, ⟨91, _⟩ => ⟨S2x4x8192x8192, .i1⟩
  | .hbm, ⟨92, _⟩ => ⟨S2x4x8192x8192, .f32⟩
  | .hbm, ⟨93, _⟩ => ⟨S2x4x8192x8192, .f32⟩
  | .hbm, ⟨94, _⟩ => ⟨S_, .f32⟩
  | .hbm, ⟨95, _⟩ => ⟨S2x4x8192, .f32⟩
  | .hbm, ⟨96, _⟩ => ⟨S2x4x8192x1, .f32⟩
  | .hbm, ⟨97, _⟩ => ⟨S2x4x8192x8192, .f32⟩
  | .hbm, ⟨98, _⟩ => ⟨S2x4x8192x8192, .f32⟩
  | .hbm, ⟨99, _⟩ => ⟨S2x4x8192x8192, .f32⟩
  | .hbm, ⟨100, _⟩ => ⟨S_, .i1⟩
  | .hbm, ⟨101, _⟩ => ⟨S8192, .i1⟩
  | .hbm, ⟨102, _⟩ => ⟨S1x1x8192x1, .i1⟩
  | .hbm, ⟨103, _⟩ => ⟨S_, .f32⟩
  | .hbm, ⟨104, _⟩ => ⟨S2x4x8192, .f32⟩
  | .hbm, ⟨105, _⟩ => ⟨S2x4x8192x1, .f32⟩
  | .hbm, ⟨106, _⟩ => ⟨S_, .f32⟩
  | .hbm, ⟨107, _⟩ => ⟨S_, .f32⟩
  | .hbm, ⟨108, _⟩ => ⟨S2x4x8192x1, .i1⟩
  | .hbm, ⟨109, _⟩ => ⟨S2x4x8192x1, .f32⟩
  | .hbm, ⟨110, _⟩ => ⟨S2x4x8192x1, .f32⟩
  | .hbm, ⟨111, _⟩ => ⟨S2x4x8192x8192, .f32⟩
  | .hbm, ⟨112, _⟩ => ⟨S2x4x8192x8192, .f32⟩
  | .hbm, ⟨113, _⟩ => ⟨S1x1x8192x1, .i1⟩
  | .hbm, ⟨114, _⟩ => ⟨S_, .f32⟩
  | .hbm, ⟨115, _⟩ => ⟨S_, .f32⟩
  | .hbm, ⟨116, _⟩ => ⟨S2x4x8192x8192, .i1⟩
  | .hbm, ⟨117, _⟩ => ⟨S2x4x8192x8192, .f32⟩
  | .hbm, ⟨118, _⟩ => ⟨S2x4x8192x8192, .f32⟩
  | .hbm, ⟨119, _⟩ => ⟨S2x4x64x8192, .f32⟩
  | .hbm, ⟨120, _⟩ => ⟨S2x8192x4x64, .f32⟩
  | .hbm, ⟨121, _⟩ => ⟨S2x8192x256, .f32⟩
  | .hbm, ⟨122, _⟩ => ⟨S2x8192x512, .f32⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Proto.lean ====
/-
The protocol of the ring kernel: 32 devices, two rings (the right ring sends to the next device, the left ring to the
previous one), each message in three lanes (the keys, and the values of the two batch entries), each lane with one send and
one receive cell per slot. This module names the cells and the buffers' regions, states what each cell hands to its
waiter (`sched`), what a device owes, and at which level each wait lies.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline's rounds and the rings' rounds -/

abbrev URing : Type := URounds (GSem nD τ sig) ℕ
abbrev UU : Type := UR sig nD τ × URing

local notation "𝕄" => MT nD τ sig ℕ (Elt F) ℕ UU ℕ

abbrev EP : Emb (UR sig nD τ) (MT nD τ sig ℕ (Elt F) ℕ UU ℕ) := embL
abbrev ER : Emb URing (MT nD τ sig ℕ (Elt F) ℕ UU ℕ) := embR

/-! ## The two rings -/

def nxt (c : Dev nD) : Dev nD := ⟨(c.val + 1) % 32, Nat.mod_lt _ (Nat.succ_pos 31)⟩
def prv (c : Dev nD) : Dev nD := ⟨(c.val + 31) % 32, Nat.mod_lt _ (Nat.succ_pos 31)⟩

/-- Ring `R` sends from `c` to `dst R c`: the right ring (`false`) to the next device, the left ring (`true`) to the previous. -/
def dst (R : Bool) (c : Dev nD) : Dev nD := if R then prv c else nxt c
/-- The device ring `R` sends to `c` from. -/
def src (R : Bool) (c : Dev nD) : Dev nD := if R then nxt c else prv c

theorem val_lt (c : Dev nD) : c.val < 32 := c.isLt
theorem src_dst (R : Bool) (c : Dev nD) : src R (dst R c) = c := by
  have := val_lt c
  cases R <;> (apply Fin.ext; simp [src, dst, nxt, prv]; omega)
theorem dst_src (R : Bool) (c : Dev nD) : dst R (src R c) = c := by
  have := val_lt c
  cases R <;> (apply Fin.ext; simp [src, dst, nxt, prv]; omega)
theorem dst_not (R : Bool) (c : Dev nD) : dst (!R) c = src R c := by cases R <;> rfl
theorem src_not (R : Bool) (c : Dev nD) : src (!R) c = dst R c := by cases R <;> rfl

/-- The ring as a permutation of the devices. -/
def ringE (R : Bool) : Dev nD ≃ Dev nD := ⟨dst R, src R, src_dst R, dst_src R⟩

/-- The number of hops ring `R` sends: 16 to the right, 15 to the left. -/
def hops (R : Bool) : ℕ := if R then 15 else 16

theorem hops_le (R : Bool) : hops R ≤ 16 := by cases R <;> decide
theorem hops_ge (R : Bool) : 15 ≤ hops R := by cases R <;> decide

/-- The device whose keys and values lie on `c` at hop `g` of ring `R`. -/
def orig (R : Bool) (c : Dev nD) (g : ℕ) : Dev nD := ⟨(c.val + (if R then g else 31 * g)) % 32, Nat.mod_lt _ (Nat.succ_pos 31)⟩

theorem orig_zero (R : Bool) (c : Dev nD) : orig R c 0 = c := by
  have := val_lt c
  cases R <;> (apply Fin.ext; simp [orig] <;> omega)
theorem orig_dst (R : Bool) (c : Dev nD) (h : ℕ) : orig R (dst R c) (h + 1) = orig R c h := by
  have := val_lt c
  cases R <;> (apply Fin.ext; simp [orig, dst, nxt, prv] <;> omega)

/-- The slot of hop `n`. -/
def sl (n : ℕ) : Fin 4 := ⟨n % 4, Nat.mod_lt _ (Nat.succ_pos 3)⟩

theorem sl_add4 (n : ℕ) : sl (n + 4) = sl n := Fin.ext (by simp [sl])

/-! ## The cells -/

/-- The number of a transfer's semaphore among the kernel's: receive or send, ring, lane, slot. -/
def dnum (rc R : Bool) (l : Fin 3) (s : Fin 4) : ℕ :=
  6 + (if R then 24 else 0) + (if l.val = 0 then (if rc then 4 else 0) + s.val else 8 + (if rc then 8 else 0) + 2 * s.val + (l.val - 1))

theorem dnum_lt (rc R : Bool) (l : Fin 3) (s : Fin 4) : dnum rc R l s < 54 := by revert rc R l s; decide

def dsem (rc R : Bool) (l : Fin 3) (s : Fin 4) : DmaSem sig := ⟨dnum rc R l s, dnum_lt rc R l s⟩

/-- Receive or send, ring, lane, slot. -/
abbrev Ch : Type := Bool × Bool × Fin 3 × Fin 4

def chOfNat (n : ℕ) : Ch :=
  let m := n % 24
  (if m < 8 then decide (4 ≤ m) else decide (16 ≤ m), decide (24 ≤ n),
    if m < 8 then 0 else if m % 2 = 0 then 1 else 2,
    if m < 8 then sl m else sl ((m % 8) / 2))

/-- What a transfer's semaphore is used for; the staging semaphores for nothing here. -/
def chOf (q : DmaSem sig) : Option Ch := if q.val < 6 then none else some (chOfNat (q.val - 6))

theorem chOf_dsem (rc R : Bool) (l : Fin 3) (s : Fin 4) : chOf (dsem rc R l s) = some (rc, R, l, s) := by
  revert rc R l s; decide

abbrev barS : Sem sig := (SemArray.scalar (sig.barrier 0 rfl) : Sems sig S_).sem
abbrev crS (R : Bool) : Sem sig := match R with | false => cc0_scratch15.sem | true => cc0_scratch16.sem

abbrev barCell (c : Dev nD) : GSem nD τ sig := ((c : Thread nD τ), .reg barS)
abbrev crCell (R : Bool) (c : Dev nD) : GSem nD τ sig := ((c : Thread nD τ), .reg (crS R))
abbrev sndCell (R : Bool) (l : Fin 3) (c : Dev nD) (s : Fin 4) : GSem nD τ sig := ((c : Thread nD τ), .dma (dsem false R l s))
abbrev rcvCell (R : Bool) (l : Fin 3) (c : Dev nD) (s : Fin 4) : GSem nD τ sig := ((c : Thread nD τ), .dma (dsem true R l s))

theorem cr_ne_bar (R : Bool) : crS R ≠ barS := by cases R <;> decide
theorem cr_inj : ∀ R R' : Bool, crS R = crS R' → R = R' := by decide

/-- A credit semaphore's ring. -/
def crOf (s : Sem sig) : Option Bool := if s = crS false then some false else if s = crS true then some true else none

theorem crOf_cr (R : Bool) : crOf (crS R) = some R := by cases R <;> decide
theorem crOf_bar : crOf barS = none := by decide

/-! ## The regions of the exchange buffers -/

/-- A slot's contents put at every slot of the buffer. -/
def slotIx (i : S4x2x256x256.Idx) : S1x2x256x256.Idx := fun a => match a with
  | ⟨0, _⟩ => ⟨0, Nat.one_pos⟩ | ⟨1, _⟩ => i 1 | ⟨2, _⟩ => i 2 | ⟨3, _⟩ => i 3

def slotBuf {α : Type} (x : S1x2x256x256.Idx → α) : S4x2x256x256.Idx → α := fun i => x (slotIx i)

/-- The elements of lane `l` of slot `s`: the whole slot for the keys, one batch entry's for the values. -/
def regSet (l : Fin 3) (s : Fin 4) : Finset S4x2x256x256.Idx :=
  Finset.univ.filter fun i => (i 0).val = s.val ∧ (l.val = 0 ∨ (i 1).val + 1 = l.val)

/-- A device's keys and values as they travel. -/
structure KV (F : FTy → Type) [FloatOps F] where
  k : Vec F S1x2x256x256 .fp8e4m3
  v : Vec F S1x2x256x256 .bf16

abbrev kM (R : Bool) : Memref sig .tc .vmem S4x2x256x256 .fp8e4m3 := match R with
  | false => Memref.whole cc0_scratch3 | true => Memref.whole cc0_scratch5
abbrev vM (R : Bool) : Memref sig .tc .vmem S4x2x256x256 .bf16 := match R with
  | false => Memref.whole cc0_scratch4 | true => Memref.whole cc0_scratch6

/-- Lane `l` of slot `s` of ring `R`'s buffers on `c`, at share `q`, holding the contents `x`. -/
def reg (R : Bool) (l : Fin 3) (c : Dev nD) (s : Fin 4) (q : PosShare TreeShare) (x : KV F) : sProp 𝕄 :=
  match R, l with
  | false, ⟨0, _⟩ => ((c : Thread nD τ).loc cc0_scratch3) ↦[regSet 0 s]{q} slotBuf x.k
  | true, ⟨0, _⟩ => ((c : Thread nD τ).loc cc0_scratch5) ↦[regSet 0 s]{q} slotBuf x.k
  | false, ⟨l + 1, h⟩ => ((c : Thread nD τ).loc cc0_scratch4) ↦[regSet ⟨l + 1, h⟩ s]{q} slotBuf x.v
  | true, ⟨l + 1, h⟩ => ((c : Thread nD τ).loc cc0_scratch6) ↦[regSet ⟨l + 1, h⟩ s]{q} slotBuf x.v

/-- The same region, whatever it holds. -/
def anyReg (R : Bool) (l : Fin 3) (c : Dev nD) (s : Fin 4) : sProp 𝕄 :=
  match R, l with
  | false, ⟨0, _⟩ => iprop(∃ f : Buf (Elt F) ((c : Thread nD τ).loc cc0_scratch3), ((c : Thread nD τ).loc cc0_scratch3) ↦[regSet 0 s]{fullShare} f)
  | true, ⟨0, _⟩ => iprop(∃ f : Buf (Elt F) ((c : Thread nD τ).loc cc0_scratch5), ((c : Thread nD τ).loc cc0_scratch5) ↦[regSet 0 s]{fullShare} f)
  | false, ⟨l + 1, h⟩ => iprop(∃ f : Buf (Elt F) ((c : Thread nD τ).loc cc0_scratch4), ((c : Thread nD τ).loc cc0_scratch4) ↦[regSet ⟨l + 1, h⟩ s]{fullShare} f)
  | true, ⟨l + 1, h⟩ => iprop(∃ f : Buf (Elt F) ((c : Thread nD τ).loc cc0_scratch6), ((c : Thread nD τ).loc cc0_scratch6) ↦[regSet ⟨l + 1, h⟩ s]{fullShare} f)

instance reg_storable (R l c s q) (x : KV F) : BI.Storable (upEmb : UEmb _ 𝕄) (reg R l c s q x) := by
  unfold reg; split <;> infer_instance
instance anyReg_storable (R l c s) : BI.Storable (upEmb : UEmb _ 𝕄) (anyReg (F := F) R l c s) := by
  unfold anyReg; split <;> infer_instance

theorem reg_any (R : Bool) (l : Fin 3) (c : Dev nD) (s : Fin 4) (x : KV F) : reg R l c s fullShare x ⊢ anyReg R l c s := by
  unfold reg anyReg
  split <;> (iintro H; iexists _; iexact H)

/-- A region whole is its two half shares. -/
theorem reg_halves (R : Bool) (l : Fin 3) (c : Dev nD) (s : Fin 4) (x : KV F) :
    reg R l c s fullShare x ⊣⊢ iprop(reg R l c s fullShare.left x ∗ reg R l c s fullShare.right x) := by
  unfold reg
  split <;> exact pointsTo_share (PosShare.mem_left_op_right _)

/-! ## The amounts -/

/-- What lane `l`'s transfer credits each of its cells. -/
def amt (R : Bool) (l : Fin 3) : ℕ := match R, l with
  | false, ⟨0, _⟩ => sig.dmaCredit .tc (Kind.tc.table .vmem) (Memref.whole cc0_scratch3).view.buf S2x256x256 .fp8e4m3
  | true, ⟨0, _⟩ => sig.dmaCredit .tc (Kind.tc.table .vmem) (Memref.whole cc0_scratch5).view.buf S2x256x256 .fp8e4m3
  | false, ⟨_ + 1, _⟩ => sig.dmaCredit .tc (Kind.tc.table .vmem) (Memref.whole cc0_scratch4).view.buf S256x256 .bf16
  | true, ⟨_ + 1, _⟩ => sig.dmaCredit .tc (Kind.tc.table .vmem) (Memref.whole cc0_scratch6).view.buf S256x256 .bf16

theorem amt_pos (R : Bool) (l : Fin 3) : 0 < amt R l := by
  unfold amt; split <;> exact sig.dmaCredit_pos _ _ _ _ _ (by decide)

/-! ## What the cells hand over -/

variable (kv : Dev nD → KV F)

/-- The hop whose message a send cell's round `r` of slot `s` reports gone, -/
def hopS (s : Fin 4) (r : ℕ) : ℕ := 4 * r + s.val
/-- and the hop whose message a receive cell's round `r` of slot `s` reports arrived. -/
def hopR (s : Fin 4) (r : ℕ) : ℕ := 4 * r + (s.val + 3) % 4

theorem hopS_sl (h : ℕ) : hopS (sl h) (h / 4) = h := by simp [hopS, sl]; omega
theorem hopR_sl (h : ℕ) : hopR (sl (h + 1)) (h / 4) = h := by simp [hopR, sl]; omega

/-- Lane `l` of the slot of device `d` that the message of hop `h` of ring `R` is written into, free, and that its receive
    cell has come to that message's round; -/
def slotL (R : Bool) (l : Fin 3) (d : Dev nD) (h : ℕ) : sProp 𝕄 :=
  iprop(anyReg R l d (sl (h + 1)) ∗ reached ER (rcvCell R l d (sl (h + 1))) (h / 4))
/-- all three lanes of it. -/
def slotFree (R : Bool) (d : Dev nD) (h : ℕ) : sProp 𝕄 := iprop(slotL (F := F) R 0 d h ∗ slotL R 1 d h ∗ slotL R 2 d h)

instance slotFree_storable (R d h) : BI.Storable (upEmb : UEmb _ 𝕄) (slotFree (F := F) R d h) := by
  unfold slotFree slotL; infer_instance

/-- Whether the key message of hop `h` of ring `R` also frees a slot of the other ring. -/
abbrev Frees (R : Bool) (h : ℕ) : Prop := 1 ≤ h ∧ h < hops R ∧ h + 2 < hops (!R)

/-- The slot of ring `!R` on `d`, the sender, that its key message of hop `h` frees for the receiver's hop `h + 2`. -/
def freed (R : Bool) (d : Dev nD) (h : ℕ) : sProp 𝕄 := if Frees R h then slotFree (F := F) (!R) d (h + 2) else iprop(emp)

instance freed_storable (R d h) : BI.Storable (upEmb : UEmb _ 𝕄) (freed (F := F) R d h) := by
  unfold freed; split <;> infer_instance

/-- What arrives on `c` with lane `l` of the message of hop `h` of ring `R`. -/
def payR (R : Bool) (l : Fin 3) (c : Dev nD) (h : ℕ) : sProp 𝕄 :=
  iprop(reg R l c (sl (h + 1)) fullShare (kv (orig R c (h + 1))) ∗ if l.val = 0 then freed (F := F) R (src R c) h else iprop(emp))
/-- What comes back to `c` when lane `l` of its message of hop `h` is gone: the half share it was read at. -/
def payS (R : Bool) (l : Fin 3) (c : Dev nD) (h : ℕ) : sProp 𝕄 := reg R l c (sl h) fullShare.left (kv (orig R c h))
/-- What the barrier's duty of ring `R` hands `c`: the three free slots of the device `c` sends to. -/
def payB (R : Bool) (c : Dev nD) : sProp 𝕄 :=
  iprop(slotFree (F := F) R (dst R c) 0 ∗ slotFree R (dst R c) 1 ∗ slotFree R (dst R c) 2)

instance payR_storable (R l c h) : BI.Storable (upEmb : UEmb _ 𝕄) (payR kv R l c h) := by
  unfold payR; split <;> infer_instance
instance payS_storable (R l c h) : BI.Storable (upEmb : UEmb _ 𝕄) (payS kv R l c h) := by
  unfold payS; infer_instance
instance payB_storable (R c) : BI.Storable (upEmb : UEmb _ 𝕄) (payB (F := F) R c) := by
  unfold payB; infer_instance

def chHop (ch : Ch) (r : ℕ) : ℕ := if ch.1 then hopR ch.2.2.2 r else hopS ch.2.2.2 r

/-- The rounds. A transfer's cell has one duty per hop; the barrier two, one per ring; a credit cell one round of as many
    duties as it is signalled, which hand over nothing (a freed slot travels with the other ring's key message). -/
def sched : Rounds.Schedule (GSem nD τ sig) ℕ 𝕄 where
  duties g r := if g.1.2 ≠ .tc then ∅ else match g.2 with
    | .dma q => match chOf q with
      | some ch => if chHop ch r < hops ch.2.1 then {0} else ∅
      | none => ∅
    | .reg s => if r ≠ 0 then ∅ else if s = barS then {0, 1} else match crOf s with
      | some R => Finset.range (hops R - 4)
      | none => ∅
  unitless _ := False
  amount g _ _ := match g.2 with
    | .dma q => match chOf q with
      | some ch => amt ch.2.1 ch.2.2.1
      | none => 1
    | .reg s => 1
  payload g r d := match g.2 with
    | .dma q => match chOf q with
      | some ch => if ch.1 then payR kv ch.2.1 ch.2.2.1 g.1.1 (hopR ch.2.2.2 r) else payS kv ch.2.1 ch.2.2.1 g.1.1 (hopS ch.2.2.2 r)
      | none => iprop(emp)
    | .reg s => if s = barS then payB (decide (d = 1)) g.1.1 else iprop(emp)
  amount_pos g _ _ _ := by
    split
    · split
      · exact amt_pos _ _
      · exact Nat.one_pos
    · exact Nat.one_pos

instance sched_payload_storable (g : GSem nD τ sig) (r : ℕ) (d : ℕ) :
    BI.Storable (upEmb : UEmb _ 𝕄) ((sched kv).payload g r d) := by
  dsimp only [sched]
  (repeat' split) <;> infer_instance

section Sched
variable (R : Bool) (l : Fin 3) (c : Dev nD) (h : ℕ)

theorem duties_snd : (sched kv).duties (sndCell R l c (sl h)) (h / 4) = if h < hops R then {0} else ∅ := by
  dsimp only [sched]; rw [if_neg (by simp), chOf_dsem]; simp only [chHop, hopS_sl]; rfl
theorem duties_rcv : (sched kv).duties (rcvCell R l c (sl (h + 1))) (h / 4) = if h < hops R then {0} else ∅ := by
  dsimp only [sched]; rw [if_neg (by simp), chOf_dsem]; simp only [chHop, hopR_sl]; rfl
theorem duties_snd_later (hh : hops R ≤ h) : ∀ r, h / 4 ≤ r → (sched kv).duties (sndCell R l c (sl h)) r = ∅ := by
  intro r hr
  dsimp only [sched]; rw [if_neg (by simp), chOf_dsem]
  refine if_neg ?_
  simp only [chHop, hopS, sl]; simp; omega
theorem duties_rcv_later (hh : hops R ≤ h) : ∀ r, h / 4 ≤ r → (sched kv).duties (rcvCell R l c (sl (h + 1))) r = ∅ := by
  intro r hr
  dsimp only [sched]; rw [if_neg (by simp), chOf_dsem]
  refine if_neg ?_
  simp only [chHop, hopR, sl]; simp; omega
theorem amount_snd (s : Fin 4) (r d : ℕ) : (sched kv).amount (sndCell R l c s) r d = amt R l := by
  dsimp only [sched]; rw [chOf_dsem]
theorem amount_rcv (s : Fin 4) (r d : ℕ) : (sched kv).amount (rcvCell R l c s) r d = amt R l := by
  dsimp only [sched]; rw [chOf_dsem]
theorem payload_snd (d : ℕ) : (sched kv).payload (sndCell R l c (sl h)) (h / 4) d = payS kv R l c h := by
  dsimp only [sched]; rw [chOf_dsem]; simp only [hopS_sl]; rfl
theorem payload_rcv (d : ℕ) : (sched kv).payload (rcvCell R l c (sl (h + 1))) (h / 4) d = payR kv R l c h := by
  dsimp only [sched]; rw [chOf_dsem]; simp only [hopR_sl]; rfl
theorem expect_snd (hh : h < hops R) : (sched kv).expect (sndCell R l c (sl h)) (h / 4) = amt R l := by
  unfold Schedule.expect Schedule.amountOf; rw [duties_snd, if_pos hh, Finset.sum_singleton, amount_snd]
theorem expect_rcv (hh : h < hops R) : (sched kv).expect (rcvCell R l c (sl (h + 1))) (h / 4) = amt R l := by
  unfold Schedule.expect Schedule.amountOf; rw [duties_rcv, if_pos hh, Finset.sum_singleton, amount_rcv]

theorem duties_bar : (sched kv).duties (barCell c) 0 = {0, 1} := by
  dsimp only [sched]; rw [if_neg (by simp), if_neg (by simp), if_pos rfl]
theorem amount_bar (r d : ℕ) : (sched kv).amount (barCell c) r d = 1 := rfl
theorem expect_bar : (sched kv).expect (barCell c) 0 = 2 := by
  unfold Schedule.expect Schedule.amountOf; rw [duties_bar]; rfl
theorem payload_bar (r : ℕ) : (sched kv).payload (barCell c) r (if R then 1 else 0) = payB R c := by
  dsimp only [sched]; rw [if_pos rfl]; cases R <;> rfl
theorem duties_bar_later : ∀ r, 1 ≤ r → (sched kv).duties (barCell c) r = ∅ := by
  intro r hr
  dsimp only [sched]; rw [if_neg (by simp), if_pos (by omega)]

theorem duties_cr : (sched kv).duties (crCell R c) 0 = Finset.range (hops R - 4) := by
  dsimp only [sched]; rw [if_neg (by simp), if_neg (by simp), if_neg (cr_ne_bar R), crOf_cr]
theorem amount_cr (r d : ℕ) : (sched kv).amount (crCell R c) r d = 1 := rfl
theorem expect_cr : (sched kv).expect (crCell R c) 0 = hops R - 4 := by
  unfold Schedule.expect Schedule.amountOf; rw [duties_cr]
  rw [Finset.sum_congr rfl fun d _ => amount_cr kv R c 0 d]; simp
theorem payload_cr (r d : ℕ) : (sched kv).payload (crCell R c) r d = iprop(emp) := by
  dsimp only [sched]; rw [if_neg (cr_ne_bar R)]
theorem duties_cr_later : ∀ r, 1 ≤ r → (sched kv).duties (crCell R c) r = ∅ := by
  intro r hr
  dsimp only [sched]; rw [if_neg (by simp), if_pos (by omega)]
end Sched

/-! ## What a device owes; the levels -/

abbrev Tal : Type := CellTallies nD τ sig ℕ

/-- Lane `l` of the message of hop `h` of ring `R`, owed by `c` to its receiver, who waits for it at its hop `h + 1`; -/
def oS (R : Bool) (l : Fin 3) (c : Dev nD) (h : ℕ) : Tal :=
  if h < hops R then tallyAt (rcvCell R l (dst R c) (sl (h + 1))) (h + 3) (amt R l) else 0
/-- the credit of hop `h`, owed to the device that writes into `c`'s slots, who waits for it at its hop `h + 3`. -/
def oC (R : Bool) (c : Dev nD) (h : ℕ) : Tal :=
  if 1 ≤ h ∧ h + 4 ≤ hops R then tallyAt (crCell R (src R c)) (h + 5) 1 else 0

/-- What `c` owes in the last `n` of the seventeen hops, in the order in which it is paid. -/
def owF (c : Dev nD) : ℕ → Tal
  | 0 => 0
  | n + 1 => owF c n + oC true c (16 - n) + oC false c (16 - n) + oS true 2 c (16 - n) + oS false 2 c (16 - n)
      + oS true 1 c (16 - n) + oS false 1 c (16 - n) + oS true 0 c (16 - n) + oS false 0 c (16 - n)

/-- What `c` owes from hop `g` on. -/
def ow (c : Dev nD) (g : ℕ) : Tal := owF c (17 - g)

theorem ow_step (c : Dev nD) (g : ℕ) (hg : g < 17) :
    ow c g = ow c (g + 1) + oC true c g + oC false c g + oS true 2 c g + oS false 2 c g
      + oS true 1 c g + oS false 1 c g + oS true 0 c g + oS false 0 c g := by
  unfold ow
  have h1 : 17 - g = (16 - g) + 1 := by omega
  have h2 : 16 - (16 - g) = g := by omega
  have h3 : 17 - (g + 1) = 16 - g := by omega
  rw [h1, h3, owF, h2]

/-- At launch also a unit on each neighbour's barrier cell. -/
def ow₀ (c : Dev nD) : Tal := ow c 0 + tallyAt (barCell (nxt c)) 1 1 + tallyAt (barCell (prv c)) 1 1

def L (g : GSem nD τ sig) : Finset ℕ := if g.1.2 = .tc then Finset.range 40 else ∅
/-- A wait's level is its index. -/
def lv (_ : GSem nD τ sig) (u : ℕ) : ℕ := u

theorem L_of_ne (g : GSem nD τ sig) (h : g.1.2 ≠ .tc) : L g = ∅ := if_neg h

/-- All that `O` owes is owed to TensorCores, at indices from `k` on. -/
def Hi (k : ℕ) (O : Tal) : Prop := ∀ g u, 0 < O g u → g.1.2 = .tc ∧ k ≤ u ∧ u < 40

theorem Hi.zero (k : ℕ) : Hi k 0 := fun g u h => absurd h (Nat.lt_irrefl 0)
theorem Hi.add {k : ℕ} {O O' : Tal} (h : Hi k O) (h' : Hi k O') : Hi k (O + O') := fun g u hg => by
  rw [Pi.add_apply, Finsupp.add_apply] at hg
  rcases Nat.eq_zero_or_pos (O g u) with h0 | h0
  · exact h' g u (by omega)
  · exact h g u h0
theorem Hi.mono {k k' : ℕ} {O : Tal} (h : Hi k O) (hk : k' ≤ k) : Hi k' O := fun g u hg =>
  ⟨(h g u hg).1, le_trans hk (h g u hg).2.1, (h g u hg).2.2⟩
theorem Hi.tally {k : ℕ} (c : Dev nD) (sm : SemLoc sig) (u n : ℕ) (h1 : k ≤ u) (h2 : u < 40) :
    Hi k (tallyAt ((c : Thread nD τ), sm) u n) := fun g u' hg => by
  rw [tallyAt_apply] at hg
  by_cases h : g = ((c : Thread nD τ), sm) ∧ u' = u
  · obtain ⟨rfl, rfl⟩ := h; exact ⟨rfl, h1, h2⟩
  · rw [if_neg h] at hg; exact absurd hg (Nat.lt_irrefl 0)

theorem Hi.oS (R : Bool) (l : Fin 3) (c : Dev nD) (h : ℕ) : Hi (h + 3) (oS R l c h) := by
  unfold RingAttn.oS
  have := hops_le R
  split
  · exact Hi.tally _ _ _ _ (by omega) (by omega)
  · exact Hi.zero _
theorem Hi.oC (R : Bool) (c : Dev nD) (h : ℕ) : Hi (h + 5) (oC R c h) := by
  unfold RingAttn.oC
  have := hops_le R
  split
  · exact Hi.tally _ _ _ _ (by omega) (by omega)
  · exact Hi.zero _

theorem Hi.owF (c : Dev nD) : ∀ n, n ≤ 17 → Hi (20 - n) (owF c n)
  | 0, _ => Hi.zero _
  | n + 1, hn => by
    unfold RingAttn.owF
    have hs : ∀ R l, Hi (20 - (n + 1)) (RingAttn.oS R l c (16 - n)) := fun R l => (Hi.oS R l c _).mono (by omega)
    have hc : ∀ R, Hi (20 - (n + 1)) (RingAttn.oC R c (16 - n)) := fun R => (Hi.oC R c _).mono (by omega)
    exact (((((((((Hi.owF c n (by omega)).mono (by omega)).add (hc true)).add (hc false)).add (hs true 2)).add (hs false 2)).add
      (hs true 1)).add (hs false 1)).add (hs true 0)).add (hs false 0)

theorem Hi.ow (c : Dev nD) (g : ℕ) (hg : g ≤ 17) : Hi (g + 3) (ow c g) :=
  (Hi.owF c (17 - g) (by omega)).mono (by omega)

theorem mayWait (c : Dev nD) (sm : SemLoc sig) (ι : ℕ) (O : Tal) (hι : ι < 39) (hO : Hi (ι + 1) O) :
    (levAts L lv : sProp 𝕄) ⊢ MayWait (c : Thread nD τ) sm ι O :=
  MayOwe.of_cut (L := L) (lev := lv) ι
    (fun p hp => by rw [Finset.mem_singleton.mp hp]; unfold L; rw [if_pos rfl]; exact Finset.mem_range.mpr (by omega))
    (fun g u hg => by unfold L; rw [if_pos (hO g u hg).1]; exact Finset.mem_range.mpr (hO g u hg).2.2)
    (fun p hp => by rw [Finset.mem_singleton.mp hp]; exact le_refl _)
    (fun g u hg => (hO g u hg).2.1)

end Cert.RingAttn

end
-- ==== Proof.Steps.lean ====
/-
The protocol's steps: what a device holds of one lane before and after it receives, sends, and waits for its send to be
gone, and of a ring's credits; each step as one rule over the program's operation under its condition on the hop.
-/
module

public import proofs.«01_k».proof.Proof.Proto
public import Idealize.SL.BI.BigOpNat

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

abbrev 𝒱₀ : Variants := Variants.none

variable (kv : Dev nD → KV F)

/-! ## What every step reads: the cells' invariants and the levels -/

/-- A device's cells: the transfers', the barrier's and the two credits'. -/
abbrev CI : Type := Ch ⊕ (Unit ⊕ Bool)

def ciSem : CI → SemLoc sig
  | .inl ch => .dma (dsem ch.1 ch.2.1 ch.2.2.1 ch.2.2.2)
  | .inr (.inl _) => .reg barS
  | .inr (.inr R) => .reg (crS R)

abbrev kcell (p : Dev nD × CI) : GSem nD τ sig := ((p.1 : Thread nD τ), ciSem p.2)

/-- A cell has its invariant, and has come to its round 0. -/
def cellRec (g : GSem nD τ sig) : sProp 𝕄 := iprop(∃ κ, cellInv ER (sched kv) κ g ∗ reached ER g 0)

instance cellRec_persistent (g) : Persistent (cellRec kv g) := by unfold cellRec; infer_instance

/-- Every cell has its invariant, and the levels are what they are. -/
def ctx : sProp 𝕄 := iprop((bigSep Finset.univ fun p : Dev nD × CI => cellRec kv (kcell p)) ∗ levAts L lv)

instance ctx_persistent : Persistent (ctx kv) := by unfold ctx; infer_instance

theorem bigSep_get {I : Type} {s : Finset I} {i : I} (h : i ∈ s) (Φ : I → sProp 𝕄) : bigSep s Φ ⊢ Φ i := by
  classical exact bigSep_elim h

theorem ctx_cell (p : Dev nD × CI) : ctx kv ⊢ cellRec kv (kcell p) := by
  unfold ctx
  iintro ⟨H, -⟩
  iapply (bigSep_get (Finset.mem_univ p) (fun p : Dev nD × CI => cellRec kv (kcell p)))
  iexact H

theorem ctx_bar (c : Dev nD) : ctx kv ⊢ cellRec kv (barCell c) := ctx_cell kv (c, .inr (.inl ()))
theorem ctx_cr (R : Bool) (c : Dev nD) : ctx kv ⊢ cellRec kv (crCell R c) := ctx_cell kv (c, .inr (.inr R))
theorem ctx_snd (R : Bool) (l : Fin 3) (c : Dev nD) (s : Fin 4) : ctx kv ⊢ cellRec kv (sndCell R l c s) :=
  ctx_cell kv (c, .inl (false, R, l, s))
theorem ctx_rcv (R : Bool) (l : Fin 3) (c : Dev nD) (s : Fin 4) : ctx kv ⊢ cellRec kv (rcvCell R l c s) :=
  ctx_cell kv (c, .inl (true, R, l, s))

theorem ctx_mayWait (c : Dev nD) (sm : SemLoc sig) (ι : ℕ) (O : Tal) (hι : ι < 39) (hO : Hi (ι + 1) O) :
    ctx kv ⊢ MayWait (c : Thread nD τ) sm ι O := by
  unfold ctx
  iintro ⟨-, H⟩
  iapply (mayWait c sm ι O hι hO)
  iexact H

/-- What a device owes, whatever it has waited for. -/
def owq (c : Dev nD) (O : Tal) : sProp 𝕄 := iprop(∃ W : Waits sig ℕ, owes (c : Thread nD τ) O W)

/-! ## The pieces of a device's state -/

def posS (R : Bool) (l : Fin 3) (c : Dev nD) (h : ℕ) : sProp 𝕄 :=
  iprop(atPos ER (sndCell R l c (sl h)) (h / 4) ∅ 0 ∗ reached ER (sndCell R l c (sl h)) (h / 4))
def posR (R : Bool) (l : Fin 3) (c : Dev nD) (h : ℕ) : sProp 𝕄 :=
  iprop(atPos ER (rcvCell R l c (sl (h + 1))) (h / 4) ∅ 0 ∗ reached ER (rcvCell R l c (sl (h + 1))) (h / 4))
def tokS (R : Bool) (l : Fin 3) (c : Dev nD) (h : ℕ) : sProp 𝕄 :=
  iprop(dutyTok ER (sndCell R l c (sl h)) (h / 4) 0 ∗ dutyTok ER (rcvCell R l (dst R c) (sl (h + 1))) (h / 4) 0)
def credR (R : Bool) (l : Fin 3) (c : Dev nD) (h : ℕ) : sProp 𝕄 :=
  cred (tallyAt (rcvCell R l c (sl (h + 1))) (h + 3) (amt R l))

section Single
variable (R : Bool) (l : Fin 3) (c : Dev nD) (h : ℕ)

theorem rest_rcv (hh : h < hops R) :
    bigSep ((sched kv).duties (rcvCell R l c (sl (h + 1))) (h / 4) \ ∅) (fun d => (sched kv).payload (rcvCell R l c (sl (h + 1))) (h / 4) d)
      = payR kv R l c h := by
  rw [duties_rcv, if_pos hh, Finset.sdiff_empty, bigSep_singleton, payload_rcv]
theorem rest_snd (hh : h < hops R) :
    bigSep ((sched kv).duties (sndCell R l c (sl h)) (h / 4) \ ∅) (fun d => (sched kv).payload (sndCell R l c (sl h)) (h / 4) d)
      = payS kv R l c h := by
  rw [duties_snd, if_pos hh, Finset.sdiff_empty, bigSep_singleton, payload_snd]

/-- Receiving the message of hop `h`. -/
theorem wp_recv (hh : h < hops R) {sm : DmaSem sig} (hs : sm = dsem true R l (sl (h + 1))) {sp sp' : Space} {s s' : Shape} {e e' : EltTy}
    {sr : Memref sig .tc sp' s' e'} {ds : Memref sig .tc sp s e} {h1 : sr.view.WordExact} {h2 : ds.view.WordExact}
    (hN : ds.view.dmaCredit = amt R l) (O : Tal) (hO : Hi (h + 4) O) (Q : PUnit → sProp 𝕄) :
    iprop(ctx kv ∗ posR R l c h ∗ credR R l c h ∗ owq c O ∗ ((owq c O ∗ posR R l c (h + 4) ∗ payR kv R l c h) -∗ Q ⟨⟩))
      ⊢ wp frame (wpE (defs₀ (F := F)) 𝒱₀ (c : Thread nD τ) none) Set.univ (Prog.lift (.waitDma2 sm sr ds h1 h2)) Q := by
  subst hs
  have hle := hops_le R
  unfold posR credR owq
  iintro ⟨#Hc, ⟨Hat, -⟩, Hcr, ⟨%W, HO⟩, Hk⟩
  ihave HI := (ctx_rcv kv R l c (sl (h + 1))) $$ [Hc]
  · iexact Hc
  unfold cellRec
  icases HI with ⟨%κ, #HI, -⟩
  unfold Prog.lift
  iapply (Rounds.wp_wait_rest_token 𝒱₀ ER (sched kv) (c : Thread nD τ) none (κ := κ)
      (wpE_waitDma2_eq 𝒱₀ (c : Thread nD τ) none Set.univ) (Set.mem_univ _) (h + 3) (O := O) (W := W) (R := h / 4) (m := 0) (T := ∅)
      (by rw [Nat.zero_add, expect_rcv kv R l c h hh]; exact hN)) $$ [Hcr HO Hat]
  · isplitr; · iexact HI
    isplitl [Hcr]; · rw [hN]; iexact Hcr
    isplitl [HO]; · iexact HO
    isplitr; · iapply (ctx_mayWait kv c _ (h + 3) O (by omega) hO); iexact Hc
    iexact Hat
  iintro ⟨HO, Hat, #Hr, Hpay⟩
  rw [show (Prog.ret PUnit.unit : Prog _ PUnit) = pure ⟨⟩ from rfl, wp_pure]
  imodintro
  iapply Hk
  isplitl [HO]; · iexists _; iexact HO
  rw [show sl (h + 4 + 1) = sl (h + 1) from sl_add4 (h + 1), show (h + 4) / 4 = h / 4 + 1 by omega]
  isplitl [Hat]
  · isplitl [Hat]; · iexact Hat
    iexact Hr
  iapply (Entails.of_eq (rest_rcv kv R l c h hh))
  iexact Hpay

/-- Waiting until lane `l` of the message of hop `h` is gone. -/
theorem wp_drain (hh : h < hops R) {sm : DmaSem sig} (hs : sm = dsem false R l (sl h)) {sp sp' : Space} {s s' : Shape} {e e' : EltTy}
    {sr : Memref sig .tc sp' s' e'} {ds : Memref sig .tc sp s e} {h1 : sr.view.WordExact} {h2 : ds.view.WordExact}
    (hN : ds.view.dmaCredit = amt R l) (O : Tal) (hO : Hi 1 O) (Q : PUnit → sProp 𝕄) :
    iprop(ctx kv ∗ posS R l c h ∗ cred (tallyAt (sndCell R l c (sl h)) 0 (amt R l)) ∗ owq c O
        ∗ ((owq c O ∗ posS R l c (h + 4) ∗ payS kv R l c h) -∗ Q ⟨⟩))
      ⊢ wp frame (wpE (defs₀ (F := F)) 𝒱₀ (c : Thread nD τ) none) Set.univ (Prog.lift (.waitDma2 sm sr ds h1 h2)) Q := by
  subst hs
  have hle := hops_le R
  unfold posS owq
  iintro ⟨#Hc, ⟨Hat, -⟩, Hcr, ⟨%W, HO⟩, Hk⟩
  ihave HI := (ctx_snd kv R l c (sl h)) $$ [Hc]
  · iexact Hc
  unfold cellRec
  icases HI with ⟨%κ, #HI, -⟩
  unfold Prog.lift
  iapply (Rounds.wp_wait_rest_token 𝒱₀ ER (sched kv) (c : Thread nD τ) none (κ := κ)
      (wpE_waitDma2_eq 𝒱₀ (c : Thread nD τ) none Set.univ) (Set.mem_univ _) 0 (O := O) (W := W) (R := h / 4) (m := 0) (T := ∅)
      (by rw [Nat.zero_add, expect_snd kv R l c h hh]; exact hN)) $$ [Hcr HO Hat]
  · isplitr; · iexact HI
    isplitl [Hcr]; · rw [hN]; iexact Hcr
    isplitl [HO]; · iexact HO
    isplitr; · iapply (ctx_mayWait kv c _ 0 O (by omega) hO); iexact Hc
    iexact Hat
  iintro ⟨HO, Hat, #Hr, Hpay⟩
  rw [show (Prog.ret PUnit.unit : Prog _ PUnit) = pure ⟨⟩ from rfl, wp_pure]
  imodintro
  iapply Hk
  isplitl [HO]; · iexists _; iexact HO
  rw [sl_add4 h, show (h + 4) / 4 = h / 4 + 1 by omega]
  isplitl [Hat]
  · isplitl [Hat]; · iexact Hat
    iexact Hr
  iapply (Entails.of_eq (rest_snd kv R l c h hh))
  iexact Hpay

/-- Sending lane `l` of the message of hop `h`, between two memrefs that are the lane's regions. -/
theorem wp_send (hh : h < hops R) {n : Dev nD} (hn : n = dst R c) {sS sR : DmaSem sig} (hsS : sS = dsem false R l (sl h))
    (hsR : sR = dsem true R l (sl (h + 1))) {sp sp' : Space} {s : Shape} {e : EltTy}
    {sr : Memref sig .tc sp s e} {ds : Memref sig (Dev.tc n : Thread nD τ).2.kind sp' s e} {hsc : ds.view.ref.isScScratch = false}
    {h1 : sr.view.WordExact} {h2 : ds.view.WordExact} {h3 : DmaTarget.Typed sp (.dma sR) (.remote (Dev.tc n) ds (.dma sS) hsc)}
    (hN : ds.view.amount (.dma sR) = amt R l) (x : KV F) (fs : Buf (Elt F) (sr.view.loc (c : Thread nD τ)))
    (hA : reg R l c (sl h) fullShare.left x = (sr.view.loc (c : Thread nD τ) ↦[sr.view.set]{fullShare.left} fs))
    (hB : anyReg (F := F) R l n (sl (h + 1)) ⊢ iprop(∃ fd, ds.view.loc (Dev.tc n) ↦[ds.view.set]{fullShare} fd))
    (hC : ∀ fd, (ds.view.loc (Dev.tc n) ↦[ds.view.set]{fullShare} (ds.view.write (Elt F) fd (sr.view.read (Elt F) fs) Finset.univ))
      ⊢ reg R l n (sl (h + 1)) fullShare x)
    (hx : x = kv (orig R c h)) (O : Tal) (Q : PUnit → sProp 𝕄) :
    iprop(ctx kv ∗ reached ER (sndCell R l c (sl h)) (h / 4) ∗ tokS R l c h ∗ reg R l c (sl h) fullShare.left x
        ∗ slotL R l (dst R c) h ∗ (if l.val = 0 then freed (F := F) R c h else iprop(emp)) ∗ owq c (O + oS R l c h)
        ∗ ((owq c O ∗ cred (tallyAt (sndCell R l c (sl h)) 0 (amt R l))) -∗ Q ⟨⟩))
      ⊢ wp frame (wpE (defs₀ (F := F)) 𝒱₀ (c : Thread nD τ) none) Set.univ
          (Prog.lift (.enqueueDma sr (.remote (Dev.tc n) ds (.dma sS) hsc) (.dma sR) h1 h2 h3)) Q := by
  subst hn hsS hsR hx
  unfold tokS slotL owq
  iintro ⟨#Hc, #HrS, ⟨HtS, HtR⟩, Hsrc, ⟨Hdst, #HrR⟩, Hfr, ⟨%W, HO⟩, Hk⟩
  ihave HI := (ctx_snd kv R l c (sl h)) $$ [Hc]
  · iexact Hc
  ihave HI' := (ctx_rcv kv R l (dst R c) (sl (h + 1))) $$ [Hc]
  · iexact Hc
  unfold cellRec
  icases HI with ⟨%κ, #HI, -⟩
  icases HI' with ⟨%κ', #HI', -⟩
  ihave Hdst := hB $$ Hdst
  icases Hdst with ⟨%fd, Hdst⟩
  ihave Hsrc := (Entails.of_eq hA) $$ Hsrc
  unfold Prog.lift
  iapply (Rounds.wp_send_pointsTo_with 𝒱₀ ER (sched kv) (c : Thread nD τ) none (κ₁ := κ) (κ₂ := κ') (c' := Dev.tc (dst R c))
      (r₁ := h / 4) (r₂ := h / 4) (d₁ := 0) (d₂ := 0) (F := if l.val = 0 then freed (F := F) R c h else iprop(emp))
      (by rw [duties_snd, if_pos hh]; exact Finset.mem_singleton_self _) (by rw [duties_rcv, if_pos hh]; exact Finset.mem_singleton_self _)
      (h + 3) 0 (amt R l) hN (amount_snd kv R l c _ _ _) (amount_rcv kv R l _ _ _ _) O (by unfold oS; rw [if_pos hh])
      (O₀ := O + oS R l c h) (W := W) (fs := fs) (fd := fd)
      (by rw [payload_snd]; unfold payS; rw [hA])
      (by rw [payload_rcv]; unfold payR; rw [orig_dst, src_dst]; exact sep_mono (hC fd) .rfl))
    $$ [Hsrc Hdst Hfr HO HtS HtR]
  · isplitr; · iexact HI
    isplitr; · iexact HI'
    isplitl [Hsrc]; · iexact Hsrc
    isplitl [Hdst Hfr]
    · isplitl [Hdst]; · iexact Hdst
      iexact Hfr
    isplitl [HO]; · iexact HO
    isplitl [HtS]; · iexact HtS
    isplitr; · iexact HrS
    isplitl [HtR]; · iexact HtR
    iexact HrR
  iintro ⟨Hcr, HO⟩
  rw [show (Prog.ret PUnit.unit : Prog _ PUnit) = pure ⟨⟩ from rfl, wp_pure]
  imodintro
  iapply Hk
  isplitl [HO]; · iexists _; iexact HO
  iexact Hcr

end Single

/-! ## The exchange buffers' views -/

section Views

theorem slotIx_val (i : S4x2x256x256.Idx) (a : Fin 4) (h : a ≠ 0) : (slotIx i a : ℕ) = i a := by
  match a, h with
  | ⟨0, _⟩, h => exact absurd rfl h
  | ⟨1, _⟩, _ => rfl
  | ⟨2, _⟩, _ => rfl
  | ⟨3, _⟩, _ => rfl

theorem slotIx_congr {i i' : S4x2x256x256.Idx} (h : ∀ a : Fin 4, a ≠ 0 → (i a : ℕ) = i' a) : slotIx i = slotIx i' := by
  funext a
  apply Fin.ext
  by_cases ha : a = 0
  · subst ha; rfl
  · rw [slotIx_val i a ha, slotIx_val i' a ha, h a ha]

/-- A slot's slice of the keys' buffer, as a matrix per batch entry. -/
abbrev kS (m : Memref sig .tc .vmem S4x2x256x256 .fp8e4m3) (off : Fin 4 → ℕ) (inb : ∀ a, off a + S1x2x256x256.size a ≤ S4x2x256x256.size a) :
    Memref sig .tc .vmem S2x256x256 .fp8e4m3 :=
  (m.slice (Rect.unit (s := S4x2x256x256) off S1x2x256x256.size inb) (fun _ => rfl)).squeeze S2x256x256 squeezes_S1x2x256x256_S2x256x256
/-- One batch entry's matrix of a slot of the values' buffer. -/
abbrev vS (m : Memref sig .tc .vmem S4x2x256x256 .bf16) (off : Fin 4 → ℕ) (inb : ∀ a, off a + S1x1x256x256.size a ≤ S4x2x256x256.size a) :
    Memref sig .tc .vmem S256x256 .bf16 :=
  (m.slice (Rect.unit (s := S4x2x256x256) off S1x1x256x256.size inb) (fun _ => rfl)).squeeze S256x256 squeezes_S1x1x256x256_S256x256

variable (s : Fin 4)

theorem kRect_set {off : Fin 4 → ℕ} (inb) (ho : off = ![s.val, 0, 0, 0]) :
    (Rect.unit (s := S4x2x256x256) off S1x2x256x256.size inb).set = regSet 0 s := by
  subst ho
  ext i
  simp only [regSet, Rect.mem_set_unit, Finset.mem_filter, Finset.mem_univ, true_and]
  constructor
  · intro h
    have := h 0
    simp at this
    exact ⟨by omega, Or.inl rfl⟩
  · rintro ⟨h, -⟩ a
    have h1 := (i a).isLt
    match a with
    | ⟨0, _⟩ => exact ⟨h.ge, by simp at h ⊢; omega⟩
    | ⟨1, _⟩ => exact ⟨Nat.zero_le _, by simpa using h1⟩
    | ⟨2, _⟩ => exact ⟨Nat.zero_le _, by simpa using h1⟩
    | ⟨3, _⟩ => exact ⟨Nat.zero_le _, by simpa using h1⟩

theorem vRect_set {off : Fin 4 → ℕ} (inb) (b : Fin 2) (ho : off = ![s.val, b.val, 0, 0]) :
    (Rect.unit (s := S4x2x256x256) off S1x1x256x256.size inb).set = regSet b.succ s := by
  subst ho
  ext i
  simp only [regSet, Rect.mem_set_unit, Finset.mem_filter, Finset.mem_univ, true_and]
  constructor
  · intro h
    have h0 := h 0
    have h1 := h 1
    simp at h0 h1
    exact ⟨by omega, Or.inr (by simp; omega)⟩
  · rintro ⟨h, h'⟩ a
    have h1 := (i a).isLt
    simp at h'
    match a with
    | ⟨0, _⟩ => exact ⟨h.ge, by simp at h ⊢; omega⟩
    | ⟨1, _⟩ => exact ⟨by simp; omega, by simp; omega⟩
    | ⟨2, _⟩ => exact ⟨Nat.zero_le _, by simpa using h1⟩
    | ⟨3, _⟩ => exact ⟨Nat.zero_le _, by simpa using h1⟩

theorem kS_slotIx {o o' : Fin 4 → ℕ} (i i')
    (ho : ∀ a : Fin 4, a ≠ 0 → o a = o' a) (j : S2x256x256.Idx) :
    slotIx ((Rect.unit (s := S4x2x256x256) o S1x2x256x256.size i).emb (Shape.reshapeEquiv squeezes_S1x2x256x256_S2x256x256.numel_eq j))
      = slotIx ((Rect.unit (s := S4x2x256x256) o' S1x2x256x256.size i').emb (Shape.reshapeEquiv squeezes_S1x2x256x256_S2x256x256.numel_eq j)) := by
  apply slotIx_congr
  intro a ha
  rw [Rect.emb_apply, Rect.emb_apply]
  exact congrArg (· + _) (ho a ha)

theorem vS_slotIx {o o' : Fin 4 → ℕ} (i i')
    (ho : ∀ a : Fin 4, a ≠ 0 → o a = o' a) (j : S256x256.Idx) :
    slotIx ((Rect.unit (s := S4x2x256x256) o S1x1x256x256.size i).emb (Shape.reshapeEquiv squeezes_S1x1x256x256_S256x256.numel_eq j))
      = slotIx ((Rect.unit (s := S4x2x256x256) o' S1x1x256x256.size i').emb (Shape.reshapeEquiv squeezes_S1x1x256x256_S256x256.numel_eq j)) := by
  apply slotIx_congr
  intro a ha
  rw [Rect.emb_apply, Rect.emb_apply]
  exact congrArg (· + _) (ho a ha)

end Views

section Sends
variable (R : Bool) (c : Dev nD) (h : ℕ)

theorem reg_kR (s : Fin 4) (q : PosShare TreeShare) (x : KV F) {off : Fin 4 → ℕ} (inb) (ho : off = ![s.val, 0, 0, 0]) :
    reg false 0 c s q x = (((kS (Memref.whole cc0_scratch3) off inb).view.loc (c : Thread nD τ)) ↦[(kS (Memref.whole cc0_scratch3) off inb).view.set]{q} slotBuf x.k) := by
  rw [show (kS (Memref.whole cc0_scratch3) off inb).view.set = regSet 0 s from
    (View.set_reshape _ _).trans ((View.set_slice_whole _ _).trans (kRect_set s inb ho))]
  rfl

theorem any_kR (s : Fin 4) {off : Fin 4 → ℕ} (inb) (ho : off = ![s.val, 0, 0, 0]) :
    anyReg (F := F) false 0 c s = iprop(∃ f : Buf (Elt F) ((kS (Memref.whole cc0_scratch3) off inb).view.loc (c : Thread nD τ)),
      ((kS (Memref.whole cc0_scratch3) off inb).view.loc (c : Thread nD τ)) ↦[(kS (Memref.whole cc0_scratch3) off inb).view.set]{fullShare} f) := by
  rw [show (kS (Memref.whole cc0_scratch3) off inb).view.set = regSet 0 s from
    (View.set_reshape _ _).trans ((View.set_slice_whole _ _).trans (kRect_set s inb ho))]
  rfl

theorem land_kR (s : Fin 4) (x : KV F) {off off' : Fin 4 → ℕ} (inb inb') (ho : off = ![s.val, 0, 0, 0])
    (ho' : ∀ a : Fin 4, a ≠ 0 → off a = off' a) (fd : Buf (Elt F) ((kS (Memref.whole cc0_scratch3) off inb).view.loc (c : Thread nD τ))) :
    (((kS (Memref.whole cc0_scratch3) off inb).view.loc (c : Thread nD τ)) ↦[(kS (Memref.whole cc0_scratch3) off inb).view.set]{fullShare}
        ((kS (Memref.whole cc0_scratch3) off inb).view.write (Elt F) fd ((kS (Memref.whole cc0_scratch3) off' inb').view.read (Elt F) (slotBuf x.k)) Finset.univ) : sProp 𝕄)
      = reg false 0 c s fullShare x := by
  rw [reg_kR c s fullShare x inb ho]
  refine pointsTo_congr fun i hi => ?_
  obtain ⟨j, -, rfl⟩ := Finset.mem_map.mp hi
  refine (View.write_emb_of_mem _ _ (Finset.mem_univ _)).trans ?_
  exact congrArg x.k (kS_slotIx inb' inb (fun a ha => (ho' a ha).symm) j)

theorem reg_vR (b : Fin 2) (s : Fin 4) (q : PosShare TreeShare) (x : KV F) {off : Fin 4 → ℕ} (inb) (ho : off = ![s.val, b.val, 0, 0]) :
    reg false b.succ c s q x = (((vS (Memref.whole cc0_scratch4) off inb).view.loc (c : Thread nD τ)) ↦[(vS (Memref.whole cc0_scratch4) off inb).view.set]{q} slotBuf x.v) := by
  rw [show (vS (Memref.whole cc0_scratch4) off inb).view.set = regSet b.succ s from
    (View.set_reshape _ _).trans ((View.set_slice_whole _ _).trans (vRect_set s inb b ho))]
  rfl

theorem any_vR (b : Fin 2) (s : Fin 4) {off : Fin 4 → ℕ} (inb) (ho : off = ![s.val, b.val, 0, 0]) :
    anyReg (F := F) false b.succ c s = iprop(∃ f : Buf (Elt F) ((vS (Memref.whole cc0_scratch4) off inb).view.loc (c : Thread nD τ)),
      ((vS (Memref.whole cc0_scratch4) off inb).view.loc (c : Thread nD τ)) ↦[(vS (Memref.whole cc0_scratch4) off inb).view.set]{fullShare} f) := by
  rw [show (vS (Memref.whole cc0_scratch4) off inb).view.set = regSet b.succ s from
    (View.set_reshape _ _).trans ((View.set_slice_whole _ _).trans (vRect_set s inb b ho))]
  rfl

theorem land_vR (b : Fin 2) (s : Fin 4) (x : KV F) {off off' : Fin 4 → ℕ} (inb inb') (ho : off = ![s.val, b.val, 0, 0])
    (ho' : ∀ a : Fin 4, a ≠ 0 → off a = off' a) (fd : Buf (Elt F) ((vS (Memref.whole cc0_scratch4) off inb).view.loc (c : Thread nD τ))) :
    (((vS (Memref.whole cc0_scratch4) off inb).view.loc (c : Thread nD τ)) ↦[(vS (Memref.whole cc0_scratch4) off inb).view.set]{fullShare}
        ((vS (Memref.whole cc0_scratch4) off inb).view.write (Elt F) fd ((vS (Memref.whole cc0_scratch4) off' inb').view.read (Elt F) (slotBuf x.v)) Finset.univ) : sProp 𝕄)
      = reg false b.succ c s fullShare x := by
  rw [reg_vR c b s fullShare x inb ho]
  refine pointsTo_congr fun i hi => ?_
  obtain ⟨j, -, rfl⟩ := Finset.mem_map.mp hi
  refine (View.write_emb_of_mem _ _ (Finset.mem_univ _)).trans ?_
  exact congrArg x.v (vS_slotIx inb' inb (fun a ha => (ho' a ha).symm) j)

theorem reg_kL (s : Fin 4) (q : PosShare TreeShare) (x : KV F) {off : Fin 4 → ℕ} (inb) (ho : off = ![s.val, 0, 0, 0]) :
    reg true 0 c s q x = (((kS (Memref.whole cc0_scratch5) off inb).view.loc (c : Thread nD τ)) ↦[(kS (Memref.whole cc0_scratch5) off inb).view.set]{q} slotBuf x.k) := by
  rw [show (kS (Memref.whole cc0_scratch5) off inb).view.set = regSet 0 s from
    (View.set_reshape _ _).trans ((View.set_slice_whole _ _).trans (kRect_set s inb ho))]
  rfl

theorem any_kL (s : Fin 4) {off : Fin 4 → ℕ} (inb) (ho : off = ![s.val, 0, 0, 0]) :
    anyReg (F := F) true 0 c s = iprop(∃ f : Buf (Elt F) ((kS (Memref.whole cc0_scratch5) off inb).view.loc (c : Thread nD τ)),
      ((kS (Memref.whole cc0_scratch5) off inb).view.loc (c : Thread nD τ)) ↦[(kS (Memref.whole cc0_scratch5) off inb).view.set]{fullShare} f) := by
  rw [show (kS (Memref.whole cc0_scratch5) off inb).view.set = regSet 0 s from
    (View.set_reshape _ _).trans ((View.set_slice_whole _ _).trans (kRect_set s inb ho))]
  rfl

theorem land_kL (s : Fin 4) (x : KV F) {off off' : Fin 4 → ℕ} (inb inb') (ho : off = ![s.val, 0, 0, 0])
    (ho' : ∀ a : Fin 4, a ≠ 0 → off a = off' a) (fd : Buf (Elt F) ((kS (Memref.whole cc0_scratch5) off inb).view.loc (c : Thread nD τ))) :
    (((kS (Memref.whole cc0_scratch5) off inb).view.loc (c : Thread nD τ)) ↦[(kS (Memref.whole cc0_scratch5) off inb).view.set]{fullShare}
        ((kS (Memref.whole cc0_scratch5) off inb).view.write (Elt F) fd ((kS (Memref.whole cc0_scratch5) off' inb').view.read (Elt F) (slotBuf x.k)) Finset.univ) : sProp 𝕄)
      = reg true 0 c s fullShare x := by
  rw [reg_kL c s fullShare x inb ho]
  refine pointsTo_congr fun i hi => ?_
  obtain ⟨j, -, rfl⟩ := Finset.mem_map.mp hi
  refine (View.write_emb_of_mem _ _ (Finset.mem_univ _)).trans ?_
  exact congrArg x.k (kS_slotIx inb' inb (fun a ha => (ho' a ha).symm) j)

theorem reg_vL (b : Fin 2) (s : Fin 4) (q : PosShare TreeShare) (x : KV F) {off : Fin 4 → ℕ} (inb) (ho : off = ![s.val, b.val, 0, 0]) :
    reg true b.succ c s q x = (((vS (Memref.whole cc0_scratch6) off inb).view.loc (c : Thread nD τ)) ↦[(vS (Memref.whole cc0_scratch6) off inb).view.set]{q} slotBuf x.v) := by
  rw [show (vS (Memref.whole cc0_scratch6) off inb).view.set = regSet b.succ s from
    (View.set_reshape _ _).trans ((View.set_slice_whole _ _).trans (vRect_set s inb b ho))]
  rfl

theorem any_vL (b : Fin 2) (s : Fin 4) {off : Fin 4 → ℕ} (inb) (ho : off = ![s.val, b.val, 0, 0]) :
    anyReg (F := F) true b.succ c s = iprop(∃ f : Buf (Elt F) ((vS (Memref.whole cc0_scratch6) off inb).view.loc (c : Thread nD τ)),
      ((vS (Memref.whole cc0_scratch6) off inb).view.loc (c : Thread nD τ)) ↦[(vS (Memref.whole cc0_scratch6) off inb).view.set]{fullShare} f) := by
  rw [show (vS (Memref.whole cc0_scratch6) off inb).view.set = regSet b.succ s from
    (View.set_reshape _ _).trans ((View.set_slice_whole _ _).trans (vRect_set s inb b ho))]
  rfl

theorem land_vL (b : Fin 2) (s : Fin 4) (x : KV F) {off off' : Fin 4 → ℕ} (inb inb') (ho : off = ![s.val, b.val, 0, 0])
    (ho' : ∀ a : Fin 4, a ≠ 0 → off a = off' a) (fd : Buf (Elt F) ((vS (Memref.whole cc0_scratch6) off inb).view.loc (c : Thread nD τ))) :
    (((vS (Memref.whole cc0_scratch6) off inb).view.loc (c : Thread nD τ)) ↦[(vS (Memref.whole cc0_scratch6) off inb).view.set]{fullShare}
        ((vS (Memref.whole cc0_scratch6) off inb).view.write (Elt F) fd ((vS (Memref.whole cc0_scratch6) off' inb').view.read (Elt F) (slotBuf x.v)) Finset.univ) : sProp 𝕄)
      = reg true b.succ c s fullShare x := by
  rw [reg_vL c b s fullShare x inb ho]
  refine pointsTo_congr fun i hi => ?_
  obtain ⟨j, -, rfl⟩ := Finset.mem_map.mp hi
  refine (View.write_emb_of_mem _ _ (Finset.mem_univ _)).trans ?_
  exact congrArg x.v (vS_slotIx inb' inb (fun a ha => (ho' a ha).symm) j)

end Sends

end Cert.RingAttn

end
-- ==== Proof.Lane.lean ====
/-
One lane of one ring through a hop: what a device holds of it before and after each of the hop's statements, and each
statement, under its condition on the hop, as one rule. Then a ring's credits, and a ring's state between two hops.
-/
module

public import proofs.«01_k».proof.Proof.Steps

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

variable (kv : Dev nD → KV F)

/-! ## Windows of four, and what is left -/

/-- Four consecutive pieces from `n` on, which stops at `H`. -/
def win (H n : ℕ) (A : ℕ → sProp 𝕄) : sProp 𝕄 := bigSep (Finset.Ico (min n H) (min n H + 4)) A

theorem win_pop {H n : ℕ} (h : n < H) (A : ℕ → sProp 𝕄) : win H n A = iprop(A n ∗ bigSep (Finset.Ico (n + 1) (n + 4)) A) := by
  unfold win
  rw [Nat.min_eq_left h.le, bigSep_Ico_succ_bot (by omega)]
theorem win_push {H n : ℕ} (h : n < H) (A : ℕ → sProp 𝕄) : win H (n + 1) A = iprop(A (n + 4) ∗ bigSep (Finset.Ico (n + 1) (n + 4)) A) := by
  unfold win
  rw [Nat.min_eq_left (show n + 1 ≤ H by omega), show n + 1 + 4 = n + 4 + 1 by omega, bigSep_Ico_succ_top (by omega)]
theorem win_stay {H n : ℕ} (h : H ≤ n) (A : ℕ → sProp 𝕄) : win H (n + 1) A = win H n A := by
  unfold win
  rw [Nat.min_eq_right h, Nat.min_eq_right (by omega)]
theorem win_top {H n : ℕ} (h : n ≤ H) (A : ℕ → sProp 𝕄) : win H n A = iprop(A (n + 3) ∗ bigSep (Finset.Ico n (n + 3)) A) := by
  unfold win
  rw [Nat.min_eq_left h, show n + 4 = n + 3 + 1 by omega, bigSep_Ico_succ_top (by omega)]

/-- The pieces from `n` up to `H`. -/
def left (H n : ℕ) (A : ℕ → sProp 𝕄) : sProp 𝕄 := bigSep (Finset.Ico n H) A

theorem left_pop {H n : ℕ} (h : n < H) (A : ℕ → sProp 𝕄) : left H n A = iprop(A n ∗ left H (n + 1) A) := by
  unfold left; exact bigSep_Ico_succ_bot h A
theorem left_none {H n : ℕ} (h : H ≤ n) (A : ℕ → sProp 𝕄) : left H n A = iprop(emp) := by
  unfold left; rw [Finset.Ico_eq_empty (by omega), bigSep_empty]; rfl

/-! ## Receiving -/

section Lane
variable (R : Bool) (l : Fin 3) (c : Dev nD) (g : ℕ)

/-- The message that a device reads at hop `g`, at share `q`, and that its receive cell has come to the round of the
    message that will next take the slot. -/
def cur (q : PosShare TreeShare) : sProp 𝕄 :=
  if g ≤ hops R then iprop(reg R l c (sl g) q (kv (orig R c g)) ∗ reached ER (rcvCell R l c (sl (g + 3 + 1))) ((g + 3) / 4)) else iprop(emp)

/-- What comes along with the message read at hop `g`: from the keys', a free slot for the other ring. -/
def extra : sProp 𝕄 :=
  if 1 ≤ g ∧ g ≤ hops R then (if l.val = 0 then freed (F := F) R (src R c) (g - 1) else iprop(emp)) else iprop(emp)

def recvIn : sProp 𝕄 :=
  iprop(win (hops R) (g - 1) (posR (F := F) R l c) ∗ left (hops R) (g - 1) (credR (F := F) R l c)
    ∗ if g = 0 then reg R l c (sl 0) fullShare (kv c) else iprop(emp))
def recvOut : sProp 𝕄 :=
  iprop(win (hops R) g (posR (F := F) R l c) ∗ left (hops R) g (credR (F := F) R l c) ∗ cur kv R l c g fullShare ∗ extra (F := F) R l c g)

theorem posR_reached (h : ℕ) : (posR R l c h : sProp 𝕄) ⊢ reached ER (rcvCell R l c (sl (h + 1))) (h / 4) := by
  unfold posR; iintro ⟨-, H⟩; iexact H

theorem cur_intro (hg : g ≤ hops R) :
    iprop(win (hops R) g (posR (F := F) R l c) ∗ reg R l c (sl g) fullShare (kv (orig R c g)))
      ⊢ iprop(win (hops R) g (posR (F := F) R l c) ∗ cur kv R l c g fullShare) := by
  unfold cur
  rw [if_pos hg, win_top hg]
  unfold posR
  iintro ⟨⟨⟨Ha, #Hr⟩, Hw⟩, Hreg⟩
  isplitr [Hreg]
  · isplitl [Ha]
    · isplitl [Ha]; · iexact Ha
      iexact Hr
    iexact Hw
  isplitl [Hreg]; · iexact Hreg
  iexact Hr

theorem wp_recv_if {P : Prop} [Decidable P] (hP : P ↔ 1 ≤ g ∧ g ≤ hops R) {sm : P → DmaSem sig} (hs : ∀ h, sm h = dsem true R l (sl g))
    {sp sp' : Space} {s s' : Shape} {e e' : EltTy}
    {sr : P → Memref sig .tc sp' s' e'} {ds : P → Memref sig .tc sp s e} {h1 : ∀ h, (sr h).view.WordExact} {h2 : ∀ h, (ds h).view.WordExact}
    (hN : ∀ h, (ds h).view.dmaCredit = amt R l) (O : Tal) (hO : Hi (g + 3) O) (Q : PUnit → sProp 𝕄) :
    iprop(ctx kv ∗ recvIn kv R l c g ∗ owq c O ∗ ((owq c O ∗ recvOut kv R l c g) -∗ Q ⟨⟩))
      ⊢ wp frame (wpE (defs₀ (F := F)) 𝒱₀ (c : Thread nD τ) none) Set.univ
          (if h : P then (do Prog.lift (.waitDma2 (sm h) (sr h) (ds h) (h1 h) (h2 h)); pure ⟨⟩) else (do pure ⟨⟩)) Q := by
  by_cases hp : P
  · rw [dif_pos hp]
    obtain ⟨hg1, hg2⟩ := hP.mp hp
    obtain ⟨h, rfl⟩ : ∃ h, g = h + 1 := ⟨g - 1, by omega⟩
    have hh : h < hops R := hg2
    unfold recvIn
    rw [wp_bind, Nat.add_sub_cancel, win_pop hh, left_pop hh, if_neg (by omega)]
    iintro ⟨#Hc, ⟨⟨Hp, Hw⟩, ⟨Hcr, Hl⟩, -⟩, HO, Hk⟩
    iapply (wp_recv kv R l c h hh (hs hp) (hN hp) O (hO.mono (by omega)))
    isplitr; · iexact Hc
    isplitl [Hp]; · iexact Hp
    isplitl [Hcr]; · iexact Hcr
    isplitl [HO]; · iexact HO
    iintro ⟨HO, Hp, Hpay⟩
    rw [wp_pure]
    imodintro
    iapply Hk
    isplitl [HO]; · iexact HO
    unfold recvOut payR
    icases Hpay with ⟨Hreg, Hfr⟩
    ihave Hcur := (cur_intro kv R l c (h + 1) hg2) $$ [Hp Hw Hreg]
    · isplitr [Hreg]
      · iapply (Entails.of_eq (win_push hh (posR (F := F) R l c)).symm)
        isplitl [Hp]; · iexact Hp
        iexact Hw
      iexact Hreg
    icases Hcur with ⟨Hw, Hcur⟩
    isplitl [Hw]; · iexact Hw
    isplitl [Hl]; · iexact Hl
    isplitl [Hcur]; · iexact Hcur
    unfold extra
    rw [if_pos (show 1 ≤ h + 1 ∧ h + 1 ≤ hops R from ⟨hg1, hg2⟩), Nat.add_sub_cancel]
    iexact Hfr
  · rw [dif_neg hp, wp_pure]
    have hp' := mt hP.mpr hp
    iintro ⟨#Hc, Hin, HO, Hk⟩
    imodintro
    iapply Hk
    isplitl [HO]; · iexact HO
    unfold recvIn recvOut extra
    rw [if_neg hp']
    rcases Nat.eq_zero_or_pos g with rfl | hg
    · rw [if_pos rfl]
      icases Hin with ⟨Hw, Hl, Hreg⟩
      ihave Hcur := (cur_intro kv R l c 0 (Nat.zero_le _)) $$ [Hw Hreg]
      · isplitl [Hw]; · iexact Hw
        rw [orig_zero]
        iexact Hreg
      icases Hcur with ⟨Hw, Hcur⟩
      isplitl [Hw]; · iexact Hw
      isplitl [Hl]; · iexact Hl
      isplitl [Hcur]; · iexact Hcur
      iempintro
    · have hH : hops R < g := by omega
      obtain ⟨h, rfl⟩ : ∃ h, g = h + 1 := ⟨g - 1, by omega⟩
      unfold cur
      rw [if_neg (by omega), Nat.add_sub_cancel, if_neg (by omega), win_stay (by omega), left_none (by omega), left_none (by omega)]
      icases Hin with ⟨Hw, -, -⟩
      isplitl [Hw]; · iexact Hw
      isplitr; · iempintro
      isplitr; · iempintro
      iempintro

/-! ## Sending -/

/-- A message on its way, or, past the last one, the half share that would have travelled. -/
def fly : sProp 𝕄 :=
  if g < hops R then cred (tallyAt (sndCell R l c (sl g)) 0 (amt R l))
  else if g = hops R then reg R l c (sl g) fullShare.left (kv (orig R c g)) else iprop(emp)

def sendIn : sProp 𝕄 :=
  iprop(win (hops R) g (posS (F := F) R l c) ∗ left (hops R) g (tokS (F := F) R l c) ∗ cur kv R l c g fullShare
    ∗ (if g < hops R then slotL (F := F) R l (dst R c) g else iprop(emp)) ∗ (if l.val = 0 then freed (F := F) R c g else iprop(emp)))
def sendOut : sProp 𝕄 :=
  iprop(win (hops R) g (posS (F := F) R l c) ∗ left (hops R) (g + 1) (tokS (F := F) R l c) ∗ cur kv R l c g fullShare.right ∗ fly kv R l c g)

theorem cur_halves (hg : g ≤ hops R) : (cur kv R l c g fullShare : sProp 𝕄)
    ⊢ iprop(reg R l c (sl g) fullShare.left (kv (orig R c g)) ∗ cur kv R l c g fullShare.right) := by
  unfold cur
  rw [if_pos hg, if_pos hg]
  iintro ⟨H, Hr⟩
  ihave H := (reg_halves R l c (sl g) (kv (orig R c g))).1 $$ H
  icases H with ⟨H1, H2⟩
  isplitl [H1]; · iexact H1
  isplitl [H2]; · iexact H2
  iexact Hr

theorem posS_win_reached (hg : g < hops R) : (win (hops R) g (posS R l c) : sProp 𝕄)
    ⊢ iprop(reached ER (sndCell R l c (sl g)) (g / 4) ∗ win (hops R) g (posS R l c)) := by
  rw [win_pop hg]
  unfold posS
  iintro ⟨⟨Ha, #Hr⟩, Hw⟩
  isplitr; · iexact Hr
  isplitl [Ha]
  · isplitl [Ha]; · iexact Ha
    iexact Hr
  iexact Hw

theorem wp_send_if {P : Prop} [Decidable P] (hP : P ↔ g < hops R) {n : P → Dev nD} (hn : ∀ h, n h = dst R c)
    {sS sR : P → DmaSem sig} (hsS : ∀ h, sS h = dsem false R l (sl g))
    (hsR : ∀ h, sR h = dsem true R l (sl (g + 1))) {sp sp' : Space} {s : Shape} {e : EltTy}
    {sr : P → Memref sig .tc sp s e} {ds : P → Memref sig .tc sp' s e} {hsc : ∀ h, (ds h).view.ref.isScScratch = false}
    {h1 : ∀ h, (sr h).view.WordExact} {h2 : ∀ h, (ds h).view.WordExact} {h3 : ∀ h, DmaTarget.Typed sp (.dma (sR h)) (.remote (Dev.tc (n h)) (ds h) (.dma (sS h)) (hsc h))}
    (hN : ∀ h, (ds h).view.amount (.dma (sR h)) = amt R l) (fs : ∀ h, Buf (Elt F) ((sr h).view.loc (c : Thread nD τ)))
    (hA : ∀ h, reg R l c (sl g) fullShare.left (kv (orig R c g)) = ((sr h).view.loc (c : Thread nD τ) ↦[(sr h).view.set]{fullShare.left} (fs h)))
    (hB : ∀ h, anyReg (F := F) R l (n h) (sl (g + 1)) = iprop(∃ fd, (ds h).view.loc (Dev.tc (n h)) ↦[(ds h).view.set]{fullShare} fd))
    (hC : ∀ h fd, ((ds h).view.loc (Dev.tc (n h)) ↦[(ds h).view.set]{fullShare} ((ds h).view.write (Elt F) fd ((sr h).view.read (Elt F) (fs h)) Finset.univ))
      = reg R l (n h) (sl (g + 1)) fullShare (kv (orig R c g)))
    (O : Tal) (Q : PUnit → sProp 𝕄) :
    iprop(ctx kv ∗ sendIn kv R l c g ∗ owq c (O + oS R l c g) ∗ ((owq c O ∗ sendOut kv R l c g) -∗ Q ⟨⟩))
      ⊢ wp frame (wpE (defs₀ (F := F)) 𝒱₀ (c : Thread nD τ) none) Set.univ
          (if h : P then (do Prog.lift (.enqueueDma (sr h) (.remote (Dev.tc (n h)) (ds h) (.dma (sS h)) (hsc h)) (.dma (sR h)) (h1 h) (h2 h) (h3 h)); pure ⟨⟩)
            else (do pure ⟨⟩)) Q := by
  by_cases hp : P
  · rw [dif_pos hp]
    have hh := hP.mp hp
    unfold sendIn sendOut fly
    rw [wp_bind, if_pos hh, left_pop hh, if_pos hh]
    iintro ⟨#Hc, ⟨Hw, ⟨Ht, Hl⟩, Hcur, Hsl, Hfr⟩, HO, Hk⟩
    ihave Hw := (posS_win_reached R l c g hh) $$ Hw
    icases Hw with ⟨#Hr, Hw⟩
    ihave Hcur := (cur_halves kv R l c g hh.le) $$ Hcur
    icases Hcur with ⟨Hreg, Hcur⟩
    iapply (wp_send kv R l c g hh (hn hp) (hsS hp) (hsR hp) (hN hp) (kv (orig R c g)) (fs hp) (hA hp) (Entails.of_eq (hB hp))
      (fun fd => Entails.of_eq (hC hp fd)) rfl O)
    isplitr; · iexact Hc
    isplitr; · iexact Hr
    isplitl [Ht]; · iexact Ht
    isplitl [Hreg]; · iexact Hreg
    isplitl [Hsl]; · iexact Hsl
    isplitl [Hfr]; · iexact Hfr
    isplitl [HO]; · iexact HO
    iintro ⟨HO, Hcr⟩
    rw [wp_pure]
    imodintro
    iapply Hk
    isplitl [HO]; · iexact HO
    isplitl [Hw]; · iexact Hw
    isplitl [Hl]; · iexact Hl
    isplitl [Hcur]; · iexact Hcur
    iexact Hcr
  · rw [dif_neg hp, wp_pure]
    have hh : hops R ≤ g := not_lt.mp (mt hP.mpr hp)
    unfold sendIn sendOut fly oS
    simp only [if_neg (show ¬g < hops R by omega), add_zero]
    rw [left_none hh, left_none (by omega)]
    iintro ⟨#Hc, ⟨Hw, -, Hcur, -, -⟩, HO, Hk⟩
    imodintro
    iapply Hk
    isplitl [HO]; · iexact HO
    isplitl [Hw]; · iexact Hw
    isplitr; · iempintro
    rcases Nat.eq_or_lt_of_le hh with rfl | h
    · ihave Hcur := (cur_halves kv R l c (hops R) le_rfl) $$ Hcur
      icases Hcur with ⟨Hreg, Hcur⟩
      rw [if_pos (show hops R = hops R from rfl)]
      isplitl [Hcur]; · iexact Hcur
      iexact Hreg
    · unfold cur
      rw [if_neg (by omega), if_neg (by omega), if_neg (by omega)]
      isplitr; · iempintro
      iempintro

/-! ## Waiting for the send to be gone -/

/-- The slot read at hop `g`, free again, for the message of hop `g + 3`. -/
def doneL : sProp 𝕄 := if g ≤ hops R then slotL (F := F) R l c (g + 3) else iprop(emp)

def drainIn : sProp 𝕄 := iprop(win (hops R) g (posS (F := F) R l c) ∗ cur kv R l c g fullShare.right ∗ fly kv R l c g)
def drainOut : sProp 𝕄 := iprop(win (hops R) (g + 1) (posS (F := F) R l c) ∗ doneL (F := F) R l c g)

theorem done_intro (hg : g ≤ hops R) : iprop(cur kv R l c g fullShare.right ∗ reg R l c (sl g) fullShare.left (kv (orig R c g)))
    ⊢ doneL (F := F) R l c g := by
  unfold cur doneL slotL
  rw [if_pos hg, if_pos hg]
  iintro ⟨⟨H2, Hr⟩, H1⟩
  isplitr [Hr]
  · rw [show sl (g + 3 + 1) = sl g from sl_add4 g]
    iapply (reg_any R l c (sl g) (kv (orig R c g)))
    iapply (reg_halves R l c (sl g) (kv (orig R c g))).2
    isplitl [H1]; · iexact H1
    iexact H2
  iexact Hr

theorem wp_drain_lane (hh : g < hops R) {sm : DmaSem sig} (hs : sm = dsem false R l (sl g)) {sp sp' : Space} {s s' : Shape} {e e' : EltTy}
    {sr : Memref sig .tc sp' s' e'} {ds : Memref sig .tc sp s e} {h1 : sr.view.WordExact} {h2 : ds.view.WordExact}
    (hN : ds.view.dmaCredit = amt R l) (O : Tal) (hO : Hi 1 O) (Q : PUnit → sProp 𝕄) :
    iprop(ctx kv ∗ drainIn kv R l c g ∗ owq c O ∗ ((owq c O ∗ drainOut (F := F) R l c g) -∗ Q ⟨⟩))
      ⊢ wp frame (wpE (defs₀ (F := F)) 𝒱₀ (c : Thread nD τ) none) Set.univ (Prog.lift (.waitDma2 sm sr ds h1 h2)) Q := by
  unfold drainIn drainOut fly
  rw [if_pos hh, win_pop hh]
  iintro ⟨#Hc, ⟨⟨Hp, Hw⟩, Hcur, Hcr⟩, HO, Hk⟩
  iapply (wp_drain kv R l c g hh hs hN O hO)
  isplitr; · iexact Hc
  isplitl [Hp]; · iexact Hp
  isplitl [Hcr]; · iexact Hcr
  isplitl [HO]; · iexact HO
  iintro ⟨HO, Hp, Hpay⟩
  iapply Hk
  isplitl [HO]; · iexact HO
  isplitl [Hp Hw]
  · rw [win_push hh]
    isplitl [Hp]; · iexact Hp
    iexact Hw
  iapply (done_intro kv R l c g hh.le)
  isplitl [Hcur]; · iexact Hcur
  unfold payS
  iexact Hpay

/-- Past the last hop there is nothing to wait for. -/
theorem drain_none (hh : hops R ≤ g) : (drainIn kv R l c g : sProp 𝕄) ⊢ drainOut (F := F) R l c g := by
  unfold drainIn drainOut fly
  rw [if_neg (show ¬g < hops R by omega), win_stay hh]
  rcases Nat.eq_or_lt_of_le hh with rfl | h
  · rw [if_pos (show hops R = hops R from rfl)]
    exact sep_mono .rfl (done_intro kv R l c (hops R) le_rfl)
  · unfold doneL
    rw [if_neg (show ¬g = hops R by omega), if_neg (show ¬g ≤ hops R by omega)]
    iintro ⟨Hw, -, -⟩
    isplitl [Hw]; · iexact Hw
    iempintro

end Lane

/-! ## Credits -/

section Credit
variable (R : Bool) (c : Dev nD) (g : ℕ)

/-- A ring's credit cell before hop `g`, and the credits still to be waited for. -/
def crIn : sProp 𝕄 :=
  iprop((if g < hops R then iprop(∃ S, atPos ER (crCell R c) 0 S (g - 4)) else atPos ER (crCell R c) 1 ∅ 0)
    ∗ left (hops R) (max 4 g) (fun h => cred (tallyAt (crCell R c) (h + 2) 1)))

theorem cr_pop (h : 4 ≤ g) (h' : g < hops R) : (left (hops R) (max 4 g) (fun h => cred (tallyAt (crCell R c) (h + 2) 1)) : sProp 𝕄)
    = iprop(cred (tallyAt (crCell R c) (g + 2) 1) ∗ left (hops R) (max 4 (g + 1)) (fun h => cred (tallyAt (crCell R c) (h + 2) 1))) := by
  rw [show max 4 g = g by omega, show max 4 (g + 1) = g + 1 by omega, left_pop h']

theorem wp_credit_if {P : Prop} [Decidable P] (hP : P ↔ 4 ≤ g ∧ g < hops R) (O : Tal) (hO : Hi (g + 3) O) (Q : PUnit → sProp 𝕄) :
    iprop(ctx kv ∗ crIn (F := F) R c g ∗ owq c O ∗ ((owq c O ∗ crIn (F := F) R c (g + 1)) -∗ Q ⟨⟩))
      ⊢ wp frame (wpE (defs₀ (F := F)) 𝒱₀ (c : Thread nD τ) none) Set.univ
          (if h : P then (do semWaitWord (crS R) 1#32; pure ⟨⟩) else (do pure ⟨⟩)) Q := by
  have hle := hops_le R
  have hge := hops_ge R
  by_cases hp : P
  · rw [dif_pos hp, wp_bind]
    obtain ⟨h4, hh⟩ := hP.mp hp
    unfold crIn owq
    rw [if_pos hh, cr_pop R c g h4 hh]
    iintro ⟨#Hc, ⟨⟨%S, Hat⟩, Hcr, Hl⟩, ⟨%W, HO⟩, Hk⟩
    ihave HI := (ctx_cr kv R c) $$ [Hc]
    · iexact Hc
    unfold cellRec
    icases HI with ⟨%κ, #HI, -⟩
    rw [show (semWaitWord (crS R) 1#32 : Prog (TpuEff nD τ sig (Elt F) Λ₀ .tc) PUnit) = .op (.semWait (crS R) 1) .ret from rfl]
    rcases Nat.lt_or_ge (g + 1) (hops R) with hlt | hlast
    · iapply (Rounds.wp_wait 𝒱₀ ER (sched kv) (c : Thread nD τ) none (κ := κ)
        (wpE_semWait_eq 𝒱₀ (c : Thread nD τ) none Set.univ) (Set.mem_univ _) (cr := Finsupp.single (g + 2) 1) (O := O) (W := W) (R := 0) (m := g - 4) (T := S)
        {(SemLoc.reg (crS R), g + 2)} (by rw [Util.total_single]) (image_single_subset _ _ _)) $$ [Hcr HO Hat]
      · isplitr; · iexact HI
        isplitl [Hcr]; · iexact Hcr
        isplitl [HO]; · iexact HO
        isplitr; · iapply (ctx_mayWait kv c _ (g + 2) O (by omega) hO); iexact Hc
        iexact Hat
      iintro %S' ⟨-, HO, Hat, -⟩
      rw [show (Prog.ret PUnit.unit : Prog (TpuEff nD τ sig (Elt F) Λ₀ .tc) PUnit) = pure ⟨⟩ from rfl, wp_pure, wp_pure]
      imodintro
      imodintro
      iapply Hk
      isplitl [HO]; · iexists _; iexact HO
      rw [if_pos hlt, show g + 1 - 4 = g - 4 + 1 by omega]
      isplitl [Hat]; · iexists _; iexact Hat
      iexact Hl
    · iapply (Rounds.wp_wait_rest_token 𝒱₀ ER (sched kv) (c : Thread nD τ) none (κ := κ)
        (wpE_semWait_eq 𝒱₀ (c : Thread nD τ) none Set.univ) (Set.mem_univ _) (g + 2) (k' := 1) (O := O) (W := W) (R := 0) (m := g - 4) (T := S)
        (by rw [expect_cr]; omega)) $$ [Hcr HO Hat]
      · isplitr; · iexact HI
        isplitl [Hcr]; · iexact Hcr
        isplitl [HO]; · iexact HO
        isplitr; · iapply (ctx_mayWait kv c _ (g + 2) O (by omega) hO); iexact Hc
        iexact Hat
      iintro ⟨HO, Hat, -, -⟩
      rw [show (Prog.ret PUnit.unit : Prog (TpuEff nD τ sig (Elt F) Λ₀ .tc) PUnit) = pure ⟨⟩ from rfl, wp_pure, wp_pure]
      imodintro
      imodintro
      iapply Hk
      isplitl [HO]; · iexists _; iexact HO
      rw [if_neg (show ¬g + 1 < hops R by omega)]
      isplitl [Hat]; · iexact Hat
      iexact Hl
  · rw [dif_neg hp, wp_pure]
    have hp' := mt hP.mpr hp
    iintro ⟨#Hc, Hin, HO, Hk⟩
    imodintro
    iapply Hk
    isplitl [HO]; · iexact HO
    unfold crIn
    rcases Nat.lt_or_ge g 4 with h | h
    · rw [if_pos (show g < hops R by omega), if_pos (show g + 1 < hops R by omega), show g + 1 - 4 = g - 4 by omega, show max 4 (g + 1) = max 4 g by omega]
      iexact Hin
    · rw [if_neg (show ¬g < hops R by omega), if_neg (show ¬g + 1 < hops R by omega), left_none (by omega), left_none (by omega)]
      iexact Hin

/-- The duties of the credits that a device still grants on a ring. -/
def crToks : sProp 𝕄 := left (hops R - 3) (max 1 g) (fun h => dutyTok ER (crCell R (src R c)) 0 (h - 1))

theorem crToks_pop (h : 1 ≤ g) (h' : g + 4 ≤ hops R) : (crToks R c g : sProp 𝕄)
    = iprop(dutyTok ER (crCell R (src R c)) 0 (g - 1) ∗ crToks R c (g + 1)) := by
  unfold crToks
  rw [show max 1 g = g by omega, show max 1 (g + 1) = g + 1 by omega, left_pop (by omega)]

theorem crToks_stay (hp : ¬(1 ≤ g ∧ g + 4 ≤ hops R)) : (crToks R c g : sProp 𝕄) = crToks R c (g + 1) := by
  have hge := hops_ge R
  unfold crToks
  rcases Nat.eq_zero_or_pos g with h | h
  · rw [show max 1 (g + 1) = max 1 g by omega]
  · rw [left_none (show hops R - 3 ≤ max 1 g by omega), left_none (show hops R - 3 ≤ max 1 (g + 1) by omega)]

theorem wp_grant_if {P : Prop} [Decidable P] (hP : P ↔ 1 ≤ g ∧ g + 4 ≤ hops R) {n : P → Dev nD} (hn : ∀ h, n h = src R c) (O : Tal) (Q : PUnit → sProp 𝕄) :
    iprop(ctx kv ∗ crToks (F := F) R c g ∗ owq c (O + oC R c g) ∗ ((owq c O ∗ crToks (F := F) R c (g + 1)) -∗ Q ⟨⟩))
      ⊢ wp frame (wpE (defs₀ (F := F)) 𝒱₀ (c : Thread nD τ) none) Set.univ
          (if h : P then (do semSignalWord (n h) (crS R) 1#32; pure ⟨⟩) else (do pure ⟨⟩)) Q := by
  have hle := hops_le R
  have hge := hops_ge R
  by_cases hp : P
  · rw [dif_pos hp, wp_bind]
    obtain ⟨h1, h4⟩ := hP.mp hp
    rw [hn hp, show (semSignalWord (src R c) (crS R) 1#32 : Prog (TpuEff nD τ sig (Elt F) Λ₀ .tc) PUnit)
      = .op (.semSignal (src R c : Thread nD τ) (crS R) 1) .ret from rfl]
    unfold owq
    rw [crToks_pop R c g h1 h4]
    iintro ⟨#Hc, ⟨Ht, Hl⟩, ⟨%W, HO⟩, Hk⟩
    ihave HI := (ctx_cr kv R (src R c)) $$ [Hc]
    · iexact Hc
    unfold cellRec
    icases HI with ⟨%κ, #HI, #Hr⟩
    iapply (Rounds.wp_signal 𝒱₀ ER (sched kv) (c : Thread nD τ) none (dst := (src R c : Thread nD τ)) (κ := κ) (r := 0)
      (d := g - 1) (by rw [duties_cr]; exact Finset.mem_range.mpr (by omega)) (amount_cr kv R (src R c) 0 (g - 1)) (g + 5) (O₀ := O + oC R c g) O
      (by unfold oC; rw [if_pos ⟨h1, h4⟩])) $$ [HO Ht]
    · isplitr; · iexact HI
      isplitl [HO]; · iexact HO
      isplitl [Ht]; · iexact Ht
      isplitr; · rw [payload_cr]; iempintro
      iexact Hr
    iintro HO
    rw [show (Prog.ret PUnit.unit : Prog (TpuEff nD τ sig (Elt F) Λ₀ .tc) PUnit) = pure ⟨⟩ from rfl, wp_pure, wp_pure]
    imodintro
    imodintro
    iapply Hk
    isplitl [HO]; · iexists _; iexact HO
    iexact Hl
  · rw [dif_neg hp, wp_pure]
    have hp' := mt hP.mpr hp
    unfold oC
    rw [if_neg hp', add_zero]
    iintro ⟨#Hc, Hin, HO, Hk⟩
    imodintro
    iapply Hk
    isplitl [HO]; · iexact HO
    iapply (Entails.of_eq (crToks_stay R c g hp'))
    iexact Hin

/-- Past the last hop of the ring nothing is granted. -/
theorem grant_none (hh : hops R ≤ g) (O : Tal) : iprop(crToks (F := F) R c g ∗ owq c (O + oC R c g)) ⊢ iprop(crToks (F := F) R c (g + 1) ∗ owq c O) := by
  have hge := hops_ge R
  unfold crToks oC
  rw [if_neg (by omega), add_zero, left_none (show hops R - 3 ≤ max 1 g by omega), left_none (show hops R - 3 ≤ max 1 (g + 1) by omega)]

end Credit

/-! ## A ring between two hops -/

section Ring
variable (R : Bool) (c : Dev nD) (g : ℕ)

/-- The slots of the receiving device that `c` may send into. -/
def slotIf (h : ℕ) : sProp 𝕄 := if h < hops R then slotFree (F := F) R (dst R c) h else iprop(emp)
def destSt : sProp 𝕄 := bigSep (Finset.Ico g (max 3 (g + 1))) (slotIf (F := F) R c)
def destMid : sProp 𝕄 := bigSep (Finset.Ico (g + 1) (max 3 (g + 1))) (slotIf (F := F) R c)

theorem dest_pop : (destSt R c g : sProp 𝕄) = iprop(slotIf R c g ∗ destMid R c g) := by
  unfold destSt destMid; exact bigSep_Ico_succ_bot (by omega) _

theorem slotIf_split : (slotIf R c g : sProp 𝕄) ⊢ iprop((if g < hops R then slotL R 0 (dst R c) g else iprop(emp))
    ∗ (if g < hops R then slotL R 1 (dst R c) g else iprop(emp)) ∗ (if g < hops R then slotL R 2 (dst R c) g else iprop(emp))) := by
  unfold slotIf slotFree
  split
  · exact .rfl
  · iintro -
    isplitr; · iempintro
    isplitr; · iempintro
    iempintro

theorem hops_not : hops R ≤ hops (!R) + 1 ∧ hops (!R) ≤ hops R + 1 := by cases R <;> decide

theorem freed_not (d : Dev nD) (h : ℕ) : (freed (!R) d h : sProp 𝕄)
    = if 1 ≤ h ∧ h < hops (!R) ∧ h + 2 < hops R then slotFree R d (h + 2) else iprop(emp) := by
  cases R <;> rfl

theorem dest_push (hg : g ≤ 16) : iprop(destMid (F := F) R c g ∗ extra (F := F) (!R) 0 c g) ⊢ destSt (F := F) R c (g + 1) := by
  have h1 := hops_not R
  have h2 := hops_ge R
  have h3 := hops_ge (!R)
  unfold destMid destSt extra
  rw [src_not]
  rcases Nat.lt_or_ge g 2 with h | h
  · rw [show max 3 (g + 1) = max 3 (g + 1 + 1) by omega]
    iintro ⟨H, -⟩
    iexact H
  · rw [show max 3 (g + 1 + 1) = g + 1 + 1 by omega, show max 3 (g + 1) = g + 1 by omega, Finset.Ico_self, bigSep_empty, bigSep_Ico_one]
    unfold slotIf
    rw [if_pos (show (0 : Fin 3).val = 0 from rfl), freed_not, show g - 1 + 2 = g + 1 by omega]
    by_cases hh : g + 1 < hops R
    · rw [if_pos hh, if_pos (show 1 ≤ g ∧ g ≤ hops (!R) by omega), if_pos (by omega)]
      iintro ⟨-, H⟩
      iexact H
    · rw [if_neg hh]
      iintro -
      iempintro

/-- The slots that no further message takes. -/
def keptSt : sProp 𝕄 := bigSep (Finset.Ico (hops R - 3) (min g (hops R + 1))) (fun x => slotFree (F := F) R c (x + 3))

theorem done_split : iprop((doneL (F := F) R 0 c g ∗ doneL (F := F) R 1 c g ∗ doneL (F := F) R 2 c g) ∗ keptSt (F := F) R c g)
    ⊢ iprop(freed (F := F) (!R) c (g + 1) ∗ keptSt (F := F) R c (g + 1)) := by
  have h1 := hops_not R
  have h2 := hops_ge R
  have h3 := hops_ge (!R)
  unfold doneL keptSt
  rw [freed_not]
  by_cases hg : g ≤ hops R
  · simp only [if_pos hg]
    by_cases hf : g + 3 < hops R
    · rw [if_pos (show 1 ≤ g + 1 ∧ g + 1 < hops (!R) ∧ g + 1 + 2 < hops R by omega), Finset.Ico_eq_empty (by omega), Finset.Ico_eq_empty (by omega)]
      exact .rfl
    · rw [if_neg (show ¬(1 ≤ g + 1 ∧ g + 1 < hops (!R) ∧ g + 1 + 2 < hops R) by omega), show min (g + 1) (hops R + 1) = g + 1 by omega,
        show min g (hops R + 1) = g by omega, bigSep_Ico_succ_top (by omega)]
      unfold slotFree
      iintro ⟨H, H'⟩
      isplitr; · iempintro
      isplitl [H]; · iexact H
      iexact H'
  · simp only [if_neg hg]
    rw [if_neg (show ¬(1 ≤ g + 1 ∧ g + 1 < hops (!R) ∧ g + 1 + 2 < hops R) by omega), show min (g + 1) (hops R + 1) = min g (hops R + 1) by omega]
    iintro ⟨-, H⟩
    isplitr; · iempintro
    iexact H

/-- A lane before hop `g`. -/
def laneSt (l : Fin 3) : sProp 𝕄 :=
  iprop(recvIn kv R l c g ∗ win (hops R) g (posS (F := F) R l c) ∗ left (hops R) g (tokS (F := F) R l c))

/-- A ring before hop `g`. -/
def ringSt : sProp 𝕄 :=
  iprop(laneSt kv R c g 0 ∗ laneSt kv R c g 1 ∗ laneSt kv R c g 2 ∗ destSt (F := F) R c g ∗ freed (F := F) (!R) c g ∗ keptSt (F := F) R c g
    ∗ crIn (F := F) R c g ∗ crToks (F := F) R c g)

/-- A lane within hop `g`, its message arrived and sent on. -/
def laneMid (l : Fin 3) : sProp 𝕄 :=
  iprop(win (hops R) g (posR (F := F) R l c) ∗ left (hops R) g (credR (F := F) R l c) ∗ left (hops R) (g + 1) (tokS (F := F) R l c))

theorem lane_next (l : Fin 3) : iprop(laneMid (F := F) R c g l ∗ win (hops R) (g + 1) (posS (F := F) R l c)) ⊢ laneSt kv R c (g + 1) l := by
  unfold laneMid laneSt recvIn
  rw [if_neg (by omega), Nat.add_sub_cancel]
  iintro ⟨⟨H1, H2, H3⟩, H4⟩
  isplitr [H3 H4]
  · isplitl [H1]; · iexact H1
    isplitl [H2]; · iexact H2
    iempintro
  isplitl [H4]; · iexact H4
  iexact H3

end Ring

end Cert.RingAttn

end
-- ==== Proof.Acc.lean ====
module

public import proofs.«01_k».proof.Proof.Lane

/-! # The accumulation of one hop: eight turns, one per batch entry and head -/

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

variable (kv : Dev nD → KV F)

/-- A function of the body's memrefs and semaphores, at those of the launch. -/
abbrev atArgs {α : Sort _} (f : ∀ (arg0 : Memref sig .tc .vmem S2x256x512 .f32) (harg0 : arg0.IsWhole),
    ∀ (arg1 : Memref sig .tc .vmem S512x256 .f32) (harg1 : arg1.IsWhole),
    ∀ (arg2 : Memref sig .tc .vmem S2x256x4x64 .f32) (harg2 : arg2.IsWhole),
    ∀ (arg3 : Memref sig .tc .vmem S2x256x4x64 .f32) (harg3 : arg3.IsWhole),
    ∀ (arg4 : Memref sig .tc .vmem S256x512 .f32) (harg4 : arg4.IsWhole),
    ∀ (arg5 : Memref sig .tc .vmem S2x256x512 .f32) (harg5 : arg5.IsWhole),
    ∀ (arg6 : Memref sig .tc .vmem S2x4x256x64 .bf16) (harg6 : arg6.IsWhole),
    ∀ (arg7 : Memref sig .tc .vmem S2x4x256x64 .f32) (harg7 : arg7.IsWhole),
    ∀ (arg8 : Memref sig .tc .vmem S2x4x256x1 .f32) (harg8 : arg8.IsWhole),
    ∀ (arg9 : Memref sig .tc .vmem S4x2x256x256 .fp8e4m3) (harg9 : arg9.IsWhole),
    ∀ (arg10 : Memref sig .tc .vmem S4x2x256x256 .bf16) (harg10 : arg10.IsWhole),
    ∀ (arg11 : Memref sig .tc .vmem S4x2x256x256 .fp8e4m3) (harg11 : arg11.IsWhole),
    ∀ (arg12 : Memref sig .tc .vmem S4x2x256x256 .bf16) (harg12 : arg12.IsWhole),
    ∀ (arg13 : DmaSems sig S4),
    ∀ (arg14 : DmaSems sig S4),
    ∀ (arg15 : DmaSems sig S4x2),
    ∀ (arg16 : DmaSems sig S4x2),
    ∀ (arg17 : DmaSems sig S4),
    ∀ (arg18 : DmaSems sig S4),
    ∀ (arg19 : DmaSems sig S4x2),
    ∀ (arg20 : DmaSems sig S4x2),
    ∀ (arg21 : Sems sig S_),
    ∀ (arg22 : Sems sig S_), α) : α :=
  f (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16

/-! ## The values -/

abbrev VQ (F : FTy → Type) [FloatOps F] := Vec F S1x1x256x64 .bf16
abbrev VA (F : FTy → Type) [FloatOps F] := Vec F S1x1x256x64 .f32
abbrev VL (F : FTy → Type) [FloatOps F] := Vec F S1x1x256x1 .f32

theorem slices_head (b : Fin 2) (h : Fin 4) : S2x256x256.Slices ![b.val, 0, 64 * h.val] S1x256x64 := by revert b h; decide

/-- The weights of one batch entry and head: the exponentials of its scores. -/
def headP (bias : FVec F S256x256 .f32) (k : FVec F S2x256x256 .bf16) (b : Fin 2) (h : Fin 4) (q : VQ F) : FVec F S256x256 .f32 :=
  exp (addf (matmul dot_S256x64_S256x64_S256x256_1_1_0_0_n_n none (shapeCast S256x64 q shapeCasts_S1x1x256x64_S256x64)
    (shapeCast S256x64 (extractStridedSlice S1x256x64 ![b.val, 0, 64 * h.val] k (slices_head b h)) shapeCasts_S1x256x64_S256x64)
    (constant S256x256 .f32 0x00000000#32)) bias)

/-- The sum of the weights, after a hop with weights `p`. -/
def headL (p : FVec F S256x256 .f32) (l : VL F) : VL F :=
  shapeCast S1x1x256x1 (addf (shapeCast S256x1 l shapeCasts_S1x1x256x1_S256x1)
    (shapeCast S256x1 (multiReduction .add [1] S256 p 0x00000000#32 reduces_S256x256_S256 (.inl rfl) rfl) shapeCasts_S256_S256x1))
    shapeCasts_S256x1_S1x1x256x1

/-- The weighted sum of the values, after a hop with weights `p` and values `v`. -/
def headA (p : FVec F S256x256 .f32) (v : Vec F S1x256x64 .bf16) (a : VA F) : VA F :=
  shapeCast S1x1x256x64 (addf (shapeCast S256x64 a shapeCasts_S1x1x256x64_S256x64)
    (matmul dot_S256x256_S256x64_S256x64_1_0_0_1_n_n none (truncf .bf16 p bitsLt_bf16_f32) (shapeCast S256x64 v shapeCasts_S1x256x64_S256x64)
      (constant S256x64 .f32 0x00000000#32))) shapeCasts_S256x64_S1x1x256x64

/-! ## The program of a hop's accumulation -/

theorem blk64_inb (b : Fin 2) (h : Fin 4) : ∀ a, (![b.val, h.val, 0, 0] : Fin 4 → ℕ) a + S1x1x256x64.size a ≤ S2x4x256x64.size a := by
  revert b h; decide
theorem blk1_inb (b : Fin 2) (h : Fin 4) : ∀ a, (![b.val, h.val, 0, 0] : Fin 4 → ℕ) a + S1x1x256x1.size a ≤ S2x4x256x1.size a := by
  revert b h; decide
theorem vcol_inb (b : Fin 2) (h : Fin 4) : ∀ a, (![b.val, 0, 64 * h.val] : Fin 3 → ℕ) a + S1x256x64.size a ≤ S2x256x256.size a := by
  revert b h; decide

/-- The block of batch entry `b` and head `h`. -/
abbrev blk64 (b : Fin 2) (h : Fin 4) : Rect S2x4x256x64 := Rect.unit (s := S2x4x256x64) ![b.val, h.val, 0, 0] S1x1x256x64.size (blk64_inb b h)
abbrev blk1 (b : Fin 2) (h : Fin 4) : Rect S2x4x256x1 := Rect.unit (s := S2x4x256x1) ![b.val, h.val, 0, 0] S1x1x256x1.size (blk1_inb b h)
abbrev vcol (b : Fin 2) (h : Fin 4) : Rect S2x256x256 := Rect.unit (s := S2x256x256) ![b.val, 0, 64 * h.val] S1x256x64.size (vcol_inb b h)

abbrev qM : Memref sig .tc .vmem S2x4x256x64 .bf16 := Memref.whole cc0_scratch0
abbrev aM : Memref sig .tc .vmem S2x4x256x64 .f32 := Memref.whole cc0_scratch1
abbrev lM : Memref sig .tc .vmem S2x4x256x1 .f32 := Memref.whole cc0_scratch2

/-- The turn of batch entry `b` and head `h`, the values in the slot `sv`. -/
def turn (sv : Memref sig .tc .vmem S2x256x256 .bf16) (bias : FVec F S256x256 .f32) (k : FVec F S2x256x256 .bf16) (b : Fin 2) (h : Fin 4) :
    Prog (TpuEff nD τ sig (Elt F) Λ₀ .tc) PUnit := do
  let q : VQ F ← Prog.lift (.load qM (blk64 b h).toLoadRect (View.loadsAt_vmem h_S1x1x256x64))
  let v : Vec F S1x256x64 .bf16 ← Prog.lift (.load sv (vcol b h).toLoadRect (View.loadsAt_vmem h_S1x256x64))
  let l : VL F ← Prog.lift (.load lM (blk1 b h).toLoadRect (View.loadsAt_vmem h_S1x1x256x1))
  let _ : VL F ← Prog.lift (.load lM (blk1 b h).toLoadRect (View.loadsAt_vmem h_S1x1x256x1))
  Prog.lift (.store lM (blk1 b h) (headL (headP bias k b h q) l) Finset.univ (View.stores_vmem_bits_univ h_S1x1x256x1 rfl) (.inl rfl))
  let a : VA F ← Prog.lift (.load aM (blk64 b h).toLoadRect (View.loadsAt_vmem h_S1x1x256x64))
  let _ : VA F ← Prog.lift (.load aM (blk64 b h).toLoadRect (View.loadsAt_vmem h_S1x1x256x64))
  Prog.lift (.store aM (blk64 b h) (headA (headP bias k b h q) v a) Finset.univ (View.stores_vmem_bits_univ h_S1x1x256x64 rfl) (.inl rfl))

/-- A slot's slice of the values' buffer, as a matrix per batch entry. -/
abbrev vSl (m : Memref sig .tc .vmem S4x2x256x256 .bf16) (off : Fin 4 → ℕ) (inb : ∀ a, off a + S1x2x256x256.size a ≤ S4x2x256x256.size a) :
    Memref sig .tc .vmem S2x256x256 .bf16 :=
  (m.slice (Rect.unit (s := S4x2x256x256) off S1x2x256x256.size inb) (fun _ => rfl)).squeeze S2x256x256 squeezes_S1x2x256x256_S2x256x256

/-- The eight turns on the slot `off` of the buffers `mk`, `mv`. -/
def turns (mk : Memref sig .tc .vmem S4x2x256x256 .fp8e4m3) (mv : Memref sig .tc .vmem S4x2x256x256 .bf16) (off off' : Fin 4 → ℕ)
    (inb : ∀ a, off a + S1x2x256x256.size a ≤ S4x2x256x256.size a) (inb' : ∀ a, off' a + S1x2x256x256.size a ≤ S4x2x256x256.size a)
    (bias : FVec F S256x256 .f32) : Prog (TpuEff nD τ sig (Elt F) Λ₀ .tc) PUnit := do
  let k : Vec F S1x2x256x256 .fp8e4m3 ← Prog.lift (.load mk (Rect.unit (s := S4x2x256x256) off S1x2x256x256.size inb).toLoadRect (View.loadsAt_vmem h_S1x2x256x256))
  turn (vSl mv off' inb') bias (k0_pay3 k) 0 0
  turn (vSl mv off' inb') bias (k0_pay3 k) 0 1
  turn (vSl mv off' inb') bias (k0_pay3 k) 0 2
  turn (vSl mv off' inb') bias (k0_pay3 k) 0 3
  turn (vSl mv off' inb') bias (k0_pay3 k) 1 0
  turn (vSl mv off' inb') bias (k0_pay3 k) 1 1
  turn (vSl mv off' inb') bias (k0_pay3 k) 1 2
  turn (vSl mv off' inb') bias (k0_pay3 k) 1 3

/-- The right ring's accumulation at hop `t`, as printed, and then `k`; -/
def accR {α : Type} (v2 : BitVec 32) (rows cols : IVec S256x256 32) (k0_t1 : Fin k0_t1_loop.trips) (arg23 v267 : BitVec 32) (k0_h15 : k0_cond15 k0_t1 = 1#1)
    (k : Prog (TpuEff nD τ sig (Elt F) Λ₀ .tc) α) : Prog (TpuEff nD τ sig (Elt F) Λ₀ .tc) α := do
    let ⟨v360, v364, v372, v375⟩ ← atArgs (k0_part1 (F := F)) v2 rows cols k0_t1 arg23 v267 k0_h15
    let ⟨v399, v402, v404⟩ ← atArgs (k0_part2 (F := F)) k0_t1 k0_h15 v360 v364 v372 v375
    let ⟨v426, v429, v431, v432⟩ ← atArgs (k0_part3 (F := F)) k0_t1 k0_h15 v360 v364 v399 v402 v404
    let ⟨v453, v456, v461⟩ ← atArgs (k0_part4 (F := F)) k0_t1 k0_h15 v360 v364 v426 v429 v431 v432
    let ⟨v480, v483, v488⟩ ← atArgs (k0_part5 (F := F)) k0_t1 k0_h15 v360 v364 v453 v456 v461
    let ⟨v507, v510, v515⟩ ← atArgs (k0_part6 (F := F)) k0_t1 k0_h15 v360 v364 v480 v483 v488
    let ⟨v534, v537, v542⟩ ← atArgs (k0_part7 (F := F)) k0_t1 k0_h15 v360 v364 v507 v510 v515
    let ⟨v561, v564⟩ ← atArgs (k0_part8 (F := F)) k0_t1 k0_h15 v360 v364 v534 v537 v542
    let v575 : Vec F S1x1x256x64 .f32 ← Prog.lift (.load (Memref.whole cc0_scratch1) (Rect.unit (s := S2x4x256x64) ![1, 3, 0, 0] S1x1x256x64.size inb_S2x4x256x64_S1x1x256x64_1_3_0_0).toLoadRect (View.loadsAt_vmem h_S1x1x256x64))
    let v578 : Vec F S1x1x256x64 .f32 ← Prog.lift (.load (Memref.whole cc0_scratch1) (Rect.unit (s := S2x4x256x64) ![1, 3, 0, 0] S1x1x256x64.size inb_S2x4x256x64_S1x1x256x64_1_3_0_0).toLoadRect (View.loadsAt_vmem h_S1x1x256x64))
    Prog.lift (.store (Memref.whole cc0_scratch1) (Rect.unit (s := S2x4x256x64) ![1, 3, 0, 0] S1x1x256x64.size inb_S2x4x256x64_S1x1x256x64_1_3_0_0) (k0_pay105 v561 v564 v575) Finset.univ (View.stores_vmem_bits_univ h_S1x1x256x64 rfl) (.inl rfl))
    k
/-- the left ring's. -/
def accL {α : Type} (v2 : BitVec 32) (rows cols : IVec S256x256 32) (k0_t1 : Fin k0_t1_loop.trips) (arg23 v267 : BitVec 32) (k0_h16 : k0_cond16 k0_t1 = 1#1)
    (k : Prog (TpuEff nD τ sig (Elt F) Λ₀ .tc) α) : Prog (TpuEff nD τ sig (Elt F) Λ₀ .tc) α := do
    let ⟨v359, v363, v371, v374, v376⟩ ← atArgs (k0_part9 (F := F)) v2 rows cols k0_t1 arg23 v267 k0_h16
    let ⟨v398, v401, v403, v404⟩ ← atArgs (k0_part10 (F := F)) k0_t1 k0_h16 v359 v363 v371 v374 v376
    let ⟨v425, v428, v433⟩ ← atArgs (k0_part11 (F := F)) k0_t1 k0_h16 v359 v363 v398 v401 v403 v404
    let ⟨v452, v455, v460⟩ ← atArgs (k0_part12 (F := F)) k0_t1 k0_h16 v359 v363 v425 v428 v433
    let ⟨v479, v482, v487⟩ ← atArgs (k0_part13 (F := F)) k0_t1 k0_h16 v359 v363 v452 v455 v460
    let ⟨v506, v509, v514⟩ ← atArgs (k0_part14 (F := F)) k0_t1 k0_h16 v359 v363 v479 v482 v487
    let ⟨v533, v536⟩ ← atArgs (k0_part15 (F := F)) k0_t1 k0_h16 v359 v363 v506 v509 v514
    let ⟨v560, v572, cst_512⟩ ← atArgs (k0_part16 (F := F)) k0_t1 k0_h16 v359 v363 v533 v536
    let v574 : Vec F S1x1x256x64 .f32 ← Prog.lift (.load (Memref.whole cc0_scratch1) (Rect.unit (s := S2x4x256x64) ![1, 3, 0, 0] S1x1x256x64.size inb_S2x4x256x64_S1x1x256x64_1_3_0_0).toLoadRect (View.loadsAt_vmem h_S1x1x256x64))
    let v577 : Vec F S1x1x256x64 .f32 ← Prog.lift (.load (Memref.whole cc0_scratch1) (Rect.unit (s := S2x4x256x64) ![1, 3, 0, 0] S1x1x256x64.size inb_S2x4x256x64_S1x1x256x64_1_3_0_0).toLoadRect (View.loadsAt_vmem h_S1x1x256x64))
    Prog.lift (.store (Memref.whole cc0_scratch1) (Rect.unit (s := S2x4x256x64) ![1, 3, 0, 0] S1x1x256x64.size inb_S2x4x256x64_S1x1x256x64_1_3_0_0) (k0_pay106 v560 v572 cst_512 v574) Finset.univ (View.stores_vmem_bits_univ h_S1x1x256x64 rfl) (.inl rfl))
    k

theorem accR_eq {α : Type} (v2 : BitVec 32) (rows cols : IVec S256x256 32) (t : Fin k0_t1_loop.trips) (arg23 v267 : BitVec 32) (h : k0_cond15 t = 1#1)
    (k : Prog (TpuEff nD τ sig (Elt F) Λ₀ .tc) α) :
    accR (F := F) v2 rows cols t arg23 v267 h k = (turns (Memref.whole cc0_scratch3) (Memref.whole cc0_scratch4) (k0_off37 t) (k0_off38 t)
      (k0_off37_inb t h) (k0_off38_inb t h) (k0_pay2 (F := F) v2 rows cols arg23) >>= fun _ => k) := by
  unfold accR
  simp only [k0_part1_eq_skeleton, k0_part2_eq_skeleton, k0_part3_eq_skeleton, k0_part4_eq_skeleton, k0_part5_eq_skeleton, k0_part6_eq_skeleton, k0_part7_eq_skeleton, k0_part8_eq_skeleton]
  rfl
theorem accL_eq {α : Type} (v2 : BitVec 32) (rows cols : IVec S256x256 32) (t : Fin k0_t1_loop.trips) (arg23 v267 : BitVec 32) (h : k0_cond16 t = 1#1)
    (k : Prog (TpuEff nD τ sig (Elt F) Λ₀ .tc) α) :
    accL (F := F) v2 rows cols t arg23 v267 h k = (turns (Memref.whole cc0_scratch5) (Memref.whole cc0_scratch6) (k0_off39 t) (k0_off40 t)
      (k0_off39_inb t h) (k0_off40_inb t h) (k0_pay42 (F := F) v2 rows cols arg23) >>= fun _ => k) := by
  unfold accL
  simp only [k0_part9_eq_skeleton, k0_part10_eq_skeleton, k0_part11_eq_skeleton, k0_part12_eq_skeleton, k0_part13_eq_skeleton, k0_part14_eq_skeleton, k0_part15_eq_skeleton, k0_part16_eq_skeleton]
  rfl

end Cert.RingAttn

end
-- ==== Proof.Turn.lean ====
/-
The accumulation's rules: a turn reads one block of the queries, one slot's values, and adds to one block of the sums;
a whole hop's turns add to all of them.
-/
module

public import proofs.«01_k».proof.Proof.Acc

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

variable (kv : Dev nD → KV F)

/-! ## Buffers by blocks -/

/-- An index within its block. -/
def in64 (i : S2x4x256x64.Idx) : S1x1x256x64.Idx := fun a => match a with
  | ⟨0, _⟩ => ⟨0, Nat.one_pos⟩ | ⟨1, _⟩ => ⟨0, Nat.one_pos⟩ | ⟨2, _⟩ => i 2 | ⟨3, _⟩ => i 3
def in1 (i : S2x4x256x1.Idx) : S1x1x256x1.Idx := fun a => match a with
  | ⟨0, _⟩ => ⟨0, Nat.one_pos⟩ | ⟨1, _⟩ => ⟨0, Nat.one_pos⟩ | ⟨2, _⟩ => i 2 | ⟨3, _⟩ => i 3

/-- A buffer from its blocks. -/
def buf64 {α : Type} (A : Fin 2 → Fin 4 → S1x1x256x64.Idx → α) : S2x4x256x64.Idx → α := fun i => A (i 0) (i 1) (in64 i)
def buf1 {α : Type} (A : Fin 2 → Fin 4 → S1x1x256x1.Idx → α) : S2x4x256x1.Idx → α := fun i => A (i 0) (i 1) (in1 i)

/-- One block replaced. -/
def upd {β : Type} (A : Fin 2 → Fin 4 → β) (b : Fin 2) (h : Fin 4) (w : β) : Fin 2 → Fin 4 → β := fun b' h' => if b' = b ∧ h' = h then w else A b' h'

theorem in64_emb (b : Fin 2) (h : Fin 4) (j : S1x1x256x64.Idx) : in64 ((blk64 b h).emb j) = j := by
  funext a
  apply Fin.ext
  have h0 := (j 0).isLt; have h1 := (j 1).isLt
  match a with
  | ⟨0, _⟩ => simp at h0; simp [in64, h0]
  | ⟨1, _⟩ => simp at h1; simp [in64, h1]
  | ⟨2, _⟩ => simp [in64, Rect.emb_apply]
  | ⟨3, _⟩ => simp [in64, Rect.emb_apply]
theorem in1_emb (b : Fin 2) (h : Fin 4) (j : S1x1x256x1.Idx) : in1 ((blk1 b h).emb j) = j := by
  funext a
  apply Fin.ext
  have h0 := (j 0).isLt; have h1 := (j 1).isLt
  match a with
  | ⟨0, _⟩ => simp at h0; simp [in1, h0]
  | ⟨1, _⟩ => simp at h1; simp [in1, h1]
  | ⟨2, _⟩ => simp [in1, Rect.emb_apply]
  | ⟨3, _⟩ => simp [in1, Rect.emb_apply]

theorem emb64_fst (b : Fin 2) (h : Fin 4) (j : S1x1x256x64.Idx) : ((blk64 b h).emb j 0 : Fin 2) = b ∧ ((blk64 b h).emb j 1 : Fin 4) = h := by
  have h0 := (j 0).isLt; have h1 := (j 1).isLt
  simp at h0 h1
  exact ⟨Fin.ext (by rw [Rect.emb_apply]; simp [h0]), Fin.ext (by rw [Rect.emb_apply]; simp [h1])⟩
theorem emb1_fst (b : Fin 2) (h : Fin 4) (j : S1x1x256x1.Idx) : ((blk1 b h).emb j 0 : Fin 2) = b ∧ ((blk1 b h).emb j 1 : Fin 4) = h := by
  have h0 := (j 0).isLt; have h1 := (j 1).isLt
  simp at h0 h1
  exact ⟨Fin.ext (by rw [Rect.emb_apply]; simp [h0]), Fin.ext (by rw [Rect.emb_apply]; simp [h1])⟩

theorem buf64_emb {α : Type} (A : Fin 2 → Fin 4 → S1x1x256x64.Idx → α) (b h j) : buf64 A ((blk64 b h).emb j) = A b h j := by
  unfold buf64
  rw [in64_emb, (emb64_fst b h j).1, (emb64_fst b h j).2]
theorem buf1_emb {α : Type} (A : Fin 2 → Fin 4 → S1x1x256x1.Idx → α) (b h j) : buf1 A ((blk1 b h).emb j) = A b h j := by
  unfold buf1
  rw [in1_emb, (emb1_fst b h j).1, (emb1_fst b h j).2]

theorem mem_blk64 (b : Fin 2) (h : Fin 4) (i : S2x4x256x64.Idx) (h0 : (i 0 : Fin 2) = b) (h1 : (i 1 : Fin 4) = h) : i ∈ (blk64 b h).set := by
  subst h0 h1
  rw [Rect.mem_set_unit]
  intro a
  have h2 := (i 2).isLt; have h3 := (i 3).isLt
  match a with
  | ⟨0, _⟩ => exact ⟨le_refl _, by simp⟩
  | ⟨1, _⟩ => exact ⟨le_refl _, by simp⟩
  | ⟨2, _⟩ => exact ⟨Nat.zero_le _, by simpa using h2⟩
  | ⟨3, _⟩ => exact ⟨Nat.zero_le _, by simpa using h3⟩
theorem mem_blk1 (b : Fin 2) (h : Fin 4) (i : S2x4x256x1.Idx) (h0 : (i 0 : Fin 2) = b) (h1 : (i 1 : Fin 4) = h) : i ∈ (blk1 b h).set := by
  subst h0 h1
  rw [Rect.mem_set_unit]
  intro a
  have h2 := (i 2).isLt; have h3 := (i 3).isLt
  match a with
  | ⟨0, _⟩ => exact ⟨le_refl _, by simp⟩
  | ⟨1, _⟩ => exact ⟨le_refl _, by simp⟩
  | ⟨2, _⟩ => exact ⟨Nat.zero_le _, by simpa using h2⟩
  | ⟨3, _⟩ => exact ⟨Nat.zero_le _, by simpa using h3⟩

/-! ## Reading and writing a block -/

/-- The queries, the weighted sums and the sums of weights on `c`, by blocks. -/
def qPts (c : Dev nD) (Q : Fin 2 → Fin 4 → VQ F) : sProp 𝕄 := ((c : Thread nD τ).loc cc0_scratch0) ↦{fullShare} buf64 Q
def aPts (c : Dev nD) (A : Fin 2 → Fin 4 → VA F) : sProp 𝕄 := ((c : Thread nD τ).loc cc0_scratch1) ↦{fullShare} buf64 A
def lPts (c : Dev nD) (L : Fin 2 → Fin 4 → VL F) : sProp 𝕄 := ((c : Thread nD τ).loc cc0_scratch2) ↦{fullShare} buf1 L

variable (c : Dev nD) {α : Type}

local notation "wpc" => wp frame (wpE (defs₀ (F := F)) 𝒱₀ (c : Thread nD τ) none) Set.univ

theorem wp_ldQ (A : Fin 2 → Fin 4 → VQ F) (b : Fin 2) (h : Fin 4) {hl} {k : VQ F → Prog (TpuEff nD τ sig (Elt F) Λ₀ .tc) α} {Q : α → sProp 𝕄} :
    qPts c A ⊢ iprop((qPts c A -∗ wpc (k (A b h)) Q) -∗ wpc (.op (.load qM (blk64 b h).toLoadRect hl) k) Q) := by
  have H := wp_load (Γ := .empty) (defs := defs₀ (F := F)) 𝒱₀ (c : Thread nD τ) none Set.univ (m := qM) (r := (blk64 b h).toLoadRect) (hl := hl) (k := k) (Q := Q)
    (S := Finset.univ) (q := fullShare) (f := buf64 A) (Finset.subset_univ _)
  rw [show qM.view.readAt (Elt F) (blk64 b h).toLoadRect (buf64 A) = A b h from funext fun j => buf64_emb A b h j] at H
  exact H
theorem wp_ldA (A : Fin 2 → Fin 4 → VA F) (b : Fin 2) (h : Fin 4) {hl} {k : VA F → Prog (TpuEff nD τ sig (Elt F) Λ₀ .tc) α} {Q : α → sProp 𝕄} :
    aPts c A ⊢ iprop((aPts c A -∗ wpc (k (A b h)) Q) -∗ wpc (.op (.load aM (blk64 b h).toLoadRect hl) k) Q) := by
  have H := wp_load (Γ := .empty) (defs := defs₀ (F := F)) 𝒱₀ (c : Thread nD τ) none Set.univ (m := aM) (r := (blk64 b h).toLoadRect) (hl := hl) (k := k) (Q := Q)
    (S := Finset.univ) (q := fullShare) (f := buf64 A) (Finset.subset_univ _)
  rw [show aM.view.readAt (Elt F) (blk64 b h).toLoadRect (buf64 A) = A b h from funext fun j => buf64_emb A b h j] at H
  exact H
theorem wp_ldL (A : Fin 2 → Fin 4 → VL F) (b : Fin 2) (h : Fin 4) {hl} {k : VL F → Prog (TpuEff nD τ sig (Elt F) Λ₀ .tc) α} {Q : α → sProp 𝕄} :
    lPts c A ⊢ iprop((lPts c A -∗ wpc (k (A b h)) Q) -∗ wpc (.op (.load lM (blk1 b h).toLoadRect hl) k) Q) := by
  have H := wp_load (Γ := .empty) (defs := defs₀ (F := F)) 𝒱₀ (c : Thread nD τ) none Set.univ (m := lM) (r := (blk1 b h).toLoadRect) (hl := hl) (k := k) (Q := Q)
    (S := Finset.univ) (q := fullShare) (f := buf1 A) (Finset.subset_univ _)
  rw [show lM.view.readAt (Elt F) (blk1 b h).toLoadRect (buf1 A) = A b h from funext fun j => buf1_emb A b h j] at H
  exact H

theorem upd_self {β : Type} (A : Fin 2 → Fin 4 → β) (b h w) : upd A b h w b h = w := if_pos ⟨rfl, rfl⟩
theorem upd_of_ne {β : Type} (A : Fin 2 → Fin 4 → β) (b h w) {b' h'} (hn : ¬(b' = b ∧ h' = h)) : upd A b h w b' h' = A b' h' := if_neg hn

theorem write_a (A : Fin 2 → Fin 4 → VA F) (b : Fin 2) (h : Fin 4) (w : VA F) :
    (aM.access (blk64 b h)).write (Elt F) (buf64 A) w Finset.univ = buf64 (upd A b h w) := by
  funext i
  by_cases hi : (i 0 : Fin 2) = b ∧ (i 1 : Fin 4) = h
  · obtain ⟨j, rfl⟩ := (blk64 b h).exists_idx_of_mem (mem_blk64 b h i hi.1 hi.2)
    change _ = buf64 _ ((blk64 b h).emb j)
    refine (View.write_emb_of_mem (v := aM.access (blk64 b h)) _ _ (Finset.mem_univ j)).trans ?_
    rw [buf64_emb, upd_self]; rfl
  · refine (View.write_of_not_mem (v := aM.access (blk64 b h)) _ _ _ fun hm => hi ?_).trans ?_
    · rw [View.setOn_univ, View.set_slice_whole] at hm
      obtain ⟨j, rfl⟩ := (blk64 b h).exists_idx_of_mem hm
      exact emb64_fst b h j
    · unfold buf64; rw [upd_of_ne A b h w hi]
theorem write_l (A : Fin 2 → Fin 4 → VL F) (b : Fin 2) (h : Fin 4) (w : VL F) :
    (lM.access (blk1 b h)).write (Elt F) (buf1 A) w Finset.univ = buf1 (upd A b h w) := by
  funext i
  by_cases hi : (i 0 : Fin 2) = b ∧ (i 1 : Fin 4) = h
  · obtain ⟨j, rfl⟩ := (blk1 b h).exists_idx_of_mem (mem_blk1 b h i hi.1 hi.2)
    change _ = buf1 _ ((blk1 b h).emb j)
    refine (View.write_emb_of_mem (v := lM.access (blk1 b h)) _ _ (Finset.mem_univ j)).trans ?_
    rw [buf1_emb, upd_self]; rfl
  · refine (View.write_of_not_mem (v := lM.access (blk1 b h)) _ _ _ fun hm => hi ?_).trans ?_
    · rw [View.setOn_univ, View.set_slice_whole] at hm
      obtain ⟨j, rfl⟩ := (blk1 b h).exists_idx_of_mem hm
      exact emb1_fst b h j
    · unfold buf1; rw [upd_of_ne A b h w hi]
theorem write_q (A : Fin 2 → Fin 4 → VQ F) (b : Fin 2) (h : Fin 4) (w : VQ F) :
    (qM.access (blk64 b h)).write (Elt F) (buf64 A) w Finset.univ = buf64 (upd A b h w) := by
  funext i
  by_cases hi : (i 0 : Fin 2) = b ∧ (i 1 : Fin 4) = h
  · obtain ⟨j, rfl⟩ := (blk64 b h).exists_idx_of_mem (mem_blk64 b h i hi.1 hi.2)
    change _ = buf64 _ ((blk64 b h).emb j)
    refine (View.write_emb_of_mem (v := qM.access (blk64 b h)) _ _ (Finset.mem_univ j)).trans ?_
    rw [buf64_emb, upd_self]; rfl
  · refine (View.write_of_not_mem (v := qM.access (blk64 b h)) _ _ _ fun hm => hi ?_).trans ?_
    · rw [View.setOn_univ, View.set_slice_whole] at hm
      obtain ⟨j, rfl⟩ := (blk64 b h).exists_idx_of_mem hm
      exact emb64_fst b h j
    · unfold buf64; rw [upd_of_ne A b h w hi]

theorem wp_stA (A : Fin 2 → Fin 4 → VA F) (b : Fin 2) (h : Fin 4) (w : VA F) {hx hm} {k : PUnit → Prog (TpuEff nD τ sig (Elt F) Λ₀ .tc) α} {Q : α → sProp 𝕄} :
    aPts c A ⊢ iprop((aPts c (upd A b h w) -∗ wpc (k ⟨⟩) Q) -∗ wpc (.op (.store aM (blk64 b h) w Finset.univ hx hm) k) Q) := by
  have H := wp_store (Γ := .empty) (defs := defs₀ (F := F)) 𝒱₀ (c : Thread nD τ) none Set.univ (m := aM) (r := blk64 b h) (w := w) (Mk := Finset.univ) (hx := hx) (hm := hm) (k := k) (Q := Q)
    (S := Finset.univ) (f := buf64 A) (Finset.subset_univ _)
  rw [write_a] at H
  exact H
theorem wp_stL (A : Fin 2 → Fin 4 → VL F) (b : Fin 2) (h : Fin 4) (w : VL F) {hx hm} {k : PUnit → Prog (TpuEff nD τ sig (Elt F) Λ₀ .tc) α} {Q : α → sProp 𝕄} :
    lPts c A ⊢ iprop((lPts c (upd A b h w) -∗ wpc (k ⟨⟩) Q) -∗ wpc (.op (.store lM (blk1 b h) w Finset.univ hx hm) k) Q) := by
  have H := wp_store (Γ := .empty) (defs := defs₀ (F := F)) 𝒱₀ (c : Thread nD τ) none Set.univ (m := lM) (r := blk1 b h) (w := w) (Mk := Finset.univ) (hx := hx) (hm := hm) (k := k) (Q := Q)
    (S := Finset.univ) (f := buf1 A) (Finset.subset_univ _)
  rw [write_l] at H
  exact H
theorem wp_stQ (A : Fin 2 → Fin 4 → VQ F) (b : Fin 2) (h : Fin 4) (w : VQ F) {hx hm} {k : PUnit → Prog (TpuEff nD τ sig (Elt F) Λ₀ .tc) α} {Q : α → sProp 𝕄} :
    qPts c A ⊢ iprop((qPts c (upd A b h w) -∗ wpc (k ⟨⟩) Q) -∗ wpc (.op (.store qM (blk64 b h) w Finset.univ hx hm) k) Q) := by
  have H := wp_store (Γ := .empty) (defs := defs₀ (F := F)) 𝒱₀ (c : Thread nD τ) none Set.univ (m := qM) (r := blk64 b h) (w := w) (Mk := Finset.univ) (hx := hx) (hm := hm) (k := k) (Q := Q)
    (S := Finset.univ) (f := buf64 A) (Finset.subset_univ _)
  rw [write_q] at H
  exact H

/-! ## Reading a slot -/

/-- The columns of head `h` of batch entry `b` of a slot's values. -/
def vBlk (x : Vec F S1x2x256x256 .bf16) (b : Fin 2) (h : Fin 4) : Vec F S1x256x64 .bf16 := fun j => x (Fin.cons ⟨0, Nat.one_pos⟩ ((vcol b h).emb j))

theorem slotIx_emb (s : Fin 4) {off : Fin 4 → ℕ} (inb) (ho : off = ![s.val, 0, 0, 0]) (j : S1x2x256x256.Idx) :
    slotIx ((Rect.unit (s := S4x2x256x256) off S1x2x256x256.size inb).emb j) = j := by
  subst ho
  funext a
  apply Fin.ext
  have h0 := (j 0).isLt
  match a with
  | ⟨0, _⟩ => simp at h0; simp [slotIx, h0]
  | ⟨1, _⟩ => simp [slotIx, Rect.emb_apply]
  | ⟨2, _⟩ => simp [slotIx, Rect.emb_apply]
  | ⟨3, _⟩ => simp [slotIx, Rect.emb_apply]

theorem vread_eq (x : Vec F S1x2x256x256 .bf16) (s : Fin 4) (b : Fin 2) (h : Fin 4) {off : Fin 4 → ℕ} (inb) (ho : off = ![s.val, 0, 0, 0]) :
    (fun j => slotBuf x ((Rect.unit (s := S4x2x256x256) off S1x2x256x256.size inb).emb
      (Shape.reshapeEquiv squeezes_S1x2x256x256_S2x256x256.numel_eq ((vcol b h).emb j)))) = vBlk x b h := by
  funext j
  unfold slotBuf vBlk
  rw [slotIx_emb s inb ho]
  exact congrArg x (Shape.reshapeEquiv_cons_one _ _)

theorem vread_mem (s : Fin 4) (b : Fin 2) (h : Fin 4) {off : Fin 4 → ℕ} (inb) (ho : off = ![s.val, 0, 0, 0]) (j : S1x256x64.Idx) :
    (Rect.unit (s := S4x2x256x256) off S1x2x256x256.size inb).emb
      (Shape.reshapeEquiv squeezes_S1x2x256x256_S2x256x256.numel_eq ((vcol b h).emb j)) ∈ regSet b.succ s := by
  rw [show Shape.reshapeEquiv squeezes_S1x2x256x256_S2x256x256.numel_eq ((vcol b h).emb j)
    = (Fin.cons ⟨0, Nat.one_pos⟩ ((vcol b h).emb j) : S1x2x256x256.Idx) from Shape.reshapeEquiv_cons_one _ _]
  subst ho
  have h0 := (j 0).isLt
  simp at h0
  simp only [regSet, Finset.mem_filter, Finset.mem_univ, true_and, Rect.emb_apply]
  refine ⟨rfl, Or.inr ?_⟩
  show 0 + 1 * (b.val + 1 * (j 0).val) + 1 = b.val + 1
  omega

theorem wp_ldV (R : Bool) (s : Fin 4) (q : PosShare TreeShare) (x : KV F) (b : Fin 2) (h : Fin 4) {off : Fin 4 → ℕ} (inb) (ho : off = ![s.val, 0, 0, 0])
    {hl} {k : Vec F S1x256x64 .bf16 → Prog (TpuEff nD τ sig (Elt F) Λ₀ .tc) α} {Q : α → sProp 𝕄} :
    reg R b.succ c s q x ⊢ iprop((reg R b.succ c s q x -∗ wpc (k (vBlk x.v b h)) Q)
      -∗ wpc (.op (.load (vSl (vM R) off inb) (vcol b h).toLoadRect hl) k) Q) := by
  have hmem := vread_mem s b h inb ho
  have hrd := vread_eq x.v s b h inb ho
  cases R
  · have H := wp_load (Γ := .empty) (defs := defs₀ (F := F)) 𝒱₀ (c : Thread nD τ) none Set.univ (m := vSl (vM false) off inb) (r := (vcol b h).toLoadRect) (hl := hl) (k := k) (Q := Q)
      (S := regSet b.succ s) (q := q) (f := slotBuf x.v) (fun i hi => by
        obtain ⟨j, hj, rfl⟩ := Finset.mem_map.mp hi
        obtain ⟨j', rfl⟩ := (vcol b h).exists_idx_of_mem hj
        exact hmem j')
    rw [show (vSl (vM false) off inb).view.readAt (Elt F) (vcol b h).toLoadRect (slotBuf x.v) = vBlk x.v b h from hrd] at H
    exact H
  · have H := wp_load (Γ := .empty) (defs := defs₀ (F := F)) 𝒱₀ (c : Thread nD τ) none Set.univ (m := vSl (vM true) off inb) (r := (vcol b h).toLoadRect) (hl := hl) (k := k) (Q := Q)
      (S := regSet b.succ s) (q := q) (f := slotBuf x.v) (fun i hi => by
        obtain ⟨j, hj, rfl⟩ := Finset.mem_map.mp hi
        obtain ⟨j', rfl⟩ := (vcol b h).exists_idx_of_mem hj
        exact hmem j')
    rw [show (vSl (vM true) off inb).view.readAt (Elt F) (vcol b h).toLoadRect (slotBuf x.v) = vBlk x.v b h from hrd] at H
    exact H

theorem wp_ldK (R : Bool) (s : Fin 4) (q : PosShare TreeShare) (x : KV F) {off : Fin 4 → ℕ} (inb) (ho : off = ![s.val, 0, 0, 0])
    {hl} {k : Vec F S1x2x256x256 .fp8e4m3 → Prog (TpuEff nD τ sig (Elt F) Λ₀ .tc) α} {Q : α → sProp 𝕄} :
    reg R 0 c s q x ⊢ iprop((reg R 0 c s q x -∗ wpc (k x.k) Q)
      -∗ wpc (.op (.load (kM R) (Rect.unit (s := S4x2x256x256) off S1x2x256x256.size inb).toLoadRect hl) k) Q) := by
  have hset := kRect_set s inb ho
  have hrd : (fun j => slotBuf x.k ((Rect.unit (s := S4x2x256x256) off S1x2x256x256.size inb).emb j)) = x.k :=
    funext fun j => congrArg x.k (slotIx_emb s inb ho j)
  cases R
  · have H := wp_load_rect (Γ := .empty) (defs := defs₀ (F := F)) 𝒱₀ (c : Thread nD τ) none Set.univ (m := kM false) (r := Rect.unit (s := S4x2x256x256) off S1x2x256x256.size inb) (hl := hl) (k := k) (Q := Q)
      (S := regSet 0 s) (q := q) (f := slotBuf x.k) (by rw [View.set_slice_whole, hset])
    rw [show ((kM false).access (Rect.unit (s := S4x2x256x256) off S1x2x256x256.size inb)).read (Elt F) (slotBuf x.k) = x.k from hrd] at H
    exact H
  · have H := wp_load_rect (Γ := .empty) (defs := defs₀ (F := F)) 𝒱₀ (c : Thread nD τ) none Set.univ (m := kM true) (r := Rect.unit (s := S4x2x256x256) off S1x2x256x256.size inb) (hl := hl) (k := k) (Q := Q)
      (S := regSet 0 s) (q := q) (f := slotBuf x.k) (by rw [View.set_slice_whole, hset])
    rw [show ((kM true).access (Rect.unit (s := S4x2x256x256) off S1x2x256x256.size inb)).read (Elt F) (slotBuf x.k) = x.k from hrd] at H
    exact H

/-! ## A turn, and a hop's eight -/

theorem wp_turn (R : Bool) (s : Fin 4) (q : PosShare TreeShare) (x : KV F) (b : Fin 2) (h : Fin 4) {off : Fin 4 → ℕ} (inb) (ho : off = ![s.val, 0, 0, 0])
    (bias : FVec F S256x256 .f32) (k : FVec F S2x256x256 .bf16) (Qv : Fin 2 → Fin 4 → VQ F) (A : Fin 2 → Fin 4 → VA F) (L : Fin 2 → Fin 4 → VL F)
    (Q : PUnit → sProp 𝕄) :
    iprop(qPts c Qv ∗ reg R b.succ c s q x ∗ aPts c A ∗ lPts c L
      ∗ ((qPts c Qv ∗ reg R b.succ c s q x ∗ aPts c (upd A b h (headA (headP bias k b h (Qv b h)) (vBlk x.v b h) (A b h)))
          ∗ lPts c (upd L b h (headL (headP bias k b h (Qv b h)) (L b h)))) -∗ Q ⟨⟩))
      ⊢ wpc (turn (vSl (vM R) off inb) bias k b h) Q := by
  unfold turn
  simp only [Prog.bind_lift]
  iintro ⟨Hq, Hv, Ha, Hl, Hk⟩
  iapply (wp_ldQ c Qv b h) $$ Hq
  iintro Hq
  iapply (wp_ldV c R s q x b h inb ho) $$ Hv
  iintro Hv
  iapply (wp_ldL c L b h) $$ Hl
  iintro Hl
  iapply (wp_ldL c L b h) $$ Hl
  iintro Hl
  iapply (wp_stL c L b h _) $$ Hl
  iintro Hl
  iapply (wp_ldA c A b h) $$ Ha
  iintro Ha
  iapply (wp_ldA c A b h) $$ Ha
  iintro Ha
  iapply (wp_stA c A b h _) $$ Ha
  iintro Ha
  rw [show (Prog.ret PUnit.unit : Prog (TpuEff nD τ sig (Elt F) Λ₀ .tc) PUnit) = pure ⟨⟩ from rfl, wp_pure]
  imodintro
  iapply Hk
  isplitl [Hq]; · iexact Hq
  isplitl [Hv]; · iexact Hv
  isplitl [Ha]; · iexact Ha
  iexact Hl

/-- The sums after a hop with keys and values `x`. -/
def stepA (bias : FVec F S256x256 .f32) (x : KV F) (Qv : Fin 2 → Fin 4 → VQ F) (A : Fin 2 → Fin 4 → VA F) : Fin 2 → Fin 4 → VA F :=
  fun b h => headA (headP bias (k0_pay3 x.k) b h (Qv b h)) (vBlk x.v b h) (A b h)
def stepL (bias : FVec F S256x256 .f32) (x : KV F) (Qv : Fin 2 → Fin 4 → VQ F) (L : Fin 2 → Fin 4 → VL F) : Fin 2 → Fin 4 → VL F :=
  fun b h => headL (headP bias (k0_pay3 x.k) b h (Qv b h)) (L b h)

/-- The first `n` blocks replaced. -/
def fill {β : Type} (A B : Fin 2 → Fin 4 → β) (n : ℕ) : Fin 2 → Fin 4 → β := fun b h => if 4 * b.val + h.val < n then B b h else A b h

theorem fill_zero {β : Type} (A B : Fin 2 → Fin 4 → β) : fill A B 0 = A := by
  funext b h; exact if_neg (Nat.not_lt_zero _)
theorem fill_eight {β : Type} (A B : Fin 2 → Fin 4 → β) : fill A B 8 = B := by
  funext b h; exact if_pos (by omega)
theorem fill_at {β : Type} (A B : Fin 2 → Fin 4 → β) (b : Fin 2) (h : Fin 4) : fill A B (4 * b.val + h.val) b h = A b h := if_neg (lt_irrefl _)
theorem fill_upd {β : Type} (A B : Fin 2 → Fin 4 → β) (b : Fin 2) (h : Fin 4) :
    upd (fill A B (4 * b.val + h.val)) b h (B b h) = fill A B (4 * b.val + h.val + 1) := by
  funext b' h'
  unfold upd fill
  by_cases hb : b' = b ∧ h' = h
  · rw [if_pos hb, if_pos (by rw [hb.1, hb.2]; omega), hb.1, hb.2]
  · rw [if_neg hb]
    have : 4 * b'.val + h'.val ≠ 4 * b.val + h.val := fun he => hb ⟨Fin.ext (by omega), Fin.ext (by omega)⟩
    by_cases hl : 4 * b'.val + h'.val < 4 * b.val + h.val
    · rw [if_pos hl, if_pos (by omega)]
    · rw [if_neg hl, if_neg (by omega)]

theorem wp_fill (R : Bool) (s : Fin 4) (q : PosShare TreeShare) (x : KV F) (b : Fin 2) (h : Fin 4) {off : Fin 4 → ℕ} (inb) (ho : off = ![s.val, 0, 0, 0])
    (bias : FVec F S256x256 .f32) (Qv : Fin 2 → Fin 4 → VQ F) (A : Fin 2 → Fin 4 → VA F) (L : Fin 2 → Fin 4 → VL F) (Q : PUnit → sProp 𝕄) :
    iprop(qPts c Qv ∗ reg R b.succ c s q x ∗ aPts c (fill A (stepA bias x Qv A) (4 * b.val + h.val)) ∗ lPts c (fill L (stepL bias x Qv L) (4 * b.val + h.val))
      ∗ ((qPts c Qv ∗ reg R b.succ c s q x ∗ aPts c (fill A (stepA bias x Qv A) (4 * b.val + h.val + 1))
          ∗ lPts c (fill L (stepL bias x Qv L) (4 * b.val + h.val + 1))) -∗ Q ⟨⟩))
      ⊢ wpc (turn (vSl (vM R) off inb) bias (k0_pay3 x.k) b h) Q := by
  have H := wp_turn c R s q x b h inb ho bias (k0_pay3 x.k) Qv (fill A (stepA bias x Qv A) (4 * b.val + h.val)) (fill L (stepL bias x Qv L) (4 * b.val + h.val)) Q
  rw [fill_at, fill_at] at H
  rw [← fill_upd A, ← fill_upd L]
  exact H

theorem wp_turns (R : Bool) (s : Fin 4) (q : PosShare TreeShare) (x : KV F) {off off' : Fin 4 → ℕ} (inb inb') (ho : off = ![s.val, 0, 0, 0]) (ho' : off' = ![s.val, 0, 0, 0])
    (bias : FVec F S256x256 .f32) (Qv : Fin 2 → Fin 4 → VQ F) (A : Fin 2 → Fin 4 → VA F) (L : Fin 2 → Fin 4 → VL F) (Q : PUnit → sProp 𝕄) :
    iprop(qPts c Qv ∗ (reg R 0 c s q x ∗ reg R 1 c s q x ∗ reg R 2 c s q x) ∗ aPts c A ∗ lPts c L
      ∗ ((qPts c Qv ∗ (reg R 0 c s q x ∗ reg R 1 c s q x ∗ reg R 2 c s q x) ∗ aPts c (stepA bias x Qv A) ∗ lPts c (stepL bias x Qv L)) -∗ Q ⟨⟩))
      ⊢ wpc (turns (kM R) (vM R) off off' inb inb' bias) Q := by
  unfold turns
  rw [Prog.bind_lift]
  have e0 := fill_zero A (stepA bias x Qv A)
  have e0' := fill_zero L (stepL bias x Qv L)
  have e8 := fill_eight A (stepA bias x Qv A)
  have e8' := fill_eight L (stepL bias x Qv L)
  iintro ⟨Hq, ⟨H0, H1, H2⟩, Ha, Hl, Hk⟩
  iapply (wp_ldK c R s q x inb ho) $$ H0
  iintro H0
  ihave Ha := (Entails.of_eq (congrArg (aPts c) e0.symm)) $$ Ha
  ihave Hl := (Entails.of_eq (congrArg (lPts c) e0'.symm)) $$ Hl
  rw [wp_bind]
  iapply (wp_fill c R s q x 0 0 inb' ho' bias Qv A L _)
  isplitl [Hq]; · iexact Hq
  isplitl [H1]; · iexact H1
  isplitl [Ha]; · iexact Ha
  isplitl [Hl]; · iexact Hl
  iintro ⟨Hq, H1, Ha, Hl⟩
  rw [wp_bind]
  iapply (wp_fill c R s q x 0 1 inb' ho' bias Qv A L _)
  isplitl [Hq]; · iexact Hq
  isplitl [H1]; · iexact H1
  isplitl [Ha]; · iexact Ha
  isplitl [Hl]; · iexact Hl
  iintro ⟨Hq, H1, Ha, Hl⟩
  rw [wp_bind]
  iapply (wp_fill c R s q x 0 2 inb' ho' bias Qv A L _)
  isplitl [Hq]; · iexact Hq
  isplitl [H1]; · iexact H1
  isplitl [Ha]; · iexact Ha
  isplitl [Hl]; · iexact Hl
  iintro ⟨Hq, H1, Ha, Hl⟩
  rw [wp_bind]
  iapply (wp_fill c R s q x 0 3 inb' ho' bias Qv A L _)
  isplitl [Hq]; · iexact Hq
  isplitl [H1]; · iexact H1
  isplitl [Ha]; · iexact Ha
  isplitl [Hl]; · iexact Hl
  iintro ⟨Hq, H1, Ha, Hl⟩
  rw [wp_bind]
  iapply (wp_fill c R s q x 1 0 inb' ho' bias Qv A L _)
  isplitl [Hq]; · iexact Hq
  isplitl [H2]; · iexact H2
  isplitl [Ha]; · iexact Ha
  isplitl [Hl]; · iexact Hl
  iintro ⟨Hq, H2, Ha, Hl⟩
  rw [wp_bind]
  iapply (wp_fill c R s q x 1 1 inb' ho' bias Qv A L _)
  isplitl [Hq]; · iexact Hq
  isplitl [H2]; · iexact H2
  isplitl [Ha]; · iexact Ha
  isplitl [Hl]; · iexact Hl
  iintro ⟨Hq, H2, Ha, Hl⟩
  rw [wp_bind]
  iapply (wp_fill c R s q x 1 2 inb' ho' bias Qv A L _)
  isplitl [Hq]; · iexact Hq
  isplitl [H2]; · iexact H2
  isplitl [Ha]; · iexact Ha
  isplitl [Hl]; · iexact Hl
  iintro ⟨Hq, H2, Ha, Hl⟩
  iapply (wp_fill c R s q x 1 3 inb' ho' bias Qv A L _)
  isplitl [Hq]; · iexact Hq
  isplitl [H2]; · iexact H2
  isplitl [Ha]; · iexact Ha
  isplitl [Hl]; · iexact Hl
  iintro ⟨Hq, H2, Ha, Hl⟩
  ihave Ha := (Entails.of_eq (congrArg (aPts c) e8)) $$ Ha
  ihave Hl := (Entails.of_eq (congrArg (lPts c) e8')) $$ Hl
  iapply Hk
  isplitl [Hq]; · iexact Hq
  isplitl [H0 H1 H2]
  · isplitl [H0]; · iexact H0
    isplitl [H1]; · iexact H1
    iexact H2
  isplitl [Ha]; · iexact Ha
  iexact Hl

end Cert.RingAttn

end
-- ==== Proof.Hop.lean ====
module

public import proofs.«01_k».proof.Proof.Turn

/-! # One hop: credits, receives and sends -/

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

variable (kv : Dev nD → KV F)

/-! ## The semaphores that a hop names -/

abbrev kD (a : DmaSems sig S4) (off : Fin 1 → ℕ) (inb : ∀ x, off x + S1.size x ≤ S4.size x) : DmaSem sig :=
  ((a.slice (Rect.unit (s := S4) off S1.size inb)).squeeze S_ squeezes_S1_S_).sem
abbrev vD (a : DmaSems sig S4x2) (off : Fin 2 → ℕ) (inb : ∀ x, off x + S1x1.size x ≤ S4x2.size x) : DmaSem sig :=
  ((a.slice (Rect.unit (s := S4x2) off S1x1.size inb)).squeeze S_ squeezes_S1x1_S_).sem

theorem sem_k7 (s : Fin 4) {off : Fin 1 → ℕ} (inb) (ho : off = ![s.val]) :
    kD cc0_scratch7 off inb = dsem false false 0 s := by
  subst ho; revert s; decide +kernel
theorem sem_k8 (s : Fin 4) {off : Fin 1 → ℕ} (inb) (ho : off = ![s.val]) :
    kD cc0_scratch8 off inb = dsem true false 0 s := by
  subst ho; revert s; decide +kernel
theorem sem_k11 (s : Fin 4) {off : Fin 1 → ℕ} (inb) (ho : off = ![s.val]) :
    kD cc0_scratch11 off inb = dsem false true 0 s := by
  subst ho; revert s; decide +kernel
theorem sem_k12 (s : Fin 4) {off : Fin 1 → ℕ} (inb) (ho : off = ![s.val]) :
    kD cc0_scratch12 off inb = dsem true true 0 s := by
  subst ho; revert s; decide +kernel
theorem sem_v9 (b : Fin 2) (s : Fin 4) {off : Fin 2 → ℕ} (inb) (ho : off = ![s.val, b.val]) :
    vD cc0_scratch9 off inb = dsem false false b.succ s := by
  subst ho; revert b s; decide +kernel
theorem sem_v10 (b : Fin 2) (s : Fin 4) {off : Fin 2 → ℕ} (inb) (ho : off = ![s.val, b.val]) :
    vD cc0_scratch10 off inb = dsem true false b.succ s := by
  subst ho; revert b s; decide +kernel
theorem sem_v13 (b : Fin 2) (s : Fin 4) {off : Fin 2 → ℕ} (inb) (ho : off = ![s.val, b.val]) :
    vD cc0_scratch13 off inb = dsem false true b.succ s := by
  subst ho; revert b s; decide +kernel
theorem sem_v14 (b : Fin 2) (s : Fin 4) {off : Fin 2 → ℕ} (inb) (ho : off = ![s.val, b.val]) :
    vD cc0_scratch14 off inb = dsem true true b.succ s := by
  subst ho; revert b s; decide +kernel

/-! ## A lane's receive and send -/

/-- A step taken when `P` holds, and then `k`. -/
def cif {α : Type} (P : Prop) [Decidable P] (X : P → Prog (TpuEff nD τ sig (Elt F) Λ₀ .tc) PUnit) (k : Prog (TpuEff nD τ sig (Elt F) Λ₀ .tc) α) :
    Prog (TpuEff nD τ sig (Elt F) Λ₀ .tc) α := if h : P then (do X h; k) else k

theorem wp_cif {α : Type} {c : Dev nD} {P : Prop} [Decidable P] {X : P → Prog (TpuEff nD τ sig (Elt F) Λ₀ .tc) PUnit} {k : Prog (TpuEff nD τ sig (Elt F) Λ₀ .tc) α} {Q : α → sProp 𝕄} :
    (wp frame (wpE (defs₀ (F := F)) 𝒱₀ (c : Thread nD τ) none) Set.univ (if h : P then (do X h; pure ⟨⟩) else (do pure ⟨⟩) : Prog (TpuEff nD τ sig (Elt F) Λ₀ .tc) PUnit) (fun _ => wp frame (wpE (defs₀ (F := F)) 𝒱₀ (c : Thread nD τ) none) Set.univ k Q)) ⊢ wp frame (wpE (defs₀ (F := F)) 𝒱₀ (c : Thread nD τ) none) Set.univ (cif P X k) Q := by
  refine Entails.of_eq ?_
  rw [← wp_bind]
  congr 1
  unfold cif
  split
  · rw [Prog.bind_assoc]; rfl
  · rfl

section Lane
variable (R : Bool) (l : Fin 3) (c : Dev nD) (g : ℕ)

/-- A lane before hop `g`, with the free slot that its message goes to and, with the keys, the slot that it gives back. -/
def lanePre : sProp 𝕄 :=
  iprop(laneSt kv R c g l ∗ (if g < hops R then slotL (F := F) R l (dst R c) g else iprop(emp)) ∗ (if l.val = 0 then freed (F := F) R c g else iprop(emp)))

/-- A lane after the receive and the send of hop `g`. -/
def lanePost : sProp 𝕄 :=
  iprop(laneMid (F := F) R c g l ∗ win (hops R) g (posS (F := F) R l c) ∗ cur kv R l c g fullShare.right ∗ fly kv R l c g ∗ extra (F := F) R l c g)

theorem lane_pre : (lanePre kv R l c g : sProp 𝕄) ⊢ iprop(recvIn kv R l c g ∗ (win (hops R) g (posS (F := F) R l c) ∗ left (hops R) g (tokS (F := F) R l c)
    ∗ (if g < hops R then slotL (F := F) R l (dst R c) g else iprop(emp)) ∗ (if l.val = 0 then freed (F := F) R c g else iprop(emp)))) := by
  unfold lanePre laneSt
  iintro ⟨⟨H1, H2, H3⟩, H4, H5⟩
  isplitl [H1]; · iexact H1
  isplitl [H2]; · iexact H2
  isplitl [H3]; · iexact H3
  isplitl [H4]; · iexact H4
  iexact H5

theorem lane_mid : iprop(recvOut kv R l c g ∗ (win (hops R) g (posS (F := F) R l c) ∗ left (hops R) g (tokS (F := F) R l c)
    ∗ (if g < hops R then slotL (F := F) R l (dst R c) g else iprop(emp)) ∗ (if l.val = 0 then freed (F := F) R c g else iprop(emp))))
    ⊢ iprop(sendIn kv R l c g ∗ (win (hops R) g (posR (F := F) R l c) ∗ left (hops R) g (credR (F := F) R l c) ∗ extra (F := F) R l c g)) := by
  unfold recvOut sendIn
  iintro ⟨⟨H1, H2, H3, H4⟩, H5, H6, H7, H8⟩
  isplitr [H1 H2 H4]
  · isplitl [H5]; · iexact H5
    isplitl [H6]; · iexact H6
    isplitl [H3]; · iexact H3
    isplitl [H7]; · iexact H7
    iexact H8
  isplitl [H1]; · iexact H1
  isplitl [H2]; · iexact H2
  iexact H4

theorem lane_post : iprop(sendOut kv R l c g ∗ (win (hops R) g (posR (F := F) R l c) ∗ left (hops R) g (credR (F := F) R l c) ∗ extra (F := F) R l c g))
    ⊢ lanePost kv R l c g := by
  unfold sendOut lanePost laneMid
  iintro ⟨⟨H1, H2, H3, H4⟩, H5, H6, H7⟩
  isplitl [H5 H6 H2]
  · isplitl [H5]; · iexact H5
    isplitl [H6]; · iexact H6
    iexact H2
  isplitl [H1]; · iexact H1
  isplitl [H3]; · iexact H3
  isplitl [H4]; · iexact H4
  iexact H7

/-- A lane's receive followed by its send. -/
theorem wp_lane {α : Type} {P P' : Prop} [Decidable P] [Decidable P'] (hP : P ↔ 1 ≤ g ∧ g ≤ hops R) (hP' : P' ↔ g < hops R)
    {sm : P → DmaSem sig} (hs : ∀ h, sm h = dsem true R l (sl g))
    {sp sp' : Space} {s s' : Shape} {e e' : EltTy}
    {sr : P → Memref sig .tc sp' s' e'} {ds : P → Memref sig .tc sp s e} {h1 : ∀ h, (sr h).view.WordExact} {h2 : ∀ h, (ds h).view.WordExact}
    (hN : ∀ h, (ds h).view.dmaCredit = amt R l)
    {n : P' → Dev nD} (hn : ∀ h, n h = dst R c)
    {sS sR : P' → DmaSem sig} (hsS : ∀ h, sS h = dsem false R l (sl g))
    (hsR : ∀ h, sR h = dsem true R l (sl (g + 1))) {tp tp' : Space} {t : Shape} {d : EltTy}
    {tr : P' → Memref sig .tc tp t d} {dt : P' → Memref sig .tc tp' t d} {hsc : ∀ h, (dt h).view.ref.isScScratch = false}
    {h3 : ∀ h, (tr h).view.WordExact} {h4 : ∀ h, (dt h).view.WordExact} {h5 : ∀ h, DmaTarget.Typed tp (.dma (sR h)) (.remote (Dev.tc (n h)) (dt h) (.dma (sS h)) (hsc h))}
    (hN' : ∀ h, (dt h).view.amount (.dma (sR h)) = amt R l) (fs : ∀ h, Buf (Elt F) ((tr h).view.loc (c : Thread nD τ)))
    (hA : ∀ h, reg R l c (sl g) fullShare.left (kv (orig R c g)) = ((tr h).view.loc (c : Thread nD τ) ↦[(tr h).view.set]{fullShare.left} (fs h)))
    (hB : ∀ h, anyReg (F := F) R l (n h) (sl (g + 1)) = iprop(∃ fd, (dt h).view.loc (Dev.tc (n h)) ↦[(dt h).view.set]{fullShare} fd))
    (hC : ∀ h fd, ((dt h).view.loc (Dev.tc (n h)) ↦[(dt h).view.set]{fullShare} ((dt h).view.write (Elt F) fd ((tr h).view.read (Elt F) (fs h)) Finset.univ))
      = reg R l (n h) (sl (g + 1)) fullShare (kv (orig R c g)))
    (O : Tal) (hO : Hi (g + 3) O) (k : Prog (TpuEff nD τ sig (Elt F) Λ₀ .tc) α) (Q : α → sProp 𝕄) :
    iprop(ctx kv ∗ lanePre kv R l c g ∗ owq c (O + oS R l c g) ∗ ((owq c O ∗ lanePost kv R l c g) -∗ wp frame (wpE (defs₀ (F := F)) 𝒱₀ (c : Thread nD τ) none) Set.univ k Q))
      ⊢ wp frame (wpE (defs₀ (F := F)) 𝒱₀ (c : Thread nD τ) none) Set.univ (cif P (fun h => Prog.lift (.waitDma2 (sm h) (sr h) (ds h) (h1 h) (h2 h)))
          (cif P' (fun h => Prog.lift (.enqueueDma (tr h) (.remote (Dev.tc (n h)) (dt h) (.dma (sS h)) (hsc h)) (.dma (sR h)) (h3 h) (h4 h) (h5 h))) k)) Q := by
  iintro ⟨#Hc, Hl, HO, Hk⟩
  ihave Hl := (lane_pre kv R l c g) $$ Hl
  icases Hl with ⟨Hin, Hrest⟩
  iapply wp_cif
  iapply (wp_recv_if kv R l c g hP hs hN (O + oS R l c g) (hO.add (Hi.oS R l c g)))
  isplitr; · iexact Hc
  isplitl [Hin]; · iexact Hin
  isplitl [HO]; · iexact HO
  iintro ⟨HO, Hout⟩
  ihave Hl := (lane_mid kv R l c g) $$ [Hout Hrest]
  · isplitl [Hout]; · iexact Hout
    iexact Hrest
  icases Hl with ⟨Hin, Hrest⟩
  iapply wp_cif
  iapply (wp_send_if kv R l c g hP' hn hsS hsR hN' fs hA hB hC O)
  isplitr; · iexact Hc
  isplitl [Hin]; · iexact Hin
  isplitl [HO]; · iexact HO
  iintro ⟨HO, Hout⟩
  iapply Hk
  isplitl [HO]; · iexact HO
  iapply (lane_post kv R l c g)
  isplitl [Hout]; · iexact Hout
  iexact Hrest

end Lane

/-! ## The conditions that a hop prints -/

section Hop
variable (c : Dev nD) (t : Fin k0_t1_loop.trips)

theorem cond3_iff : k0_cond3 t = 1#1 ↔ 1 ≤ t.val ∧ t.val ≤ hops false := by revert t; decide +kernel
theorem cond4_iff : k0_cond4 t = 1#1 ↔ t.val < hops false := by revert t; decide +kernel
theorem cond5_iff : k0_cond5 t = 1#1 ↔ 1 ≤ t.val ∧ t.val ≤ hops true := by revert t; decide +kernel
theorem cond6_iff : k0_cond6 t = 1#1 ↔ t.val < hops true := by revert t; decide +kernel
theorem cond7_iff : k0_cond7 t = 1#1 ↔ 1 ≤ t.val ∧ t.val ≤ hops false := by revert t; decide +kernel
theorem cond8_iff : k0_cond8 t = 1#1 ↔ t.val < hops false := by revert t; decide +kernel
theorem cond9_iff : k0_cond9 t = 1#1 ↔ 1 ≤ t.val ∧ t.val ≤ hops true := by revert t; decide +kernel
theorem cond10_iff : k0_cond10 t = 1#1 ↔ t.val < hops true := by revert t; decide +kernel
theorem cond11_iff : k0_cond11 t = 1#1 ↔ 1 ≤ t.val ∧ t.val ≤ hops false := by revert t; decide +kernel
theorem cond12_iff : k0_cond12 t = 1#1 ↔ t.val < hops false := by revert t; decide +kernel
theorem cond13_iff : k0_cond13 t = 1#1 ↔ 1 ≤ t.val ∧ t.val ≤ hops true := by revert t; decide +kernel
theorem cond14_iff : k0_cond14 t = 1#1 ↔ t.val < hops true := by revert t; decide +kernel
theorem cond15_iff : k0_cond15 t = 1#1 ↔ t.val ≤ hops false := by revert t; decide +kernel
theorem cond16_iff : k0_cond16 t = 1#1 ↔ 1 ≤ t.val ∧ t.val ≤ hops true := by revert t; decide +kernel
theorem cond17_iff : k0_cond17 t = 1#1 ↔ t.val < hops false := by revert t; decide +kernel
theorem cond18_iff : k0_cond18 t = 1#1 ↔ 1 ≤ t.val ∧ t.val + 4 ≤ hops false := by revert t; decide +kernel
theorem cond19_iff : k0_cond19 t = 1#1 ↔ t.val < hops true := by revert t; decide +kernel
theorem cond20_iff : k0_cond20 t = 1#1 ↔ 1 ≤ t.val ∧ t.val + 4 ≤ hops true := by revert t; decide +kernel

theorem credR_iff : Scalar.cmpi .ne (Scalar.extui (Scalar.andi (Scalar.cmpi .sge (Scf.iv 0#32 1#32 t) 4#32) (Scalar.cmpi .slt (Scf.iv 0#32 1#32 t) 16#32))) 0#32 = 1#1
    ↔ 4 ≤ t.val ∧ t.val < hops false := by revert t; decide +kernel
theorem credL_iff : Scalar.cmpi .ne (Scalar.extui (Scalar.andi (Scalar.cmpi .sge (Scf.iv 0#32 1#32 t) 4#32) (Scalar.cmpi .slt (Scf.iv 0#32 1#32 t) 15#32))) 0#32 = 1#1
    ↔ 4 ≤ t.val ∧ t.val < hops true := by revert t; decide +kernel

theorem sl_val (n : ℕ) : (sl n).val = n % 4 := rfl

/-- What a hop does first: the credits, then the keys' receives and sends. -/
def hop17 : Prog (TpuEff nD τ sig (Elt F) Λ₀ .tc) (Σ' (_ : BitVec 32) (_ : BitVec 32), BitVec 1) :=
    cif (Scalar.cmpi .ne (Scalar.extui (Scalar.andi (Scalar.cmpi .sge (Scf.iv 0#32 1#32 t) 4#32) (Scalar.cmpi .slt (Scf.iv 0#32 1#32 t) 16#32))) 0#32 = 1#1) (fun _ => semWaitWord (crS false) 1#32) (
    cif (Scalar.cmpi .ne (Scalar.extui (Scalar.andi (Scalar.cmpi .sge (Scf.iv 0#32 1#32 t) 4#32) (Scalar.cmpi .slt (Scf.iv 0#32 1#32 t) 15#32))) 0#32 = 1#1) (fun _ => semWaitWord (crS true) 1#32) (
    cif (k0_cond3 t = 1#1) (fun h => Prog.lift (.waitDma2 (kD cc0_scratch8 (k0_off1 t) (k0_off1_inb t h)) (kS (Memref.whole cc0_scratch3) (k0_off2 t) (k0_off2_inb t h)) (kS (Memref.whole cc0_scratch3) (k0_off2 t) (k0_off2_inb t h)) (((Memref.isWhole_whole cc0_scratch3).wordExact_slice rfl _ (k0_off2_wordsfp8e4m3 t h)).reshape _ _) (((Memref.isWhole_whole cc0_scratch3).wordExact_slice rfl _ (k0_off2_wordsfp8e4m3 t h)).reshape _ _))) (
    cif (k0_cond4 t = 1#1) (fun h => Prog.lift (.enqueueDma (kS (Memref.whole cc0_scratch3) (k0_off6 t) (k0_off6_inb t h)) (.remote (Dev.tc (⟨k0_dev3 c, k0_dev3_lt c t h⟩ : Dev nD)) (kS (Memref.whole cc0_scratch3) (k0_off5 t) (k0_off5_inb t h)) (.dma (kD cc0_scratch7 (k0_off3 t) (k0_off3_inb t h)))) (.dma (kD cc0_scratch8 (k0_off4 t) (k0_off4_inb t h))) (((Memref.isWhole_whole cc0_scratch3).wordExact_slice rfl _ (k0_off6_wordsfp8e4m3 t h)).reshape _ _) (((Memref.isWhole_whole cc0_scratch3).wordExact_slice rfl _ (k0_off5_wordsfp8e4m3 t h)).reshape _ _) ⟨⟨rfl, Or.inl rfl⟩, trivial⟩)) (
    cif (k0_cond5 t = 1#1) (fun h => Prog.lift (.waitDma2 (kD cc0_scratch12 (k0_off7 t) (k0_off7_inb t h)) (kS (Memref.whole cc0_scratch5) (k0_off8 t) (k0_off8_inb t h)) (kS (Memref.whole cc0_scratch5) (k0_off8 t) (k0_off8_inb t h)) (((Memref.isWhole_whole cc0_scratch5).wordExact_slice rfl _ (k0_off8_wordsfp8e4m3 t h)).reshape _ _) (((Memref.isWhole_whole cc0_scratch5).wordExact_slice rfl _ (k0_off8_wordsfp8e4m3 t h)).reshape _ _))) (
    cif (k0_cond6 t = 1#1) (fun h => Prog.lift (.enqueueDma (kS (Memref.whole cc0_scratch5) (k0_off12 t) (k0_off12_inb t h)) (.remote (Dev.tc (⟨k0_dev4 c, k0_dev4_lt c t h⟩ : Dev nD)) (kS (Memref.whole cc0_scratch5) (k0_off11 t) (k0_off11_inb t h)) (.dma (kD cc0_scratch11 (k0_off9 t) (k0_off9_inb t h)))) (.dma (kD cc0_scratch12 (k0_off10 t) (k0_off10_inb t h))) (((Memref.isWhole_whole cc0_scratch5).wordExact_slice rfl _ (k0_off12_wordsfp8e4m3 t h)).reshape _ _) (((Memref.isWhole_whole cc0_scratch5).wordExact_slice rfl _ (k0_off11_wordsfp8e4m3 t h)).reshape _ _) ⟨⟨rfl, Or.inl rfl⟩, trivial⟩)) (
    pure ⟨Scf.iv 0#32 1#32 t, Scalar.remsi (Scf.iv 0#32 1#32 t) 4#32, Scalar.andi (Scalar.cmpi .sgt (Scf.iv 0#32 1#32 t) 0#32) (Scalar.cmpi .sle (Scf.iv 0#32 1#32 t) 16#32)⟩))))))

/-- What it does next: the values' receives and sends. -/
def hop18 : Prog (TpuEff nD τ sig (Elt F) Λ₀ .tc) PUnit :=
    cif (k0_cond7 t = 1#1) (fun h => Prog.lift (.waitDma2 (vD cc0_scratch10 (k0_off13 t) (k0_off13_inb t h)) (vS (Memref.whole cc0_scratch4) (k0_off14 t) (k0_off14_inb t h)) (vS (Memref.whole cc0_scratch4) (k0_off14 t) (k0_off14_inb t h)) (((Memref.isWhole_whole cc0_scratch4).wordExact_slice rfl _ (k0_off14_wordsbf16 t h)).reshape _ _) (((Memref.isWhole_whole cc0_scratch4).wordExact_slice rfl _ (k0_off14_wordsbf16 t h)).reshape _ _))) (
    cif (k0_cond8 t = 1#1) (fun h => Prog.lift (.enqueueDma (vS (Memref.whole cc0_scratch4) (k0_off18 t) (k0_off18_inb t h)) (.remote (Dev.tc (⟨k0_dev5 c, k0_dev5_lt c t h⟩ : Dev nD)) (vS (Memref.whole cc0_scratch4) (k0_off17 t) (k0_off17_inb t h)) (.dma (vD cc0_scratch9 (k0_off15 t) (k0_off15_inb t h)))) (.dma (vD cc0_scratch10 (k0_off16 t) (k0_off16_inb t h))) (((Memref.isWhole_whole cc0_scratch4).wordExact_slice rfl _ (k0_off18_wordsbf16 t h)).reshape _ _) (((Memref.isWhole_whole cc0_scratch4).wordExact_slice rfl _ (k0_off17_wordsbf16 t h)).reshape _ _) ⟨⟨rfl, Or.inl rfl⟩, trivial⟩)) (
    cif (k0_cond9 t = 1#1) (fun h => Prog.lift (.waitDma2 (vD cc0_scratch14 (k0_off19 t) (k0_off19_inb t h)) (vS (Memref.whole cc0_scratch6) (k0_off20 t) (k0_off20_inb t h)) (vS (Memref.whole cc0_scratch6) (k0_off20 t) (k0_off20_inb t h)) (((Memref.isWhole_whole cc0_scratch6).wordExact_slice rfl _ (k0_off20_wordsbf16 t h)).reshape _ _) (((Memref.isWhole_whole cc0_scratch6).wordExact_slice rfl _ (k0_off20_wordsbf16 t h)).reshape _ _))) (
    cif (k0_cond10 t = 1#1) (fun h => Prog.lift (.enqueueDma (vS (Memref.whole cc0_scratch6) (k0_off24 t) (k0_off24_inb t h)) (.remote (Dev.tc (⟨k0_dev6 c, k0_dev6_lt c t h⟩ : Dev nD)) (vS (Memref.whole cc0_scratch6) (k0_off23 t) (k0_off23_inb t h)) (.dma (vD cc0_scratch13 (k0_off21 t) (k0_off21_inb t h)))) (.dma (vD cc0_scratch14 (k0_off22 t) (k0_off22_inb t h))) (((Memref.isWhole_whole cc0_scratch6).wordExact_slice rfl _ (k0_off24_wordsbf16 t h)).reshape _ _) (((Memref.isWhole_whole cc0_scratch6).wordExact_slice rfl _ (k0_off23_wordsbf16 t h)).reshape _ _) ⟨⟨rfl, Or.inl rfl⟩, trivial⟩)) (
    cif (k0_cond11 t = 1#1) (fun h => Prog.lift (.waitDma2 (vD cc0_scratch10 (k0_off25 t) (k0_off25_inb t h)) (vS (Memref.whole cc0_scratch4) (k0_off26 t) (k0_off26_inb t h)) (vS (Memref.whole cc0_scratch4) (k0_off26 t) (k0_off26_inb t h)) (((Memref.isWhole_whole cc0_scratch4).wordExact_slice rfl _ (k0_off26_wordsbf16 t h)).reshape _ _) (((Memref.isWhole_whole cc0_scratch4).wordExact_slice rfl _ (k0_off26_wordsbf16 t h)).reshape _ _))) (
    cif (k0_cond12 t = 1#1) (fun h => Prog.lift (.enqueueDma (vS (Memref.whole cc0_scratch4) (k0_off30 t) (k0_off30_inb t h)) (.remote (Dev.tc (⟨k0_dev7 c, k0_dev7_lt c t h⟩ : Dev nD)) (vS (Memref.whole cc0_scratch4) (k0_off29 t) (k0_off29_inb t h)) (.dma (vD cc0_scratch9 (k0_off27 t) (k0_off27_inb t h)))) (.dma (vD cc0_scratch10 (k0_off28 t) (k0_off28_inb t h))) (((Memref.isWhole_whole cc0_scratch4).wordExact_slice rfl _ (k0_off30_wordsbf16 t h)).reshape _ _) (((Memref.isWhole_whole cc0_scratch4).wordExact_slice rfl _ (k0_off29_wordsbf16 t h)).reshape _ _) ⟨⟨rfl, Or.inl rfl⟩, trivial⟩)) (
    cif (k0_cond13 t = 1#1) (fun h => Prog.lift (.waitDma2 (vD cc0_scratch14 (k0_off31 t) (k0_off31_inb t h)) (vS (Memref.whole cc0_scratch6) (k0_off32 t) (k0_off32_inb t h)) (vS (Memref.whole cc0_scratch6) (k0_off32 t) (k0_off32_inb t h)) (((Memref.isWhole_whole cc0_scratch6).wordExact_slice rfl _ (k0_off32_wordsbf16 t h)).reshape _ _) (((Memref.isWhole_whole cc0_scratch6).wordExact_slice rfl _ (k0_off32_wordsbf16 t h)).reshape _ _))) (
    cif (k0_cond14 t = 1#1) (fun h => Prog.lift (.enqueueDma (vS (Memref.whole cc0_scratch6) (k0_off36 t) (k0_off36_inb t h)) (.remote (Dev.tc (⟨k0_dev8 c, k0_dev8_lt c t h⟩ : Dev nD)) (vS (Memref.whole cc0_scratch6) (k0_off35 t) (k0_off35_inb t h)) (.dma (vD cc0_scratch13 (k0_off33 t) (k0_off33_inb t h)))) (.dma (vD cc0_scratch14 (k0_off34 t) (k0_off34_inb t h))) (((Memref.isWhole_whole cc0_scratch6).wordExact_slice rfl _ (k0_off36_wordsbf16 t h)).reshape _ _) (((Memref.isWhole_whole cc0_scratch6).wordExact_slice rfl _ (k0_off35_wordsbf16 t h)).reshape _ _) ⟨⟨rfl, Or.inl rfl⟩, trivial⟩)) (
    pure ⟨⟩))))))))

set_option maxRecDepth 65536 in
theorem hop17_eq (v4 v7 : BitVec 32) : atArgs (k0_part17 (F := F)) c v4 v7 0#32 1#32 t = hop17 c t := by
  unfold atArgs hop17 cif; rw [k0_part17_eq_skeleton]; rfl
set_option maxRecDepth 65536 in
theorem hop18_eq (v4 v7 arg23 : BitVec 32) (v298 : BitVec 1) : atArgs (k0_part18 (F := F)) c v4 v7 t arg23 v298 = hop18 c t := by
  unfold atArgs hop18 cif; rw [k0_part18_eq_skeleton]; rfl

theorem wp_laneR0 {α : Type} (O : Tal) (hO : Hi (t.val + 3) O) (k : Prog (TpuEff nD τ sig (Elt F) Λ₀ .tc) α) (Q : α → sProp 𝕄) :
    iprop(ctx kv ∗ lanePre kv false 0 c t.val ∗ owq c (O + oS false 0 c t.val) ∗ ((owq c O ∗ lanePost kv false 0 c t.val) -∗ wp frame (wpE (defs₀ (F := F)) 𝒱₀ (c : Thread nD τ) none) Set.univ k Q))
      ⊢ wp frame (wpE (defs₀ (F := F)) 𝒱₀ (c : Thread nD τ) none) Set.univ (cif (k0_cond3 t = 1#1) (fun h => Prog.lift (.waitDma2 (kD cc0_scratch8 (k0_off1 t) (k0_off1_inb t h)) (kS (Memref.whole cc0_scratch3) (k0_off2 t) (k0_off2_inb t h)) (kS (Memref.whole cc0_scratch3) (k0_off2 t) (k0_off2_inb t h)) (((Memref.isWhole_whole cc0_scratch3).wordExact_slice rfl _ (k0_off2_wordsfp8e4m3 t h)).reshape _ _) (((Memref.isWhole_whole cc0_scratch3).wordExact_slice rfl _ (k0_off2_wordsfp8e4m3 t h)).reshape _ _))) (
        cif (k0_cond4 t = 1#1) (fun h => Prog.lift (.enqueueDma (kS (Memref.whole cc0_scratch3) (k0_off6 t) (k0_off6_inb t h)) (.remote (Dev.tc (⟨k0_dev3 c, k0_dev3_lt c t h⟩ : Dev nD)) (kS (Memref.whole cc0_scratch3) (k0_off5 t) (k0_off5_inb t h)) (.dma (kD cc0_scratch7 (k0_off3 t) (k0_off3_inb t h)))) (.dma (kD cc0_scratch8 (k0_off4 t) (k0_off4_inb t h))) (((Memref.isWhole_whole cc0_scratch3).wordExact_slice rfl _ (k0_off6_wordsfp8e4m3 t h)).reshape _ _) (((Memref.isWhole_whole cc0_scratch3).wordExact_slice rfl _ (k0_off5_wordsfp8e4m3 t h)).reshape _ _) ⟨⟨rfl, Or.inl rfl⟩, trivial⟩)) k)) Q := by
  refine wp_lane kv false 0 c t.val (cond3_iff t) (cond4_iff t) ?_ ?_ ?_ ?_ ?_ ?_ (fun _ => slotBuf (kv (orig false c t.val)).k) ?_ ?_ ?_ O hO k Q
  · exact fun h => sem_k8 (sl t.val) _ (k0_off1_eq t)
  · exact fun _ => rfl
  · exact fun _ => Fin.ext (k0_dev3_eq c)
  · exact fun h => sem_k7 (sl t.val) _ (k0_off3_eq t)
  · exact fun h => sem_k8 (sl (t.val + 1)) _ (k0_off4_eq t)
  · exact fun _ => rfl
  · exact fun h => reg_kR c (sl t.val) fullShare.left _ (k0_off6_inb t h) (k0_off6_eq t)
  · exact fun h => any_kR _ (sl (t.val + 1)) (k0_off5_inb t h) (k0_off5_eq t)
  · exact fun h fd => land_kR _ (sl (t.val + 1)) (kv (orig false c t.val)) (k0_off5_inb t h) (k0_off6_inb t h) (k0_off5_eq t)
      (by rw [k0_off5_eq, k0_off6_eq]; exact Fin.cases (fun h => absurd rfl h) (fun _ _ => rfl)) fd

theorem wp_laneL0 {α : Type} (O : Tal) (hO : Hi (t.val + 3) O) (k : Prog (TpuEff nD τ sig (Elt F) Λ₀ .tc) α) (Q : α → sProp 𝕄) :
    iprop(ctx kv ∗ lanePre kv true 0 c t.val ∗ owq c (O + oS true 0 c t.val) ∗ ((owq c O ∗ lanePost kv true 0 c t.val) -∗ wp frame (wpE (defs₀ (F := F)) 𝒱₀ (c : Thread nD τ) none) Set.univ k Q))
      ⊢ wp frame (wpE (defs₀ (F := F)) 𝒱₀ (c : Thread nD τ) none) Set.univ (cif (k0_cond5 t = 1#1) (fun h => Prog.lift (.waitDma2 (kD cc0_scratch12 (k0_off7 t) (k0_off7_inb t h)) (kS (Memref.whole cc0_scratch5) (k0_off8 t) (k0_off8_inb t h)) (kS (Memref.whole cc0_scratch5) (k0_off8 t) (k0_off8_inb t h)) (((Memref.isWhole_whole cc0_scratch5).wordExact_slice rfl _ (k0_off8_wordsfp8e4m3 t h)).reshape _ _) (((Memref.isWhole_whole cc0_scratch5).wordExact_slice rfl _ (k0_off8_wordsfp8e4m3 t h)).reshape _ _))) (
        cif (k0_cond6 t = 1#1) (fun h => Prog.lift (.enqueueDma (kS (Memref.whole cc0_scratch5) (k0_off12 t) (k0_off12_inb t h)) (.remote (Dev.tc (⟨k0_dev4 c, k0_dev4_lt c t h⟩ : Dev nD)) (kS (Memref.whole cc0_scratch5) (k0_off11 t) (k0_off11_inb t h)) (.dma (kD cc0_scratch11 (k0_off9 t) (k0_off9_inb t h)))) (.dma (kD cc0_scratch12 (k0_off10 t) (k0_off10_inb t h))) (((Memref.isWhole_whole cc0_scratch5).wordExact_slice rfl _ (k0_off12_wordsfp8e4m3 t h)).reshape _ _) (((Memref.isWhole_whole cc0_scratch5).wordExact_slice rfl _ (k0_off11_wordsfp8e4m3 t h)).reshape _ _) ⟨⟨rfl, Or.inl rfl⟩, trivial⟩)) k)) Q := by
  refine wp_lane kv true 0 c t.val (cond5_iff t) (cond6_iff t) ?_ ?_ ?_ ?_ ?_ ?_ (fun _ => slotBuf (kv (orig true c t.val)).k) ?_ ?_ ?_ O hO k Q
  · exact fun h => sem_k12 (sl t.val) _ (k0_off7_eq t)
  · exact fun _ => rfl
  · exact fun _ => Fin.ext (k0_dev4_eq c)
  · exact fun h => sem_k11 (sl t.val) _ (k0_off9_eq t)
  · exact fun h => sem_k12 (sl (t.val + 1)) _ (k0_off10_eq t)
  · exact fun _ => rfl
  · exact fun h => reg_kL c (sl t.val) fullShare.left _ (k0_off12_inb t h) (k0_off12_eq t)
  · exact fun h => any_kL _ (sl (t.val + 1)) (k0_off11_inb t h) (k0_off11_eq t)
  · exact fun h fd => land_kL _ (sl (t.val + 1)) (kv (orig true c t.val)) (k0_off11_inb t h) (k0_off12_inb t h) (k0_off11_eq t)
      (by rw [k0_off11_eq, k0_off12_eq]; exact Fin.cases (fun h => absurd rfl h) (fun _ _ => rfl)) fd

theorem wp_laneR1 {α : Type} (O : Tal) (hO : Hi (t.val + 3) O) (k : Prog (TpuEff nD τ sig (Elt F) Λ₀ .tc) α) (Q : α → sProp 𝕄) :
    iprop(ctx kv ∗ lanePre kv false 1 c t.val ∗ owq c (O + oS false 1 c t.val) ∗ ((owq c O ∗ lanePost kv false 1 c t.val) -∗ wp frame (wpE (defs₀ (F := F)) 𝒱₀ (c : Thread nD τ) none) Set.univ k Q))
      ⊢ wp frame (wpE (defs₀ (F := F)) 𝒱₀ (c : Thread nD τ) none) Set.univ (cif (k0_cond7 t = 1#1) (fun h => Prog.lift (.waitDma2 (vD cc0_scratch10 (k0_off13 t) (k0_off13_inb t h)) (vS (Memref.whole cc0_scratch4) (k0_off14 t) (k0_off14_inb t h)) (vS (Memref.whole cc0_scratch4) (k0_off14 t) (k0_off14_inb t h)) (((Memref.isWhole_whole cc0_scratch4).wordExact_slice rfl _ (k0_off14_wordsbf16 t h)).reshape _ _) (((Memref.isWhole_whole cc0_scratch4).wordExact_slice rfl _ (k0_off14_wordsbf16 t h)).reshape _ _))) (
        cif (k0_cond8 t = 1#1) (fun h => Prog.lift (.enqueueDma (vS (Memref.whole cc0_scratch4) (k0_off18 t) (k0_off18_inb t h)) (.remote (Dev.tc (⟨k0_dev5 c, k0_dev5_lt c t h⟩ : Dev nD)) (vS (Memref.whole cc0_scratch4) (k0_off17 t) (k0_off17_inb t h)) (.dma (vD cc0_scratch9 (k0_off15 t) (k0_off15_inb t h)))) (.dma (vD cc0_scratch10 (k0_off16 t) (k0_off16_inb t h))) (((Memref.isWhole_whole cc0_scratch4).wordExact_slice rfl _ (k0_off18_wordsbf16 t h)).reshape _ _) (((Memref.isWhole_whole cc0_scratch4).wordExact_slice rfl _ (k0_off17_wordsbf16 t h)).reshape _ _) ⟨⟨rfl, Or.inl rfl⟩, trivial⟩)) k)) Q := by
  refine wp_lane kv false 1 c t.val (cond7_iff t) (cond8_iff t) ?_ ?_ ?_ ?_ ?_ ?_ (fun _ => slotBuf (kv (orig false c t.val)).v) ?_ ?_ ?_ O hO k Q
  · exact fun h => sem_v10 (0 : Fin 2) (sl t.val) _ (k0_off13_eq t)
  · exact fun _ => rfl
  · exact fun _ => Fin.ext (k0_dev5_eq c)
  · exact fun h => sem_v9 (0 : Fin 2) (sl t.val) _ (k0_off15_eq t)
  · exact fun h => sem_v10 (0 : Fin 2) (sl (t.val + 1)) _ (k0_off16_eq t)
  · exact fun _ => rfl
  · exact fun h => reg_vR c (0 : Fin 2) (sl t.val) fullShare.left _ (k0_off18_inb t h) (k0_off18_eq t)
  · exact fun h => any_vR _ (0 : Fin 2) (sl (t.val + 1)) (k0_off17_inb t h) (k0_off17_eq t)
  · exact fun h fd => land_vR _ (0 : Fin 2) (sl (t.val + 1)) (kv (orig false c t.val)) (k0_off17_inb t h) (k0_off18_inb t h) (k0_off17_eq t)
      (by rw [k0_off17_eq, k0_off18_eq]; exact Fin.cases (fun h => absurd rfl h) (fun _ _ => rfl)) fd

theorem wp_laneL1 {α : Type} (O : Tal) (hO : Hi (t.val + 3) O) (k : Prog (TpuEff nD τ sig (Elt F) Λ₀ .tc) α) (Q : α → sProp 𝕄) :
    iprop(ctx kv ∗ lanePre kv true 1 c t.val ∗ owq c (O + oS true 1 c t.val) ∗ ((owq c O ∗ lanePost kv true 1 c t.val) -∗ wp frame (wpE (defs₀ (F := F)) 𝒱₀ (c : Thread nD τ) none) Set.univ k Q))
      ⊢ wp frame (wpE (defs₀ (F := F)) 𝒱₀ (c : Thread nD τ) none) Set.univ (cif (k0_cond9 t = 1#1) (fun h => Prog.lift (.waitDma2 (vD cc0_scratch14 (k0_off19 t) (k0_off19_inb t h)) (vS (Memref.whole cc0_scratch6) (k0_off20 t) (k0_off20_inb t h)) (vS (Memref.whole cc0_scratch6) (k0_off20 t) (k0_off20_inb t h)) (((Memref.isWhole_whole cc0_scratch6).wordExact_slice rfl _ (k0_off20_wordsbf16 t h)).reshape _ _) (((Memref.isWhole_whole cc0_scratch6).wordExact_slice rfl _ (k0_off20_wordsbf16 t h)).reshape _ _))) (
        cif (k0_cond10 t = 1#1) (fun h => Prog.lift (.enqueueDma (vS (Memref.whole cc0_scratch6) (k0_off24 t) (k0_off24_inb t h)) (.remote (Dev.tc (⟨k0_dev6 c, k0_dev6_lt c t h⟩ : Dev nD)) (vS (Memref.whole cc0_scratch6) (k0_off23 t) (k0_off23_inb t h)) (.dma (vD cc0_scratch13 (k0_off21 t) (k0_off21_inb t h)))) (.dma (vD cc0_scratch14 (k0_off22 t) (k0_off22_inb t h))) (((Memref.isWhole_whole cc0_scratch6).wordExact_slice rfl _ (k0_off24_wordsbf16 t h)).reshape _ _) (((Memref.isWhole_whole cc0_scratch6).wordExact_slice rfl _ (k0_off23_wordsbf16 t h)).reshape _ _) ⟨⟨rfl, Or.inl rfl⟩, trivial⟩)) k)) Q := by
  refine wp_lane kv true 1 c t.val (cond9_iff t) (cond10_iff t) ?_ ?_ ?_ ?_ ?_ ?_ (fun _ => slotBuf (kv (orig true c t.val)).v) ?_ ?_ ?_ O hO k Q
  · exact fun h => sem_v14 (0 : Fin 2) (sl t.val) _ (k0_off19_eq t)
  · exact fun _ => rfl
  · exact fun _ => Fin.ext (k0_dev6_eq c)
  · exact fun h => sem_v13 (0 : Fin 2) (sl t.val) _ (k0_off21_eq t)
  · exact fun h => sem_v14 (0 : Fin 2) (sl (t.val + 1)) _ (k0_off22_eq t)
  · exact fun _ => rfl
  · exact fun h => reg_vL c (0 : Fin 2) (sl t.val) fullShare.left _ (k0_off24_inb t h) (k0_off24_eq t)
  · exact fun h => any_vL _ (0 : Fin 2) (sl (t.val + 1)) (k0_off23_inb t h) (k0_off23_eq t)
  · exact fun h fd => land_vL _ (0 : Fin 2) (sl (t.val + 1)) (kv (orig true c t.val)) (k0_off23_inb t h) (k0_off24_inb t h) (k0_off23_eq t)
      (by rw [k0_off23_eq, k0_off24_eq]; exact Fin.cases (fun h => absurd rfl h) (fun _ _ => rfl)) fd

theorem wp_laneR2 {α : Type} (O : Tal) (hO : Hi (t.val + 3) O) (k : Prog (TpuEff nD τ sig (Elt F) Λ₀ .tc) α) (Q : α → sProp 𝕄) :
    iprop(ctx kv ∗ lanePre kv false 2 c t.val ∗ owq c (O + oS false 2 c t.val) ∗ ((owq c O ∗ lanePost kv false 2 c t.val) -∗ wp frame (wpE (defs₀ (F := F)) 𝒱₀ (c : Thread nD τ) none) Set.univ k Q))
      ⊢ wp frame (wpE (defs₀ (F := F)) 𝒱₀ (c : Thread nD τ) none) Set.univ (cif (k0_cond11 t = 1#1) (fun h => Prog.lift (.waitDma2 (vD cc0_scratch10 (k0_off25 t) (k0_off25_inb t h)) (vS (Memref.whole cc0_scratch4) (k0_off26 t) (k0_off26_inb t h)) (vS (Memref.whole cc0_scratch4) (k0_off26 t) (k0_off26_inb t h)) (((Memref.isWhole_whole cc0_scratch4).wordExact_slice rfl _ (k0_off26_wordsbf16 t h)).reshape _ _) (((Memref.isWhole_whole cc0_scratch4).wordExact_slice rfl _ (k0_off26_wordsbf16 t h)).reshape _ _))) (
        cif (k0_cond12 t = 1#1) (fun h => Prog.lift (.enqueueDma (vS (Memref.whole cc0_scratch4) (k0_off30 t) (k0_off30_inb t h)) (.remote (Dev.tc (⟨k0_dev7 c, k0_dev7_lt c t h⟩ : Dev nD)) (vS (Memref.whole cc0_scratch4) (k0_off29 t) (k0_off29_inb t h)) (.dma (vD cc0_scratch9 (k0_off27 t) (k0_off27_inb t h)))) (.dma (vD cc0_scratch10 (k0_off28 t) (k0_off28_inb t h))) (((Memref.isWhole_whole cc0_scratch4).wordExact_slice rfl _ (k0_off30_wordsbf16 t h)).reshape _ _) (((Memref.isWhole_whole cc0_scratch4).wordExact_slice rfl _ (k0_off29_wordsbf16 t h)).reshape _ _) ⟨⟨rfl, Or.inl rfl⟩, trivial⟩)) k)) Q := by
  refine wp_lane kv false 2 c t.val (cond11_iff t) (cond12_iff t) ?_ ?_ ?_ ?_ ?_ ?_ (fun _ => slotBuf (kv (orig false c t.val)).v) ?_ ?_ ?_ O hO k Q
  · exact fun h => sem_v10 (1 : Fin 2) (sl t.val) _ (k0_off25_eq t)
  · exact fun _ => rfl
  · exact fun _ => Fin.ext (k0_dev7_eq c)
  · exact fun h => sem_v9 (1 : Fin 2) (sl t.val) _ (k0_off27_eq t)
  · exact fun h => sem_v10 (1 : Fin 2) (sl (t.val + 1)) _ (k0_off28_eq t)
  · exact fun _ => rfl
  · exact fun h => reg_vR c (1 : Fin 2) (sl t.val) fullShare.left _ (k0_off30_inb t h) (k0_off30_eq t)
  · exact fun h => any_vR _ (1 : Fin 2) (sl (t.val + 1)) (k0_off29_inb t h) (k0_off29_eq t)
  · exact fun h fd => land_vR _ (1 : Fin 2) (sl (t.val + 1)) (kv (orig false c t.val)) (k0_off29_inb t h) (k0_off30_inb t h) (k0_off29_eq t)
      (by rw [k0_off29_eq, k0_off30_eq]; exact Fin.cases (fun h => absurd rfl h) (fun _ _ => rfl)) fd

theorem wp_laneL2 {α : Type} (O : Tal) (hO : Hi (t.val + 3) O) (k : Prog (TpuEff nD τ sig (Elt F) Λ₀ .tc) α) (Q : α → sProp 𝕄) :
    iprop(ctx kv ∗ lanePre kv true 2 c t.val ∗ owq c (O + oS true 2 c t.val) ∗ ((owq c O ∗ lanePost kv true 2 c t.val) -∗ wp frame (wpE (defs₀ (F := F)) 𝒱₀ (c : Thread nD τ) none) Set.univ k Q))
      ⊢ wp frame (wpE (defs₀ (F := F)) 𝒱₀ (c : Thread nD τ) none) Set.univ (cif (k0_cond13 t = 1#1) (fun h => Prog.lift (.waitDma2 (vD cc0_scratch14 (k0_off31 t) (k0_off31_inb t h)) (vS (Memref.whole cc0_scratch6) (k0_off32 t) (k0_off32_inb t h)) (vS (Memref.whole cc0_scratch6) (k0_off32 t) (k0_off32_inb t h)) (((Memref.isWhole_whole cc0_scratch6).wordExact_slice rfl _ (k0_off32_wordsbf16 t h)).reshape _ _) (((Memref.isWhole_whole cc0_scratch6).wordExact_slice rfl _ (k0_off32_wordsbf16 t h)).reshape _ _))) (
        cif (k0_cond14 t = 1#1) (fun h => Prog.lift (.enqueueDma (vS (Memref.whole cc0_scratch6) (k0_off36 t) (k0_off36_inb t h)) (.remote (Dev.tc (⟨k0_dev8 c, k0_dev8_lt c t h⟩ : Dev nD)) (vS (Memref.whole cc0_scratch6) (k0_off35 t) (k0_off35_inb t h)) (.dma (vD cc0_scratch13 (k0_off33 t) (k0_off33_inb t h)))) (.dma (vD cc0_scratch14 (k0_off34 t) (k0_off34_inb t h))) (((Memref.isWhole_whole cc0_scratch6).wordExact_slice rfl _ (k0_off36_wordsbf16 t h)).reshape _ _) (((Memref.isWhole_whole cc0_scratch6).wordExact_slice rfl _ (k0_off35_wordsbf16 t h)).reshape _ _) ⟨⟨rfl, Or.inl rfl⟩, trivial⟩)) k)) Q := by
  refine wp_lane kv true 2 c t.val (cond13_iff t) (cond14_iff t) ?_ ?_ ?_ ?_ ?_ ?_ (fun _ => slotBuf (kv (orig true c t.val)).v) ?_ ?_ ?_ O hO k Q
  · exact fun h => sem_v14 (1 : Fin 2) (sl t.val) _ (k0_off31_eq t)
  · exact fun _ => rfl
  · exact fun _ => Fin.ext (k0_dev8_eq c)
  · exact fun h => sem_v13 (1 : Fin 2) (sl t.val) _ (k0_off33_eq t)
  · exact fun h => sem_v14 (1 : Fin 2) (sl (t.val + 1)) _ (k0_off34_eq t)
  · exact fun _ => rfl
  · exact fun h => reg_vL c (1 : Fin 2) (sl t.val) fullShare.left _ (k0_off36_inb t h) (k0_off36_eq t)
  · exact fun h => any_vL _ (1 : Fin 2) (sl (t.val + 1)) (k0_off35_inb t h) (k0_off35_eq t)
  · exact fun h fd => land_vL _ (1 : Fin 2) (sl (t.val + 1)) (kv (orig true c t.val)) (k0_off35_inb t h) (k0_off36_inb t h) (k0_off35_eq t)
      (by rw [k0_off35_eq, k0_off36_eq]; exact Fin.cases (fun h => absurd rfl h) (fun _ _ => rfl)) fd

/-- The credits of a hop, and the keys' receives and sends on both rings. -/
theorem wp_hop17 (v4 v7 : BitVec 32) (O : Tal) (hO : Hi (t.val + 3) O) (Q : (Σ' (_ : BitVec 32) (_ : BitVec 32), BitVec 1) → sProp 𝕄) :
    iprop(ctx kv ∗ crIn (F := F) false c t.val ∗ crIn (F := F) true c t.val ∗ lanePre kv false 0 c t.val ∗ lanePre kv true 0 c t.val
        ∗ owq c (O + oS true 0 c t.val + oS false 0 c t.val)
        ∗ ((owq c O ∗ crIn (F := F) false c (t.val + 1) ∗ crIn (F := F) true c (t.val + 1) ∗ lanePost kv false 0 c t.val ∗ lanePost kv true 0 c t.val)
          -∗ Q ⟨Scf.iv 0#32 1#32 t, Scalar.remsi (Scf.iv 0#32 1#32 t) 4#32, Scalar.andi (Scalar.cmpi .sgt (Scf.iv 0#32 1#32 t) 0#32) (Scalar.cmpi .sle (Scf.iv 0#32 1#32 t) 16#32)⟩))
      ⊢ wp frame (wpE (defs₀ (F := F)) 𝒱₀ (c : Thread nD τ) none) Set.univ (atArgs (k0_part17 (F := F)) c v4 v7 0#32 1#32 t) Q := by
  have h1 : Hi (t.val + 3) (O + oS true 0 c t.val) := hO.add (Hi.oS _ _ _ _)
  have h2 : Hi (t.val + 3) (O + oS true 0 c t.val + oS false 0 c t.val) := h1.add (Hi.oS _ _ _ _)
  rw [hop17_eq]
  unfold hop17
  iintro ⟨#Hc, HR, HL, LR, LL, HO, Hk⟩
  iapply wp_cif
  iapply (wp_credit_if kv false c t.val (credR_iff t) _ h2)
  isplitr; · iexact Hc
  isplitl [HR]; · iexact HR
  isplitl [HO]; · iexact HO
  iintro ⟨HO, HR⟩
  iapply wp_cif
  iapply (wp_credit_if kv true c t.val (credL_iff t) _ h2)
  isplitr; · iexact Hc
  isplitl [HL]; · iexact HL
  isplitl [HO]; · iexact HO
  iintro ⟨HO, HL⟩
  iapply (wp_laneR0 kv c t (O + oS true 0 c t.val) h1)
  isplitr; · iexact Hc
  isplitl [LR]; · iexact LR
  isplitl [HO]; · iexact HO
  iintro ⟨HO, LR⟩
  iapply (wp_laneL0 kv c t O hO)
  isplitr; · iexact Hc
  isplitl [LL]; · iexact LL
  isplitl [HO]; · iexact HO
  iintro ⟨HO, LL⟩
  rw [wp_pure]
  imodintro
  iapply Hk
  isplitl [HO]; · iexact HO
  isplitl [HR]; · iexact HR
  isplitl [HL]; · iexact HL
  isplitl [LR]; · iexact LR
  iexact LL

/-- The values' receives and sends on both rings. -/
theorem wp_hop18 (v4 v7 arg23 : BitVec 32) (v298 : BitVec 1) (O : Tal) (hO : Hi (t.val + 3) O) (Q : PUnit → sProp 𝕄) :
    iprop(ctx kv ∗ lanePre kv false 1 c t.val ∗ lanePre kv true 1 c t.val ∗ lanePre kv false 2 c t.val ∗ lanePre kv true 2 c t.val
        ∗ owq c (O + oS true 2 c t.val + oS false 2 c t.val + oS true 1 c t.val + oS false 1 c t.val)
        ∗ ((owq c O ∗ lanePost kv false 1 c t.val ∗ lanePost kv true 1 c t.val ∗ lanePost kv false 2 c t.val ∗ lanePost kv true 2 c t.val) -∗ Q ⟨⟩))
      ⊢ wp frame (wpE (defs₀ (F := F)) 𝒱₀ (c : Thread nD τ) none) Set.univ (atArgs (k0_part18 (F := F)) c v4 v7 t arg23 v298) Q := by
  have h1 : Hi (t.val + 3) (O + oS true 2 c t.val) := hO.add (Hi.oS _ _ _ _)
  have h2 : Hi (t.val + 3) (O + oS true 2 c t.val + oS false 2 c t.val) := h1.add (Hi.oS _ _ _ _)
  have h3 : Hi (t.val + 3) (O + oS true 2 c t.val + oS false 2 c t.val + oS true 1 c t.val) := h2.add (Hi.oS _ _ _ _)
  rw [hop18_eq]
  unfold hop18
  iintro ⟨#Hc, LR1, LL1, LR2, LL2, HO, Hk⟩
  iapply (wp_laneR1 kv c t _ h3)
  isplitr; · iexact Hc
  isplitl [LR1]; · iexact LR1
  isplitl [HO]; · iexact HO
  iintro ⟨HO, LR1⟩
  iapply (wp_laneL1 kv c t _ h2)
  isplitr; · iexact Hc
  isplitl [LL1]; · iexact LL1
  isplitl [HO]; · iexact HO
  iintro ⟨HO, LL1⟩
  iapply (wp_laneR2 kv c t _ h1)
  isplitr; · iexact Hc
  isplitl [LR2]; · iexact LR2
  isplitl [HO]; · iexact HO
  iintro ⟨HO, LR2⟩
  iapply (wp_laneL2 kv c t _ hO)
  isplitr; · iexact Hc
  isplitl [LL2]; · iexact LL2
  isplitl [HO]; · iexact HO
  iintro ⟨HO, LL2⟩
  rw [wp_pure]
  imodintro
  iapply Hk
  isplitl [HO]; · iexact HO
  isplitl [LR1]; · iexact LR1
  isplitl [LL1]; · iexact LL1
  isplitl [LR2]; · iexact LR2
  iexact LL2

end Hop

end Cert.RingAttn

end
-- ==== Proof.Trip.lean ====
module

public import proofs.«01_k».proof.Proof.Hop

/-! # One hop whole -/

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

variable (kv : Dev nD → KV F)

/-- The waits for the three sends of a hop, and the credit granted then. -/
def drR {α : Type} (c : Dev nD) (t : Fin k0_t1_loop.trips) (k : Prog (TpuEff nD τ sig (Elt F) Λ₀ .tc) α) : Prog (TpuEff nD τ sig (Elt F) Λ₀ .tc) α :=
  if h : k0_cond17 t = 1#1 then do
    Prog.lift (.waitDma2 (kD cc0_scratch7 (k0_off41 t) (k0_off41_inb t h)) (kS (Memref.whole cc0_scratch3) (k0_off43 t) (k0_off43_inb t h)) (kS (Memref.whole cc0_scratch3) (k0_off42 t) (k0_off42_inb t h)) (((Memref.isWhole_whole cc0_scratch3).wordExact_slice rfl _ (k0_off43_wordsfp8e4m3 t h)).reshape _ _) (((Memref.isWhole_whole cc0_scratch3).wordExact_slice rfl _ (k0_off42_wordsfp8e4m3 t h)).reshape _ _))
    Prog.lift (.waitDma2 (vD cc0_scratch9 (k0_off44 t) (k0_off44_inb t h)) (vS (Memref.whole cc0_scratch4) (k0_off46 t) (k0_off46_inb t h)) (vS (Memref.whole cc0_scratch4) (k0_off45 t) (k0_off45_inb t h)) (((Memref.isWhole_whole cc0_scratch4).wordExact_slice rfl _ (k0_off46_wordsbf16 t h)).reshape _ _) (((Memref.isWhole_whole cc0_scratch4).wordExact_slice rfl _ (k0_off45_wordsbf16 t h)).reshape _ _))
    Prog.lift (.waitDma2 (vD cc0_scratch9 (k0_off47 t) (k0_off47_inb t h)) (vS (Memref.whole cc0_scratch4) (k0_off49 t) (k0_off49_inb t h)) (vS (Memref.whole cc0_scratch4) (k0_off48 t) (k0_off48_inb t h)) (((Memref.isWhole_whole cc0_scratch4).wordExact_slice rfl _ (k0_off49_wordsbf16 t h)).reshape _ _) (((Memref.isWhole_whole cc0_scratch4).wordExact_slice rfl _ (k0_off48_wordsbf16 t h)).reshape _ _))
    cif (k0_cond18 t = 1#1) (fun h' => semSignalWord (⟨k0_dev9 c, k0_dev9_lt c t h h'⟩ : Dev nD) (crS false) 1#32) k
  else k

/-- The waits for the three sends of a hop, and the credit granted then. -/
def drL {α : Type} (c : Dev nD) (t : Fin k0_t1_loop.trips) (k : Prog (TpuEff nD τ sig (Elt F) Λ₀ .tc) α) : Prog (TpuEff nD τ sig (Elt F) Λ₀ .tc) α :=
  if h : k0_cond19 t = 1#1 then do
    Prog.lift (.waitDma2 (kD cc0_scratch11 (k0_off50 t) (k0_off50_inb t h)) (kS (Memref.whole cc0_scratch5) (k0_off52 t) (k0_off52_inb t h)) (kS (Memref.whole cc0_scratch5) (k0_off51 t) (k0_off51_inb t h)) (((Memref.isWhole_whole cc0_scratch5).wordExact_slice rfl _ (k0_off52_wordsfp8e4m3 t h)).reshape _ _) (((Memref.isWhole_whole cc0_scratch5).wordExact_slice rfl _ (k0_off51_wordsfp8e4m3 t h)).reshape _ _))
    Prog.lift (.waitDma2 (vD cc0_scratch13 (k0_off53 t) (k0_off53_inb t h)) (vS (Memref.whole cc0_scratch6) (k0_off55 t) (k0_off55_inb t h)) (vS (Memref.whole cc0_scratch6) (k0_off54 t) (k0_off54_inb t h)) (((Memref.isWhole_whole cc0_scratch6).wordExact_slice rfl _ (k0_off55_wordsbf16 t h)).reshape _ _) (((Memref.isWhole_whole cc0_scratch6).wordExact_slice rfl _ (k0_off54_wordsbf16 t h)).reshape _ _))
    Prog.lift (.waitDma2 (vD cc0_scratch13 (k0_off56 t) (k0_off56_inb t h)) (vS (Memref.whole cc0_scratch6) (k0_off58 t) (k0_off58_inb t h)) (vS (Memref.whole cc0_scratch6) (k0_off57 t) (k0_off57_inb t h)) (((Memref.isWhole_whole cc0_scratch6).wordExact_slice rfl _ (k0_off58_wordsbf16 t h)).reshape _ _) (((Memref.isWhole_whole cc0_scratch6).wordExact_slice rfl _ (k0_off57_wordsbf16 t h)).reshape _ _))
    cif (k0_cond20 t = 1#1) (fun h' => semSignalWord (⟨k0_dev10 c, k0_dev10_lt c t h h'⟩ : Dev nD) (crS true) 1#32) k
  else k

/-- Something done before `k` when `P` holds. -/
def cifk {α : Type} (P : Prop) [Decidable P] (X : P → Prog (TpuEff nD τ sig (Elt F) Λ₀ .tc) α → Prog (TpuEff nD τ sig (Elt F) Λ₀ .tc) α)
    (k : Prog (TpuEff nD τ sig (Elt F) Λ₀ .tc) α) : Prog (TpuEff nD τ sig (Elt F) Λ₀ .tc) α := if h : P then X h k else k

section Trip
variable (c : Dev nD) (t : Fin k0_t1_loop.trips)

set_option maxRecDepth 65536 in
/-- The loop's body, as its steps. -/
theorem trip_eq (v2 v4 v7 v129 : BitVec 32) (v130 : IVec S256x256 32) (c64 : BitVec 32) (v132 v139 : IVec S256x256 32) (c0 : BitVec 32) (u : Unit) :
    atArgs (k0_t1_body (F := F)) c v2 v4 v7 v129 v130 c64 v132 v139 c0 t u
      = (hop17 c t >>= fun r => hop18 c t >>= fun _ =>
          cifk (k0_cond15 t = 1#1) (fun h k => accR v2 (k0_pay103 v129 v130 c64 v132 v139 c0) k0_pay104 t r.1 r.2.1 h k)
            (cifk (k0_cond16 t = 1#1) (fun h k => accL v2 (k0_pay103 v129 v130 c64 v132 v139 c0) k0_pay104 t r.1 r.2.1 h k)
              (drR c t (drL c t (pure ⟨⟩))))) := by
  unfold atArgs k0_t1_body
  rw [← hop17_eq c t v4 v7]
  refine congrArg (fun f => Prog.bind _ f) (funext fun ⟨a, b, d⟩ => ?_)
  rw [← hop18_eq c t v4 v7 a d]
  refine congrArg (fun f => Prog.bind _ f) (funext fun _ => ?_)
  unfold cifk drR drL cif
  rfl

/-- The waits for the sends of a hop hand the slots back. -/
theorem wp_drR {α : Type} (O : Tal) (hO : Hi 1 O) (k : Prog (TpuEff nD τ sig (Elt F) Λ₀ .tc) α) (Q : α → sProp 𝕄) :
    iprop(ctx kv ∗ (drainIn kv false 0 c t.val ∗ drainIn kv false 1 c t.val ∗ drainIn kv false 2 c t.val) ∗ crToks (F := F) false c t.val ∗ owq c (O + oC false c t.val)
        ∗ ((owq c O ∗ (drainOut (F := F) false 0 c t.val ∗ drainOut (F := F) false 1 c t.val ∗ drainOut (F := F) false 2 c t.val) ∗ crToks (F := F) false c (t.val + 1)) -∗ wp frame (wpE (defs₀ (F := F)) 𝒱₀ (c : Thread nD τ) none) Set.univ k Q))
      ⊢ wp frame (wpE (defs₀ (F := F)) 𝒱₀ (c : Thread nD τ) none) Set.univ (drR c t k) Q := by
  have hO' : Hi 1 (O + oC false c t.val) := hO.add ((Hi.oC _ _ _).mono (by omega))
  unfold drR
  by_cases hp : k0_cond17 t = 1#1
  · have hh := (cond17_iff t).mp hp
    rw [dif_pos hp, wp_bind]
    iintro ⟨#Hc, ⟨H0, H1, H2⟩, HT, HO, Hk⟩
    iapply (wp_drain_lane kv false 0 c t.val hh (sem_k7 (sl t.val) _ (k0_off41_eq t)) rfl _ hO')
    isplitr; · iexact Hc
    isplitl [H0]; · iexact H0
    isplitl [HO]; · iexact HO
    iintro ⟨HO, H0⟩
    rw [wp_bind]
    iapply (wp_drain_lane kv false 1 c t.val hh (sem_v9 (0 : Fin 2) (sl t.val) _ (k0_off44_eq t)) rfl _ hO')
    isplitr; · iexact Hc
    isplitl [H1]; · iexact H1
    isplitl [HO]; · iexact HO
    iintro ⟨HO, H1⟩
    rw [wp_bind]
    iapply (wp_drain_lane kv false 2 c t.val hh (sem_v9 (1 : Fin 2) (sl t.val) _ (k0_off47_eq t)) rfl _ hO')
    isplitr; · iexact Hc
    isplitl [H2]; · iexact H2
    isplitl [HO]; · iexact HO
    iintro ⟨HO, H2⟩
    iapply wp_cif
    iapply (wp_grant_if kv false c t.val (cond18_iff t) (fun _ => Fin.ext (k0_dev9_eq c)) O)
    isplitr; · iexact Hc
    isplitl [HT]; · iexact HT
    isplitl [HO]; · iexact HO
    iintro ⟨HO, HT⟩
    iapply Hk
    isplitl [HO]; · iexact HO
    isplitr [HT]
    · isplitl [H0]; · iexact H0
      isplitl [H1]; · iexact H1
      iexact H2
    iexact HT
  · have hh : hops false ≤ t.val := not_lt.mp (mt (cond17_iff t).mpr hp)
    rw [dif_neg hp]
    iintro ⟨-, ⟨H0, H1, H2⟩, HT, HO, Hk⟩
    ihave HT := (grant_none false c t.val hh O) $$ [HT HO]
    · isplitl [HT]; · iexact HT
      iexact HO
    icases HT with ⟨HT, HO⟩
    iapply Hk
    isplitl [HO]; · iexact HO
    isplitr [HT]
    · isplitl [H0]; · iapply (drain_none kv false 0 c t.val hh); iexact H0
      isplitl [H1]; · iapply (drain_none kv false 1 c t.val hh); iexact H1
      iapply (drain_none kv false 2 c t.val hh); iexact H2
    iexact HT

/-- The waits for the sends of a hop hand the slots back. -/
theorem wp_drL {α : Type} (O : Tal) (hO : Hi 1 O) (k : Prog (TpuEff nD τ sig (Elt F) Λ₀ .tc) α) (Q : α → sProp 𝕄) :
    iprop(ctx kv ∗ (drainIn kv true 0 c t.val ∗ drainIn kv true 1 c t.val ∗ drainIn kv true 2 c t.val) ∗ crToks (F := F) true c t.val ∗ owq c (O + oC true c t.val)
        ∗ ((owq c O ∗ (drainOut (F := F) true 0 c t.val ∗ drainOut (F := F) true 1 c t.val ∗ drainOut (F := F) true 2 c t.val) ∗ crToks (F := F) true c (t.val + 1)) -∗ wp frame (wpE (defs₀ (F := F)) 𝒱₀ (c : Thread nD τ) none) Set.univ k Q))
      ⊢ wp frame (wpE (defs₀ (F := F)) 𝒱₀ (c : Thread nD τ) none) Set.univ (drL c t k) Q := by
  have hO' : Hi 1 (O + oC true c t.val) := hO.add ((Hi.oC _ _ _).mono (by omega))
  unfold drL
  by_cases hp : k0_cond19 t = 1#1
  · have hh := (cond19_iff t).mp hp
    rw [dif_pos hp, wp_bind]
    iintro ⟨#Hc, ⟨H0, H1, H2⟩, HT, HO, Hk⟩
    iapply (wp_drain_lane kv true 0 c t.val hh (sem_k11 (sl t.val) _ (k0_off50_eq t)) rfl _ hO')
    isplitr; · iexact Hc
    isplitl [H0]; · iexact H0
    isplitl [HO]; · iexact HO
    iintro ⟨HO, H0⟩
    rw [wp_bind]
    iapply (wp_drain_lane kv true 1 c t.val hh (sem_v13 (0 : Fin 2) (sl t.val) _ (k0_off53_eq t)) rfl _ hO')
    isplitr; · iexact Hc
    isplitl [H1]; · iexact H1
    isplitl [HO]; · iexact HO
    iintro ⟨HO, H1⟩
    rw [wp_bind]
    iapply (wp_drain_lane kv true 2 c t.val hh (sem_v13 (1 : Fin 2) (sl t.val) _ (k0_off56_eq t)) rfl _ hO')
    isplitr; · iexact Hc
    isplitl [H2]; · iexact H2
    isplitl [HO]; · iexact HO
    iintro ⟨HO, H2⟩
    iapply wp_cif
    iapply (wp_grant_if kv true c t.val (cond20_iff t) (fun _ => Fin.ext (k0_dev10_eq c)) O)
    isplitr; · iexact Hc
    isplitl [HT]; · iexact HT
    isplitl [HO]; · iexact HO
    iintro ⟨HO, HT⟩
    iapply Hk
    isplitl [HO]; · iexact HO
    isplitr [HT]
    · isplitl [H0]; · iexact H0
      isplitl [H1]; · iexact H1
      iexact H2
    iexact HT
  · have hh : hops true ≤ t.val := not_lt.mp (mt (cond19_iff t).mpr hp)
    rw [dif_neg hp]
    iintro ⟨-, ⟨H0, H1, H2⟩, HT, HO, Hk⟩
    ihave HT := (grant_none true c t.val hh O) $$ [HT HO]
    · isplitl [HT]; · iexact HT
      iexact HO
    icases HT with ⟨HT, HO⟩
    iapply Hk
    isplitl [HO]; · iexact HO
    isplitr [HT]
    · isplitl [H0]; · iapply (drain_none kv true 0 c t.val hh); iexact H0
      isplitl [H1]; · iapply (drain_none kv true 1 c t.val hh); iexact H1
      iapply (drain_none kv true 2 c t.val hh); iexact H2
    iexact HT

/-- The three parts of the message that a device reads at hop `g`. -/
def curs (R : Bool) (g : ℕ) : sProp 𝕄 :=
  iprop(cur kv R 0 c g fullShare.right ∗ cur kv R 1 c g fullShare.right ∗ cur kv R 2 c g fullShare.right)

theorem wp_accR {α : Type} (v2 : BitVec 32) (rows cols : IVec S256x256 32) (arg23 v267 : BitVec 32) (Qv : Fin 2 → Fin 4 → VQ F) (A : Fin 2 → Fin 4 → VA F) (L : Fin 2 → Fin 4 → VL F)
    (hp : k0_cond15 t = 1#1) (k : Prog (TpuEff nD τ sig (Elt F) Λ₀ .tc) α) (Q : α → sProp 𝕄) :
    iprop(qPts c Qv ∗ curs kv c false t.val ∗ aPts c A ∗ lPts c L
        ∗ ((qPts c Qv ∗ curs kv c false t.val ∗ aPts c (stepA (k0_pay2 (F := F) v2 rows cols arg23) (kv (orig false c t.val)) Qv A)
            ∗ lPts c (stepL (k0_pay2 (F := F) v2 rows cols arg23) (kv (orig false c t.val)) Qv L)) -∗ wp frame (wpE (defs₀ (F := F)) 𝒱₀ (c : Thread nD τ) none) Set.univ k Q))
      ⊢ wp frame (wpE (defs₀ (F := F)) 𝒱₀ (c : Thread nD τ) none) Set.univ (cifk (k0_cond15 t = 1#1) (fun h k => accR v2 rows cols t arg23 v267 h k) k) Q := by
  have hg : t.val ≤ hops false := (cond15_iff t).mp hp
  unfold cifk curs
  rw [dif_pos hp]
  dsimp only
  rw [accR_eq, wp_bind]
  unfold cur
  simp only [if_pos hg]
  iintro ⟨Hq, ⟨⟨H0, #r0⟩, ⟨H1, #r1⟩, ⟨H2, #r2⟩⟩, Ha, Hl, Hk⟩
  iapply (wp_turns c false (sl t.val) fullShare.right (kv (orig false c t.val)) (k0_off37_inb t hp) (k0_off38_inb t hp) (k0_off37_eq t) (k0_off38_eq t))
  isplitl [Hq]; · iexact Hq
  isplitl [H0 H1 H2]
  · isplitl [H0]; · iexact H0
    isplitl [H1]; · iexact H1
    iexact H2
  isplitl [Ha]; · iexact Ha
  isplitl [Hl]; · iexact Hl
  iintro ⟨Hq, ⟨H0, H1, H2⟩, Ha, Hl⟩
  iapply Hk
  isplitl [Hq]; · iexact Hq
  isplitl [H0 H1 H2]
  · isplitl [H0]
    · isplitl [H0]; · iexact H0
      iexact r0
    isplitl [H1]
    · isplitl [H1]; · iexact H1
      iexact r1
    isplitl [H2]; · iexact H2
    iexact r2
  isplitl [Ha]; · iexact Ha
  iexact Hl

theorem wp_accL {α : Type} (v2 : BitVec 32) (rows cols : IVec S256x256 32) (arg23 v267 : BitVec 32) (Qv : Fin 2 → Fin 4 → VQ F) (A : Fin 2 → Fin 4 → VA F) (L : Fin 2 → Fin 4 → VL F)
    (hp : k0_cond16 t = 1#1) (k : Prog (TpuEff nD τ sig (Elt F) Λ₀ .tc) α) (Q : α → sProp 𝕄) :
    iprop(qPts c Qv ∗ curs kv c true t.val ∗ aPts c A ∗ lPts c L
        ∗ ((qPts c Qv ∗ curs kv c true t.val ∗ aPts c (stepA (k0_pay42 (F := F) v2 rows cols arg23) (kv (orig true c t.val)) Qv A)
            ∗ lPts c (stepL (k0_pay42 (F := F) v2 rows cols arg23) (kv (orig true c t.val)) Qv L)) -∗ wp frame (wpE (defs₀ (F := F)) 𝒱₀ (c : Thread nD τ) none) Set.univ k Q))
      ⊢ wp frame (wpE (defs₀ (F := F)) 𝒱₀ (c : Thread nD τ) none) Set.univ (cifk (k0_cond16 t = 1#1) (fun h k => accL v2 rows cols t arg23 v267 h k) k) Q := by
  have hg : t.val ≤ hops true := ((cond16_iff t).mp hp).2
  unfold cifk curs
  rw [dif_pos hp]
  dsimp only
  rw [accL_eq, wp_bind]
  unfold cur
  simp only [if_pos hg]
  iintro ⟨Hq, ⟨⟨H0, #r0⟩, ⟨H1, #r1⟩, ⟨H2, #r2⟩⟩, Ha, Hl, Hk⟩
  iapply (wp_turns c true (sl t.val) fullShare.right (kv (orig true c t.val)) (k0_off39_inb t hp) (k0_off40_inb t hp) (k0_off39_eq t) (k0_off40_eq t))
  isplitl [Hq]; · iexact Hq
  isplitl [H0 H1 H2]
  · isplitl [H0]; · iexact H0
    isplitl [H1]; · iexact H1
    iexact H2
  isplitl [Ha]; · iexact Ha
  isplitl [Hl]; · iexact Hl
  iintro ⟨Hq, ⟨H0, H1, H2⟩, Ha, Hl⟩
  iapply Hk
  isplitl [Hq]; · iexact Hq
  isplitl [H0 H1 H2]
  · isplitl [H0]
    · isplitl [H0]; · iexact H0
      iexact r0
    isplitl [H1]
    · isplitl [H1]; · iexact H1
      iexact r1
    isplitl [H2]; · iexact H2
    iexact r2
  isplitl [Ha]; · iexact Ha
  iexact Hl

/-! ## The accumulators from hop to hop -/

/-- The two accumulators, by batch entry and head. -/
abbrev AL (F : FTy → Type) [FloatOps F] := (Fin 2 → Fin 4 → VA F) × (Fin 2 → Fin 4 → VL F)

/-- The accumulators after another message, under a mask's bias. -/
def stepAL (bias : FVec F S256x256 .f32) (x : KV F) (Qv : Fin 2 → Fin 4 → VQ F) (s : AL F) : AL F :=
  (stepA bias x Qv s.1, stepL bias x Qv s.2)

/-- The accumulators after hop `g`: the right ring's message, and, between the first hop and the last, the left ring's. -/
def hopAL (v2 : BitVec 32) (rows cols : IVec S256x256 32) (Qv : Fin 2 → Fin 4 → VQ F) (g : ℕ) (s : AL F) : AL F :=
  if 1 ≤ g ∧ g ≤ hops true then
    stepAL (k0_pay42 (F := F) v2 rows cols (Scf.iv 0#32 1#32 g)) (kv (orig true c g)) Qv
      (stepAL (k0_pay2 (F := F) v2 rows cols (Scf.iv 0#32 1#32 g)) (kv (orig false c g)) Qv s)
  else stepAL (k0_pay2 (F := F) v2 rows cols (Scf.iv 0#32 1#32 g)) (kv (orig false c g)) Qv s

/-- Both accumulations of a hop. -/
theorem wp_accs {α : Type} (v2 : BitVec 32) (rows cols : IVec S256x256 32) (v267 : BitVec 32) (Qv : Fin 2 → Fin 4 → VQ F) (s : AL F)
    (k : Prog (TpuEff nD τ sig (Elt F) Λ₀ .tc) α) (Q : α → sProp 𝕄) :
    iprop(qPts c Qv ∗ curs kv c false t.val ∗ curs kv c true t.val ∗ aPts c s.1 ∗ lPts c s.2
        ∗ ((qPts c Qv ∗ curs kv c false t.val ∗ curs kv c true t.val ∗ aPts c (hopAL kv c v2 rows cols Qv t.val s).1 ∗ lPts c (hopAL kv c v2 rows cols Qv t.val s).2) -∗ wp frame (wpE (defs₀ (F := F)) 𝒱₀ (c : Thread nD τ) none) Set.univ k Q))
      ⊢ wp frame (wpE (defs₀ (F := F)) 𝒱₀ (c : Thread nD τ) none) Set.univ (cifk (k0_cond15 t = 1#1) (fun h k => accR v2 rows cols t (Scf.iv 0#32 1#32 t) v267 h k)
          (cifk (k0_cond16 t = 1#1) (fun h k => accL v2 rows cols t (Scf.iv 0#32 1#32 t) v267 h k) k)) Q := by
  have h15 : k0_cond15 t = 1#1 := (cond15_iff t).mpr (by have := t.isLt.trans_le k0_t1_abs.2.1; show t.val ≤ 16; omega)
  iintro ⟨Hq, HR, HL, Ha, Hl, Hk⟩
  iapply (wp_accR kv c t v2 rows cols (Scf.iv 0#32 1#32 t) v267 Qv s.1 s.2 h15)
  isplitl [Hq]; · iexact Hq
  isplitl [HR]; · iexact HR
  isplitl [Ha]; · iexact Ha
  isplitl [Hl]; · iexact Hl
  iintro ⟨Hq, HR, Ha, Hl⟩
  by_cases h16 : k0_cond16 t = 1#1
  · iapply (wp_accL kv c t v2 rows cols (Scf.iv 0#32 1#32 t) v267 Qv _ _ h16)
    isplitl [Hq]; · iexact Hq
    isplitl [HL]; · iexact HL
    isplitl [Ha]; · iexact Ha
    isplitl [Hl]; · iexact Hl
    iintro ⟨Hq, HL, Ha, Hl⟩
    iapply Hk
    unfold hopAL
    rw [if_pos ((cond16_iff t).mp h16)]
    isplitl [Hq]; · iexact Hq
    isplitl [HR]; · iexact HR
    isplitl [HL]; · iexact HL
    isplitl [Ha]; · iexact Ha
    iexact Hl
  · unfold cifk
    rw [dif_neg h16]
    iapply Hk
    unfold hopAL
    rw [if_neg (mt (cond16_iff t).mpr h16)]
    isplitl [Hq]; · iexact Hq
    isplitl [HR]; · iexact HR
    isplitl [HL]; · iexact HL
    isplitl [Ha]; · iexact Ha
    iexact Hl

/-! ## The trip -/

theorem ring_open (R : Bool) (g : ℕ) : (ringSt kv R c g : sProp 𝕄) ⊢ iprop((laneSt kv R c g 0 ∗ laneSt kv R c g 1 ∗ laneSt kv R c g 2)
    ∗ ((if g < hops R then slotL (F := F) R 0 (dst R c) g else iprop(emp)) ∗ (if g < hops R then slotL (F := F) R 1 (dst R c) g else iprop(emp))
      ∗ (if g < hops R then slotL (F := F) R 2 (dst R c) g else iprop(emp)))
    ∗ freed (F := F) (!R) c g ∗ crIn (F := F) R c g ∗ crToks (F := F) R c g ∗ destMid (F := F) R c g ∗ keptSt (F := F) R c g) := by
  unfold ringSt
  iintro ⟨H0, H1, H2, HD, HF, HK, HC, HT⟩
  ihave HD := (Entails.of_eq (dest_pop R c g)) $$ HD
  icases HD with ⟨HS, HD⟩
  ihave HS := (slotIf_split R c g) $$ HS
  isplitl [H0 H1 H2]
  · isplitl [H0]; · iexact H0
    isplitl [H1]; · iexact H1
    iexact H2
  isplitl [HS]; · iexact HS
  isplitl [HF]; · iexact HF
  isplitl [HC]; · iexact HC
  isplitl [HT]; · iexact HT
  isplitl [HD]; · iexact HD
  iexact HK

theorem ring_close (R : Bool) (g : ℕ) (hg : g ≤ 16) : iprop((laneMid (F := F) R c g 0 ∗ laneMid (F := F) R c g 1 ∗ laneMid (F := F) R c g 2)
    ∗ (drainOut (F := F) R 0 c g ∗ drainOut (F := F) R 1 c g ∗ drainOut (F := F) R 2 c g) ∗ extra (F := F) (!R) 0 c g
    ∗ crIn (F := F) R c (g + 1) ∗ crToks (F := F) R c (g + 1) ∗ destMid (F := F) R c g ∗ keptSt (F := F) R c g) ⊢ ringSt kv R c (g + 1) := by
  unfold ringSt drainOut
  iintro ⟨⟨M0, M1, M2⟩, ⟨⟨W0, D0⟩, ⟨W1, D1⟩, ⟨W2, D2⟩⟩, HE, HC, HT, HD, HK⟩
  ihave HF := (done_split R c g) $$ [D0 D1 D2 HK]
  · isplitr [HK]
    · isplitl [D0]; · iexact D0
      isplitl [D1]; · iexact D1
      iexact D2
    iexact HK
  icases HF with ⟨HF, HK⟩
  isplitl [M0 W0]
  · iapply (lane_next kv R c g 0)
    isplitl [M0]; · iexact M0
    iexact W0
  isplitl [M1 W1]
  · iapply (lane_next kv R c g 1)
    isplitl [M1]; · iexact M1
    iexact W1
  isplitl [M2 W2]
  · iapply (lane_next kv R c g 2)
    isplitl [M2]; · iexact M2
    iexact W2
  isplitl [HD HE]
  · iapply (dest_push R c g hg)
    isplitl [HD]; · iexact HD
    iexact HE
  isplitl [HF]; · iexact HF
  isplitl [HK]; · iexact HK
  isplitl [HC]; · iexact HC
  iexact HT

/-- Before a hop the rings are as `ringSt` says, and after it as `ringSt` says for the next hop; the accumulators have gained the hop's messages. -/
theorem wp_trip (v2 v4 v7 v129 : BitVec 32) (v130 : IVec S256x256 32) (c64 : BitVec 32) (v132 v139 : IVec S256x256 32) (c0 : BitVec 32) (u : Unit)
    (Qv : Fin 2 → Fin 4 → VQ F) (s : AL F) (Q : Unit → sProp 𝕄) :
    iprop(ctx kv ∗ (ringSt kv false c t.val ∗ ringSt kv true c t.val ∗ owq c (ow c t.val) ∗ qPts c Qv ∗ aPts c s.1 ∗ lPts c s.2)
        ∗ ((ringSt kv false c (t.val + 1) ∗ ringSt kv true c (t.val + 1) ∗ owq c (ow c (t.val + 1)) ∗ qPts c Qv
            ∗ aPts c (hopAL kv c v2 (k0_pay103 v129 v130 c64 v132 v139 c0) k0_pay104 Qv t.val s).1
            ∗ lPts c (hopAL kv c v2 (k0_pay103 v129 v130 c64 v132 v139 c0) k0_pay104 Qv t.val s).2) -∗ Q ⟨⟩))
      ⊢ wp frame (wpE (defs₀ (F := F)) 𝒱₀ (c : Thread nD τ) none) Set.univ (atArgs (k0_t1_body (F := F)) c v2 v4 v7 v129 v130 c64 v132 v139 c0 t u) Q := by
  have ht : t.val < 17 := t.isLt.trans_le k0_t1_abs.2.1
  have ho : Hi (t.val + 3) (ow c (t.val + 1)) := (Hi.ow c (t.val + 1) (by omega)).mono (by omega)
  have hoL : Hi (t.val + 3) (ow c (t.val + 1) + oC true c t.val) := ho.add ((Hi.oC _ _ _).mono (by omega))
  have hoR : Hi (t.val + 3) (ow c (t.val + 1) + oC true c t.val + oC false c t.val) := hoL.add ((Hi.oC _ _ _).mono (by omega))
  have h17 := fun O hO Q => wp_hop17 (F := F) kv c t v4 v7 O hO Q
  have h18 := fun O hO Q => wp_hop18 (F := F) kv c t v4 v7 0#32 0#1 O hO Q
  simp only [hop17_eq] at h17
  simp only [hop18_eq] at h18
  rw [trip_eq, ow_step c t.val ht, wp_bind]
  iintro ⟨#Hc, ⟨SR, SL, HO, Hq, Ha, Hl⟩, Hk⟩
  ihave SR := (ring_open kv c false t.val) $$ SR
  icases SR with ⟨⟨R0, R1, R2⟩, ⟨RS0, RS1, RS2⟩, RF, RC, RT, RD, RK⟩
  ihave SL := (ring_open kv c true t.val) $$ SL
  icases SL with ⟨⟨L0, L1, L2⟩, ⟨LS0, LS1, LS2⟩, LF, LC, LT, LD, LK⟩
  iapply (h17 _ (((((hoR.add (Hi.oS _ _ _ _)).add (Hi.oS _ _ _ _)).add (Hi.oS _ _ _ _)).add (Hi.oS _ _ _ _))))
  isplitr; · iexact Hc
  isplitl [RC]; · iexact RC
  isplitl [LC]; · iexact LC
  isplitl [R0 RS0 LF]
  · unfold lanePre
    rw [if_pos (show (0 : Fin 3).val = 0 from rfl)]
    isplitl [R0]; · iexact R0
    isplitl [RS0]; · iexact RS0
    iexact LF
  isplitl [L0 LS0 RF]
  · unfold lanePre
    rw [if_pos (show (0 : Fin 3).val = 0 from rfl)]
    isplitl [L0]; · iexact L0
    isplitl [LS0]; · iexact LS0
    iexact RF
  isplitl [HO]; · iexact HO
  iintro ⟨HO, RC, LC, R0, L0⟩
  rw [wp_bind]
  iapply (h18 _ hoR)
  isplitr; · iexact Hc
  isplitl [R1 RS1]
  · unfold lanePre
    isplitl [R1]; · iexact R1
    isplitl [RS1]; · iexact RS1
    iempintro
  isplitl [L1 LS1]
  · unfold lanePre
    isplitl [L1]; · iexact L1
    isplitl [LS1]; · iexact LS1
    iempintro
  isplitl [R2 RS2]
  · unfold lanePre
    isplitl [R2]; · iexact R2
    isplitl [RS2]; · iexact RS2
    iempintro
  isplitl [L2 LS2]
  · unfold lanePre
    isplitl [L2]; · iexact L2
    isplitl [LS2]; · iexact LS2
    iempintro
  isplitl [HO]; · iexact HO
  iintro ⟨HO, R1, L1, R2, L2⟩
  unfold lanePost
  icases R0 with ⟨RM0, RW0, R0, RY0, RX⟩
  icases R1 with ⟨RM1, RW1, R1, RY1, -⟩
  icases R2 with ⟨RM2, RW2, R2, RY2, -⟩
  icases L0 with ⟨LM0, LW0, L0, LY0, LX⟩
  icases L1 with ⟨LM1, LW1, L1, LY1, -⟩
  icases L2 with ⟨LM2, LW2, L2, LY2, -⟩
  iapply (wp_accs kv c t v2 (k0_pay103 v129 v130 c64 v132 v139 c0) k0_pay104 _ Qv s)
  isplitl [Hq]; · iexact Hq
  isplitl [R0 R1 R2]
  · unfold curs
    isplitl [R0]; · iexact R0
    isplitl [R1]; · iexact R1
    iexact R2
  isplitl [L0 L1 L2]
  · unfold curs
    isplitl [L0]; · iexact L0
    isplitl [L1]; · iexact L1
    iexact L2
  isplitl [Ha]; · iexact Ha
  isplitl [Hl]; · iexact Hl
  iintro ⟨Hq, HR, HL, Ha, Hl⟩
  unfold curs
  icases HR with ⟨R0, R1, R2⟩
  icases HL with ⟨L0, L1, L2⟩
  iapply (wp_drR kv c t _ (hoL.mono (by omega)))
  isplitr; · iexact Hc
  isplitl [R0 R1 R2 RW0 RW1 RW2 RY0 RY1 RY2]
  · unfold drainIn
    isplitl [R0 RW0 RY0]
    · isplitl [RW0]; · iexact RW0
      isplitl [R0]; · iexact R0
      iexact RY0
    isplitl [R1 RW1 RY1]
    · isplitl [RW1]; · iexact RW1
      isplitl [R1]; · iexact R1
      iexact RY1
    isplitl [RW2]; · iexact RW2
    isplitl [R2]; · iexact R2
    iexact RY2
  isplitl [RT]; · iexact RT
  isplitl [HO]; · iexact HO
  iintro ⟨HO, ⟨RW0, RW1, RW2⟩, RT⟩
  iapply (wp_drL kv c t _ (ho.mono (by omega)))
  isplitr; · iexact Hc
  isplitl [L0 L1 L2 LW0 LW1 LW2 LY0 LY1 LY2]
  · unfold drainIn
    isplitl [L0 LW0 LY0]
    · isplitl [LW0]; · iexact LW0
      isplitl [L0]; · iexact L0
      iexact LY0
    isplitl [L1 LW1 LY1]
    · isplitl [LW1]; · iexact LW1
      isplitl [L1]; · iexact L1
      iexact LY1
    isplitl [LW2]; · iexact LW2
    isplitl [L2]; · iexact L2
    iexact LY2
  isplitl [LT]; · iexact LT
  isplitl [HO]; · iexact HO
  iintro ⟨HO, ⟨LW0, LW1, LW2⟩, LT⟩
  rw [wp_pure]
  imodintro
  iapply Hk
  isplitl [RM0 RM1 RM2 RW0 RW1 RW2 LX RC RT RD RK]
  · iapply (ring_close kv c false t.val (by omega))
    isplitl [RM0 RM1 RM2]
    · isplitl [RM0]; · iexact RM0
      isplitl [RM1]; · iexact RM1
      iexact RM2
    isplitl [RW0 RW1 RW2]
    · isplitl [RW0]; · iexact RW0
      isplitl [RW1]; · iexact RW1
      iexact RW2
    isplitl [LX]; · iexact LX
    isplitl [RC]; · iexact RC
    isplitl [RT]; · iexact RT
    isplitl [RD]; · iexact RD
    iexact RK
  isplitl [LM0 LM1 LM2 LW0 LW1 LW2 RX LC LT LD LK]
  · iapply (ring_close kv c true t.val (by omega))
    isplitl [LM0 LM1 LM2]
    · isplitl [LM0]; · iexact LM0
      isplitl [LM1]; · iexact LM1
      iexact LM2
    isplitl [LW0 LW1 LW2]
    · isplitl [LW0]; · iexact LW0
      isplitl [LW1]; · iexact LW1
      iexact LW2
    isplitl [RX]; · iexact RX
    isplitl [LC]; · iexact LC
    isplitl [LT]; · iexact LT
    isplitl [LD]; · iexact LD
    iexact LK
  isplitl [HO]; · iexact HO
  isplitl [Hq]; · iexact Hq
  isplitl [Ha]; · iexact Ha
  iexact Hl

end Trip

end Cert.RingAttn

end
-- ==== Proof.Ends.lean ====
module

public import proofs.«01_k».proof.Proof.Trip

/-! # The body around its loop: as text, and its pieces' rules -/

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

variable (kv : Dev nD → KV F)

/-! ## The text -/

theorem xRect_inb (b : Fin 2) : ∀ a, (![b.val, 0, 0] : Fin 3 → ℕ) a + S1x256x512.size a ≤ S2x256x512.size a := by revert b; decide
theorem wqRect_inb (h : Fin 4) : ∀ a, (![0, 64 * h.val] : Fin 2 → ℕ) a + S512x64.size a ≤ S512x256.size a := by revert h; decide
theorem woRect_inb (h : Fin 4) : ∀ a, (![64 * h.val, 0] : Fin 2 → ℕ) a + S64x512.size a ≤ S256x512.size a := by revert h; decide

/-- A batch entry of the activations, and of the result; -/
abbrev xRect (b : Fin 2) : Rect S2x256x512 := Rect.unit (s := S2x256x512) ![b.val, 0, 0] S1x256x512.size (xRect_inb b)
/-- a head's columns of the query weights; -/
abbrev wqRect (h : Fin 4) : Rect S512x256 := Rect.unit (s := S512x256) ![0, 64 * h.val] S512x64.size (wqRect_inb h)
/-- a head's rows of the output weights; -/
abbrev woRect (h : Fin 4) : Rect S256x512 := Rect.unit (s := S256x512) ![64 * h.val, 0] S64x512.size (woRect_inb h)
/-- the first slot of an exchange buffer. -/
abbrev slot0 : Rect S4x2x256x256 := Rect.unit (s := S4x2x256x256) ![0, 0, 0, 0] S1x2x256x256.size inb_S4x2x256x256_S1x2x256x256_0_0_0_0

abbrev xM : Memref sig .tc .vmem S2x256x512 .f32 := Memref.whole cc0_stg0_0
abbrev wqM : Memref sig .tc .vmem S512x256 .f32 := Memref.whole cc0_stg1_0
abbrev keyM : Memref sig .tc .vmem S2x256x4x64 .f32 := Memref.whole cc0_stg2_0
abbrev valM : Memref sig .tc .vmem S2x256x4x64 .f32 := Memref.whole cc0_stg3_0
abbrev woM : Memref sig .tc .vmem S256x512 .f32 := Memref.whole cc0_stg4_0
abbrev outM : Memref sig .tc .vmem S2x256x512 .f32 := Memref.whole cc0_stg5_0

/-- The queries of head `h` of batch entry `b`. -/
def query (b : Fin 2) (h : Fin 4) (hx : (qM.access (blk64 b h)).Stores Finset.univ) : Prog (TpuEff nD τ sig (Elt F) Λ₀ .tc) PUnit := do
  let x : Vec F S1x256x512 .f32 ← Prog.lift (.load xM (xRect b).toLoadRect (View.loadsAt_vmem h_S1x256x512))
  let w : Vec F S512x64 .f32 ← Prog.lift (.load wqM (wqRect h).toLoadRect (View.loadsAt_vmem h_S512x64))
  let _ : Vec F S1x1x256x64 .bf16 ← Prog.lift (.load qM (blk64 b h).toLoadRect (View.loadsAt_vmem h_S1x1x256x64))
  Prog.lift (.store qM (blk64 b h) (k0_pay89 x w) Finset.univ hx (.inl rfl))

/-- All eight. -/
def queries : Prog (TpuEff nD τ sig (Elt F) Λ₀ .tc) PUnit := do
  query 0 0 (View.stores_vmem h_S1x1x256x64 ((Memref.isWhole_whole _).storeExact_slice rfl _ packedbf16_S2x4x256x64_S1x1x256x64_0_0_0_0) (fun _ => rfl))
  query 0 1 (View.stores_vmem h_S1x1x256x64 ((Memref.isWhole_whole _).storeExact_slice rfl _ packedbf16_S2x4x256x64_S1x1x256x64_0_1_0_0) (fun _ => rfl))
  query 0 2 (View.stores_vmem h_S1x1x256x64 ((Memref.isWhole_whole _).storeExact_slice rfl _ packedbf16_S2x4x256x64_S1x1x256x64_0_2_0_0) (fun _ => rfl))
  query 0 3 (View.stores_vmem h_S1x1x256x64 ((Memref.isWhole_whole _).storeExact_slice rfl _ packedbf16_S2x4x256x64_S1x1x256x64_0_3_0_0) (fun _ => rfl))
  query 1 0 (View.stores_vmem h_S1x1x256x64 ((Memref.isWhole_whole _).storeExact_slice rfl _ packedbf16_S2x4x256x64_S1x1x256x64_1_0_0_0) (fun _ => rfl))
  query 1 1 (View.stores_vmem h_S1x1x256x64 ((Memref.isWhole_whole _).storeExact_slice rfl _ packedbf16_S2x4x256x64_S1x1x256x64_1_1_0_0) (fun _ => rfl))
  query 1 2 (View.stores_vmem h_S1x1x256x64 ((Memref.isWhole_whole _).storeExact_slice rfl _ packedbf16_S2x4x256x64_S1x1x256x64_1_2_0_0) (fun _ => rfl))
  query 1 3 (View.stores_vmem h_S1x1x256x64 ((Memref.isWhole_whole _).storeExact_slice rfl _ packedbf16_S2x4x256x64_S1x1x256x64_1_3_0_0) (fun _ => rfl))

/-- A batch entry's result from its heads' weighted sums, sums of weights and output weights. -/
def outRow (A : Fin 4 → VA F) (L : Fin 4 → VL F) (W : Fin 4 → Vec F S64x512 .f32) : Vec F S1x256x512 .f32 :=
  k0_pay108 (k0_pay107 (A 0) (L 0) (W 0) (A 1) (L 1) (W 1) (A 2) (L 2) (W 2)) (A 3) (L 3) (W 3)

/-- What one head of the result reads, -/
def headIn (b : Fin 2) (h : Fin 4) : Prog (TpuEff nD τ sig (Elt F) Λ₀ .tc) (VA F × VL F × Vec F S64x512 .f32) := do
  let a : Vec F S1x1x256x64 .f32 ← Prog.lift (.load aM (blk64 b h).toLoadRect (View.loadsAt_vmem h_S1x1x256x64))
  let l : Vec F S1x1x256x1 .f32 ← Prog.lift (.load lM (blk1 b h).toLoadRect (View.loadsAt_vmem h_S1x1x256x1))
  let w : Vec F S64x512 .f32 ← Prog.lift (.load woM (woRect h).toLoadRect (View.loadsAt_vmem h_S64x512))
  pure (a, l, w)

/-- and a batch entry's result. -/
def result (b : Fin 2) : Prog (TpuEff nD τ sig (Elt F) Λ₀ .tc) PUnit := do
  let (a0, l0, w0) ← headIn (F := F) b 0
  let (a1, l1, w1) ← headIn (F := F) b 1
  let (a2, l2, w2) ← headIn (F := F) b 2
  let (a3, l3, w3) ← headIn (F := F) b 3
  let _ : Vec F S1x256x512 .f32 ← Prog.lift (.load outM (xRect b).toLoadRect (View.loadsAt_vmem h_S1x256x512))
  Prog.lift (.store outM (xRect b) (k0_pay108 (k0_pay107 a0 l0 w0 a1 l1 w1 a2 l2 w2) a3 l3 w3) Finset.univ (View.stores_vmem_bits_univ h_S1x256x512 rfl) (.inl rfl))

/-- A device's number as the body computes it. -/
abbrev num (c : Dev nD) : BitVec 32 := Scalar.remsi (Scalar.divsi (Dev.word c) 1#32) 32#32

/-- The handshake. -/
def greet (c : Dev nD) : Prog (TpuEff nD τ sig (Elt F) Λ₀ .tc) PUnit := do
  semSignalWord (⟨k0_dev1 c, k0_dev1_lt c⟩ : Dev nD) barS 1#32
  semSignalWord (⟨k0_dev2 c, k0_dev2_lt c⟩ : Dev nD) barS 1#32
  semWaitWord barS 2#32

/-- The first slots filled from the device's own keys and values. -/
def fillSlots (x : KV F) : Prog (TpuEff nD τ sig (Elt F) Λ₀ .tc) PUnit := do
  let _ : Vec F S1x2x256x256 .fp8e4m3 ← Prog.lift (.load (kM false) slot0.toLoadRect (View.loadsAt_vmem h_S1x2x256x256))
  Prog.lift (.store (kM false) slot0 x.k Finset.univ (View.stores_vmem h_S1x2x256x256 ((Memref.isWhole_whole _).storeExact_slice rfl _ packedfp8e4m3_S4x2x256x256_S1x2x256x256_0_0_0_0) (fun _ => rfl)) (.inl rfl))
  let _ : Vec F S1x2x256x256 .bf16 ← Prog.lift (.load (vM false) slot0.toLoadRect (View.loadsAt_vmem h_S1x2x256x256))
  Prog.lift (.store (vM false) slot0 x.v Finset.univ (View.stores_vmem h_S1x2x256x256 ((Memref.isWhole_whole _).storeExact_slice rfl _ packedbf16_S4x2x256x256_S1x2x256x256_0_0_0_0) (fun _ => rfl)) (.inl rfl))
  let _ : Vec F S1x2x256x256 .fp8e4m3 ← Prog.lift (.load (kM true) slot0.toLoadRect (View.loadsAt_vmem h_S1x2x256x256))
  Prog.lift (.store (kM true) slot0 x.k Finset.univ (View.stores_vmem h_S1x2x256x256 ((Memref.isWhole_whole _).storeExact_slice rfl _ packedfp8e4m3_S4x2x256x256_S1x2x256x256_0_0_0_0) (fun _ => rfl)) (.inl rfl))
  let _ : Vec F S1x2x256x256 .bf16 ← Prog.lift (.load (vM true) slot0.toLoadRect (View.loadsAt_vmem h_S1x2x256x256))
  Prog.lift (.store (vM true) slot0 x.v Finset.univ (View.stores_vmem h_S1x2x256x256 ((Memref.isWhole_whole _).storeExact_slice rfl _ packedbf16_S4x2x256x256_S1x2x256x256_0_0_0_0) (fun _ => rfl)) (.inl rfl))

/-- Both accumulators cleared. -/
def clear : Prog (TpuEff nD τ sig (Elt F) Λ₀ .tc) PUnit := do
  let _ : Vec F S2x4x256x1 .f32 ← Prog.lift (.load lM (Rect.unit (s := S2x4x256x1) ![0, 0, 0, 0] S2x4x256x1.size inb_S2x4x256x1_S2x4x256x1_0_0_0_0).toLoadRect (View.loadsAt_vmem h_S2x4x256x1))
  Prog.lift (.store lM (Rect.unit (s := S2x4x256x1) ![0, 0, 0, 0] S2x4x256x1.size inb_S2x4x256x1_S2x4x256x1_0_0_0_0) (k0_pay99 (F := F)) Finset.univ (View.stores_vmem_bits_univ h_S2x4x256x1 rfl) (.inl rfl))
  let _ : Vec F S2x4x256x64 .f32 ← Prog.lift (.load aM (Rect.unit (s := S2x4x256x64) ![0, 0, 0, 0] S2x4x256x64.size inb_S2x4x256x64_S2x4x256x64_0_0_0_0).toLoadRect (View.loadsAt_vmem h_S2x4x256x64))
  Prog.lift (.store aM (Rect.unit (s := S2x4x256x64) ![0, 0, 0, 0] S2x4x256x64.size inb_S2x4x256x64_S2x4x256x64_0_0_0_0) (k0_pay100 (F := F)) Finset.univ (View.stores_vmem_bits_univ h_S2x4x256x64 rfl) (.inl rfl))

/-- A device's keys and values, as they travel, from its blocks of the caches. -/
def ownKV (K V : Vec F S2x256x4x64 .f32) : KV F := ⟨k0_pay85 K, k0_pay86 (k0_pay84 V)⟩

/-- The loop of the hops. -/
def hopsLoop (c : Dev nD) : Prog (TpuEff nD τ sig (Elt F) Λ₀ .tc) PUnit :=
  atArgs (k0_part24 (F := F)) c (num c) (Scalar.remsi (Scalar.addi (num c) 1#32) 32#32) (Scalar.remsi (Scalar.subi (Scalar.addi (num c) 32#32) 1#32) 32#32)
    (Scalar.muli (num c) 4#32) (iota .tc S256x256 32 [0] iota_S256x256_d0_w32) 64#32 k0_pay101 k0_pay102 0#32

/-- The body. -/
def bodyText : Prog (TpuEff nD τ sig (Elt F) Λ₀ .tc) PUnit := do
  let c : Dev nD ← Prog.lift .deviceId
  greet c
  let K : Vec F S2x256x4x64 .f32 ← Prog.lift (.load keyM (Rect.unit (s := S2x256x4x64) ![0, 0, 0, 0] S2x256x4x64.size inb_S2x256x4x64_S2x256x4x64_0_0_0_0).toLoadRect (View.loadsAt_vmem h_S2x256x4x64))
  let V : Vec F S2x256x4x64 .f32 ← Prog.lift (.load valM (Rect.unit (s := S2x256x4x64) ![0, 0, 0, 0] S2x256x4x64.size inb_S2x256x4x64_S2x256x4x64_0_0_0_0).toLoadRect (View.loadsAt_vmem h_S2x256x4x64))
  fillSlots (ownKV K V)
  queries
  clear
  hopsLoop c
  result 0
  result 1

set_option maxRecDepth 65536 in
theorem body_eq : atArgs (cc0_body (F := F)) = bodyText (F := F) := by
  dsimp only [atArgs]
  rw [cc0_body_eq_skeleton]; unfold cc0_body_skel
  rw [k0_part27_eq_skeleton]; unfold k0_part27_skel
  rw [k0_part19_eq_skeleton, k0_part20_eq_skeleton, k0_part21_eq_skeleton, k0_part22_eq_skeleton, k0_part23_eq_skeleton, k0_part25_eq_skeleton, k0_part26_eq_skeleton]
  unfold k0_part19_skel k0_part20_skel k0_part21_skel k0_part22_skel k0_part23_skel k0_part25_skel k0_part26_skel
  unfold bodyText greet fillSlots queries clear result query headIn hopsLoop
  simp only [Prog.bind_assoc, Prog.bind_lift, Prog.bind_op, Prog.bind_ret, Prog.pure_eq_ret]
  rfl

end Cert.RingAttn

end
-- ==== Proof.Pieces.lean ====
module

public import proofs.«01_k».proof.Proof.Ends

/-! # The rules of the body's pieces around its loop -/

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

variable (kv : Dev nD → KV F)

variable (c : Dev nD) {α : Type}

local notation "wpc" => wp frame (wpE (defs₀ (F := F)) 𝒱₀ (c : Thread nD τ) none) Set.univ

/-! ## The operands, and a batch entry's or a head's part of them -/

def xPts (X : Vec F S2x256x512 .f32) : sProp 𝕄 := ((c : Thread nD τ).loc cc0_stg0_0) ↦{fullShare} X
def wqPts (W : Vec F S512x256 .f32) : sProp 𝕄 := ((c : Thread nD τ).loc cc0_stg1_0) ↦{fullShare} W
def keyPts (K : Vec F S2x256x4x64 .f32) : sProp 𝕄 := ((c : Thread nD τ).loc cc0_stg2_0) ↦{fullShare} K
def valPts (V : Vec F S2x256x4x64 .f32) : sProp 𝕄 := ((c : Thread nD τ).loc cc0_stg3_0) ↦{fullShare} V
def woPts (W : Vec F S256x512 .f32) : sProp 𝕄 := ((c : Thread nD τ).loc cc0_stg4_0) ↦{fullShare} W
def outPts (O : Vec F S2x256x512 .f32) : sProp 𝕄 := ((c : Thread nD τ).loc cc0_stg5_0) ↦{fullShare} O

def xBlk (X : Vec F S2x256x512 .f32) (b : Fin 2) : Vec F S1x256x512 .f32 := fun j => X ((xRect b).emb j)
def wqBlk (W : Vec F S512x256 .f32) (h : Fin 4) : Vec F S512x64 .f32 := fun j => W ((wqRect h).emb j)
def woBlk (W : Vec F S256x512 .f32) (h : Fin 4) : Vec F S64x512 .f32 := fun j => W ((woRect h).emb j)

/-- The queries of head `h` of batch entry `b`. -/
def queryAt (X : Vec F S2x256x512 .f32) (W : Vec F S512x256 .f32) (b : Fin 2) (h : Fin 4) : VQ F := k0_pay89 (xBlk X b) (wqBlk W h)

theorem wp_ldX (X : Vec F S2x256x512 .f32) (b : Fin 2) {hl} {k : Vec F S1x256x512 .f32 → Prog (TpuEff nD τ sig (Elt F) Λ₀ .tc) α} {Q : α → sProp 𝕄} :
    xPts c X ⊢ iprop((xPts c X -∗ wpc (k (xBlk X b)) Q) -∗ wpc (.op (.load xM (xRect b).toLoadRect hl) k) Q) := by
  have H := wp_load (Γ := .empty) (defs := defs₀ (F := F)) 𝒱₀ (c : Thread nD τ) none Set.univ (m := xM) (r := (xRect b).toLoadRect) (hl := hl) (k := k) (Q := Q)
    (S := Finset.univ) (q := fullShare) (f := X) (Finset.subset_univ _)
  exact H
theorem wp_ldWq (W : Vec F S512x256 .f32) (h : Fin 4) {hl} {k : Vec F S512x64 .f32 → Prog (TpuEff nD τ sig (Elt F) Λ₀ .tc) α} {Q : α → sProp 𝕄} :
    wqPts c W ⊢ iprop((wqPts c W -∗ wpc (k (wqBlk W h)) Q) -∗ wpc (.op (.load wqM (wqRect h).toLoadRect hl) k) Q) := by
  have H := wp_load (Γ := .empty) (defs := defs₀ (F := F)) 𝒱₀ (c : Thread nD τ) none Set.univ (m := wqM) (r := (wqRect h).toLoadRect) (hl := hl) (k := k) (Q := Q)
    (S := Finset.univ) (q := fullShare) (f := W) (Finset.subset_univ _)
  exact H
theorem wp_ldWo (W : Vec F S256x512 .f32) (h : Fin 4) {hl} {k : Vec F S64x512 .f32 → Prog (TpuEff nD τ sig (Elt F) Λ₀ .tc) α} {Q : α → sProp 𝕄} :
    woPts c W ⊢ iprop((woPts c W -∗ wpc (k (woBlk W h)) Q) -∗ wpc (.op (.load woM (woRect h).toLoadRect hl) k) Q) := by
  have H := wp_load (Γ := .empty) (defs := defs₀ (F := F)) 𝒱₀ (c : Thread nD τ) none Set.univ (m := woM) (r := (woRect h).toLoadRect) (hl := hl) (k := k) (Q := Q)
    (S := Finset.univ) (q := fullShare) (f := W) (Finset.subset_univ _)
  exact H

theorem off4_zero : (![0, 0, 0, 0] : Fin 4 → ℕ) = fun _ => 0 := funext fun a => by fin_cases a <;> rfl

theorem wp_ldKey (K : Vec F S2x256x4x64 .f32) {inb hl} {k : Vec F S2x256x4x64 .f32 → Prog (TpuEff nD τ sig (Elt F) Λ₀ .tc) α} {Q : α → sProp 𝕄} :
    keyPts c K ⊢ iprop((keyPts c K -∗ wpc (k K) Q)
      -∗ wpc (.op (.load keyM (Rect.unit (s := S2x256x4x64) ![0, 0, 0, 0] S2x256x4x64.size inb).toLoadRect hl) k) Q) := by
  have H := wp_load (Γ := .empty) (defs := defs₀ (F := F)) 𝒱₀ (c : Thread nD τ) none Set.univ (m := keyM)
    (r := (Rect.unit (s := S2x256x4x64) ![0, 0, 0, 0] S2x256x4x64.size inb).toLoadRect) (hl := hl) (k := k) (Q := Q)
    (S := Finset.univ) (q := fullShare) (f := K) (Finset.subset_univ _)
  rw [show keyM.view.readAt (Elt F) (Rect.unit (s := S2x256x4x64) ![0, 0, 0, 0] S2x256x4x64.size inb).toLoadRect K = K from
    Memref.readAt_unit_zero (Elt F) cc0_stg2_0 off4_zero inb K] at H
  exact H
theorem wp_ldVal (K : Vec F S2x256x4x64 .f32) {inb hl} {k : Vec F S2x256x4x64 .f32 → Prog (TpuEff nD τ sig (Elt F) Λ₀ .tc) α} {Q : α → sProp 𝕄} :
    valPts c K ⊢ iprop((valPts c K -∗ wpc (k K) Q)
      -∗ wpc (.op (.load valM (Rect.unit (s := S2x256x4x64) ![0, 0, 0, 0] S2x256x4x64.size inb).toLoadRect hl) k) Q) := by
  have H := wp_load (Γ := .empty) (defs := defs₀ (F := F)) 𝒱₀ (c : Thread nD τ) none Set.univ (m := valM)
    (r := (Rect.unit (s := S2x256x4x64) ![0, 0, 0, 0] S2x256x4x64.size inb).toLoadRect) (hl := hl) (k := k) (Q := Q)
    (S := Finset.univ) (q := fullShare) (f := K) (Finset.subset_univ _)
  rw [show valM.view.readAt (Elt F) (Rect.unit (s := S2x256x4x64) ![0, 0, 0, 0] S2x256x4x64.size inb).toLoadRect K = K from
    Memref.readAt_unit_zero (Elt F) cc0_stg3_0 off4_zero inb K] at H
  exact H

/-! ## The queries -/

theorem wp_query (X : Vec F S2x256x512 .f32) (W : Vec F S512x256 .f32) (A : Fin 2 → Fin 4 → VQ F) (b : Fin 2) (h : Fin 4) (hx) (Q : PUnit → sProp 𝕄) :
    iprop(xPts c X ∗ wqPts c W ∗ qPts c (fill A (queryAt X W) (4 * b.val + h.val))
      ∗ ((xPts c X ∗ wqPts c W ∗ qPts c (fill A (queryAt X W) (4 * b.val + h.val + 1))) -∗ Q ⟨⟩))
      ⊢ wpc (query b h hx) Q := by
  rw [← fill_upd A]
  unfold query
  simp only [Prog.bind_lift]
  iintro ⟨Hx, Hw, Hq, Hk⟩
  iapply (wp_ldX c X b) $$ Hx
  iintro Hx
  iapply (wp_ldWq c W h) $$ Hw
  iintro Hw
  iapply (wp_ldQ c _ b h) $$ Hq
  iintro Hq
  iapply (wp_stQ c _ b h _) $$ Hq
  iintro Hq
  rw [show (Prog.ret PUnit.unit : Prog (TpuEff nD τ sig (Elt F) Λ₀ .tc) PUnit) = pure ⟨⟩ from rfl, wp_pure]
  imodintro
  iapply Hk
  isplitl [Hx]; · iexact Hx
  isplitl [Hw]; · iexact Hw
  iexact Hq

theorem wp_queries (X : Vec F S2x256x512 .f32) (W : Vec F S512x256 .f32) (A : Fin 2 → Fin 4 → VQ F) (Q : PUnit → sProp 𝕄) :
    iprop(xPts c X ∗ wqPts c W ∗ qPts c A ∗ ((xPts c X ∗ wqPts c W ∗ qPts c (queryAt X W)) -∗ Q ⟨⟩)) ⊢ wpc queries Q := by
  have e0 := fill_zero A (queryAt X W)
  have e8 := fill_eight A (queryAt X W)
  unfold queries
  iintro ⟨Hx, Hw, Hq, Hk⟩
  ihave Hq := (Entails.of_eq (congrArg (qPts c) e0.symm)) $$ Hq
  rw [wp_bind]
  iapply (wp_query c X W A 0 0 _ _)
  isplitl [Hx]; · iexact Hx
  isplitl [Hw]; · iexact Hw
  isplitl [Hq]; · iexact Hq
  iintro ⟨Hx, Hw, Hq⟩
  rw [wp_bind]
  iapply (wp_query c X W A 0 1 _ _)
  isplitl [Hx]; · iexact Hx
  isplitl [Hw]; · iexact Hw
  isplitl [Hq]; · iexact Hq
  iintro ⟨Hx, Hw, Hq⟩
  rw [wp_bind]
  iapply (wp_query c X W A 0 2 _ _)
  isplitl [Hx]; · iexact Hx
  isplitl [Hw]; · iexact Hw
  isplitl [Hq]; · iexact Hq
  iintro ⟨Hx, Hw, Hq⟩
  rw [wp_bind]
  iapply (wp_query c X W A 0 3 _ _)
  isplitl [Hx]; · iexact Hx
  isplitl [Hw]; · iexact Hw
  isplitl [Hq]; · iexact Hq
  iintro ⟨Hx, Hw, Hq⟩
  rw [wp_bind]
  iapply (wp_query c X W A 1 0 _ _)
  isplitl [Hx]; · iexact Hx
  isplitl [Hw]; · iexact Hw
  isplitl [Hq]; · iexact Hq
  iintro ⟨Hx, Hw, Hq⟩
  rw [wp_bind]
  iapply (wp_query c X W A 1 1 _ _)
  isplitl [Hx]; · iexact Hx
  isplitl [Hw]; · iexact Hw
  isplitl [Hq]; · iexact Hq
  iintro ⟨Hx, Hw, Hq⟩
  rw [wp_bind]
  iapply (wp_query c X W A 1 2 _ _)
  isplitl [Hx]; · iexact Hx
  isplitl [Hw]; · iexact Hw
  isplitl [Hq]; · iexact Hq
  iintro ⟨Hx, Hw, Hq⟩
  iapply (wp_query c X W A 1 3 _ _)
  isplitl [Hx]; · iexact Hx
  isplitl [Hw]; · iexact Hw
  isplitl [Hq]; · iexact Hq
  iintro ⟨Hx, Hw, Hq⟩
  ihave Hq := (Entails.of_eq (congrArg (qPts c) e8)) $$ Hq
  iapply Hk
  isplitl [Hx]; · iexact Hx
  isplitl [Hw]; · iexact Hw
  iexact Hq

/-! ## The result -/

/-- An index within its batch entry. -/
def inO (i : S2x256x512.Idx) : S1x256x512.Idx := fun a => match a with
  | ⟨0, _⟩ => ⟨0, Nat.one_pos⟩ | ⟨1, _⟩ => i 1 | ⟨2, _⟩ => i 2

/-- One batch entry replaced. -/
def putO (f : Vec F S2x256x512 .f32) (b : Fin 2) (w : Vec F S1x256x512 .f32) : Vec F S2x256x512 .f32 := fun i => if (i 0).val = b.val then w (inO i) else f i
/-- Both. -/
def bufO (O : Fin 2 → Vec F S1x256x512 .f32) : Vec F S2x256x512 .f32 := fun i => O (i 0) (inO i)

theorem putO_putO (f : Vec F S2x256x512 .f32) (O : Fin 2 → Vec F S1x256x512 .f32) : putO (putO f 0 (O 0)) 1 (O 1) = bufO O := by
  funext i
  unfold putO bufO
  have hlt : (i 0).val < 2 := (i 0).isLt
  rcases (show (i 0).val = 0 ∨ (i 0).val = 1 by omega) with h | h
  · refine (if_neg (show ¬(i 0).val = (1 : Fin 2).val by rw [h]; decide)).trans ((if_pos h).trans ?_)
    exact congrFun (congrArg O (show (0 : Fin 2) = i 0 from Fin.ext h.symm)) _
  · refine (if_pos h).trans ?_
    exact congrFun (congrArg O (show (1 : Fin 2) = i 0 from Fin.ext h.symm)) _

theorem xRect_emb (b : Fin 2) (j : S1x256x512.Idx) : inO ((xRect b).emb j) = j := by
  funext a
  apply Fin.ext
  have h0 := (j 0).isLt
  match a with
  | ⟨0, _⟩ => simp at h0; simp [inO, h0]
  | ⟨1, _⟩ => simp [inO, Rect.emb_apply]
  | ⟨2, _⟩ => simp [inO, Rect.emb_apply]
theorem xRect_fst (b : Fin 2) (j : S1x256x512.Idx) : ((xRect b).emb j 0 : Fin 2) = b := by
  have h0 := (j 0).isLt
  simp at h0
  exact Fin.ext (by rw [Rect.emb_apply]; simp [h0])
theorem mem_xRect (b : Fin 2) (i : S2x256x512.Idx) (h0 : (i 0 : Fin 2) = b) : i ∈ (xRect b).set := by
  subst h0
  rw [Rect.mem_set_unit]
  intro a
  have h1 := (i 1).isLt; have h2 := (i 2).isLt
  match a with
  | ⟨0, _⟩ => exact ⟨le_refl _, by simp⟩
  | ⟨1, _⟩ => exact ⟨Nat.zero_le _, by simpa using h1⟩
  | ⟨2, _⟩ => exact ⟨Nat.zero_le _, by simpa using h2⟩

theorem write_o (f : Vec F S2x256x512 .f32) (b : Fin 2) (w : Vec F S1x256x512 .f32) :
    (outM.access (xRect b)).write (Elt F) f w Finset.univ = putO f b w := by
  funext i
  by_cases hi : (i 0 : Fin 2) = b
  · obtain ⟨j, rfl⟩ := (xRect b).exists_idx_of_mem (mem_xRect b i hi)
    change _ = putO f b w ((xRect b).emb j)
    refine (View.write_emb_of_mem (v := outM.access (xRect b)) _ _ (Finset.mem_univ j)).trans ?_
    unfold putO
    rw [xRect_emb, if_pos (congrArg Fin.val (xRect_fst b j))]; rfl
  · refine (View.write_of_not_mem (v := outM.access (xRect b)) _ _ _ fun hm => hi ?_).trans ?_
    · rw [View.setOn_univ, View.set_slice_whole] at hm
      obtain ⟨j, rfl⟩ := (xRect b).exists_idx_of_mem hm
      exact xRect_fst b j
    · unfold putO; rw [if_neg fun h => hi (Fin.ext h)]

theorem wp_stO (f : Vec F S2x256x512 .f32) (b : Fin 2) (w : Vec F S1x256x512 .f32) {hx hm} {k : PUnit → Prog (TpuEff nD τ sig (Elt F) Λ₀ .tc) α} {Q : α → sProp 𝕄} :
    outPts c f ⊢ iprop((outPts c (putO f b w) -∗ wpc (k ⟨⟩) Q) -∗ wpc (.op (.store outM (xRect b) w Finset.univ hx hm) k) Q) := by
  have H := wp_store (Γ := .empty) (defs := defs₀ (F := F)) 𝒱₀ (c : Thread nD τ) none Set.univ (m := outM) (r := xRect b) (w := w) (Mk := Finset.univ) (hx := hx) (hm := hm) (k := k) (Q := Q)
    (S := Finset.univ) (f := f) (Finset.subset_univ _)
  rw [write_o] at H
  exact H
theorem wp_ldO (f : Vec F S2x256x512 .f32) (b : Fin 2) {hl} {k : Vec F S1x256x512 .f32 → Prog (TpuEff nD τ sig (Elt F) Λ₀ .tc) α} {Q : α → sProp 𝕄} :
    outPts c f ⊢ iprop((outPts c f -∗ wpc (k (xBlk f b)) Q) -∗ wpc (.op (.load outM (xRect b).toLoadRect hl) k) Q) := by
  have H := wp_load (Γ := .empty) (defs := defs₀ (F := F)) 𝒱₀ (c : Thread nD τ) none Set.univ (m := outM) (r := (xRect b).toLoadRect) (hl := hl) (k := k) (Q := Q)
    (S := Finset.univ) (q := fullShare) (f := f) (Finset.subset_univ _)
  exact H

theorem wp_headIn (A : Fin 2 → Fin 4 → VA F) (L : Fin 2 → Fin 4 → VL F) (W : Vec F S256x512 .f32) (b : Fin 2) (h : Fin 4) (Q : VA F × VL F × Vec F S64x512 .f32 → sProp 𝕄) :
    iprop(aPts c A ∗ lPts c L ∗ woPts c W ∗ ((aPts c A ∗ lPts c L ∗ woPts c W) -∗ Q (A b h, L b h, woBlk W h))) ⊢ wpc (headIn b h) Q := by
  unfold headIn
  simp only [Prog.bind_lift]
  iintro ⟨Ha, Hl, Hw, Hk⟩
  iapply (wp_ldA c A b h) $$ Ha
  iintro Ha
  iapply (wp_ldL c L b h) $$ Hl
  iintro Hl
  iapply (wp_ldWo c W h) $$ Hw
  iintro Hw
  rw [wp_pure]
  imodintro
  iapply Hk
  isplitl [Ha]; · iexact Ha
  isplitl [Hl]; · iexact Hl
  iexact Hw

theorem wp_result (A : Fin 2 → Fin 4 → VA F) (L : Fin 2 → Fin 4 → VL F) (W : Vec F S256x512 .f32) (f : Vec F S2x256x512 .f32) (b : Fin 2) (Q : PUnit → sProp 𝕄) :
    iprop(aPts c A ∗ lPts c L ∗ woPts c W ∗ outPts c f
      ∗ ((aPts c A ∗ lPts c L ∗ woPts c W ∗ outPts c (putO f b (outRow (A b) (L b) (woBlk W)))) -∗ Q ⟨⟩)) ⊢ wpc (result b) Q := by
  unfold result
  iintro ⟨Ha, Hl, Hw, Ho, Hk⟩
  rw [wp_bind]
  iapply (wp_headIn c A L W b 0 _)
  isplitl [Ha]; · iexact Ha
  isplitl [Hl]; · iexact Hl
  isplitl [Hw]; · iexact Hw
  iintro ⟨Ha, Hl, Hw⟩
  dsimp only
  rw [wp_bind]
  iapply (wp_headIn c A L W b 1 _)
  isplitl [Ha]; · iexact Ha
  isplitl [Hl]; · iexact Hl
  isplitl [Hw]; · iexact Hw
  iintro ⟨Ha, Hl, Hw⟩
  dsimp only
  rw [wp_bind]
  iapply (wp_headIn c A L W b 2 _)
  isplitl [Ha]; · iexact Ha
  isplitl [Hl]; · iexact Hl
  isplitl [Hw]; · iexact Hw
  iintro ⟨Ha, Hl, Hw⟩
  dsimp only
  rw [wp_bind]
  iapply (wp_headIn c A L W b 3 _)
  isplitl [Ha]; · iexact Ha
  isplitl [Hl]; · iexact Hl
  isplitl [Hw]; · iexact Hw
  iintro ⟨Ha, Hl, Hw⟩
  dsimp only
  rw [Prog.bind_lift]
  iapply (wp_ldO c f b) $$ Ho
  iintro Ho
  iapply (wp_stO c f b _) $$ Ho
  iintro Ho
  rw [show (Prog.ret PUnit.unit : Prog (TpuEff nD τ sig (Elt F) Λ₀ .tc) PUnit) = pure ⟨⟩ from rfl, wp_pure]
  imodintro
  iapply Hk
  isplitl [Ha]; · iexact Ha
  isplitl [Hl]; · iexact Hl
  isplitl [Hw]; · iexact Hw
  iexact Ho

/-! ## Buffers as their blocks; the accumulators cleared -/

def unbuf64 {β : Type} (f : S2x4x256x64.Idx → β) : Fin 2 → Fin 4 → S1x1x256x64.Idx → β := fun b h j => f ((blk64 b h).emb j)
def unbuf1 {β : Type} (f : S2x4x256x1.Idx → β) : Fin 2 → Fin 4 → S1x1x256x1.Idx → β := fun b h j => f ((blk1 b h).emb j)

theorem buf_unbuf64 {β : Type} (f : S2x4x256x64.Idx → β) : buf64 (unbuf64 f) = f := by
  funext i
  obtain ⟨j, hj⟩ := (blk64 (i 0) (i 1)).exists_idx_of_mem (mem_blk64 (i 0) (i 1) i rfl rfl)
  change (blk64 (i 0) (i 1)).emb j = i at hj
  unfold buf64 unbuf64
  rw [show in64 i = j from (congrArg in64 hj.symm).trans (in64_emb _ _ j), hj]
theorem buf_unbuf1 {β : Type} (f : S2x4x256x1.Idx → β) : buf1 (unbuf1 f) = f := by
  funext i
  obtain ⟨j, hj⟩ := (blk1 (i 0) (i 1)).exists_idx_of_mem (mem_blk1 (i 0) (i 1) i rfl rfl)
  change (blk1 (i 0) (i 1)).emb j = i at hj
  unfold buf1 unbuf1
  rw [show in1 i = j from (congrArg in1 hj.symm).trans (in1_emb _ _ j), hj]

theorem wp_clear (f : Vec F S2x4x256x64 .f32) (g : Vec F S2x4x256x1 .f32) (Q : PUnit → sProp 𝕄) :
    iprop((((c : Thread nD τ).loc cc0_scratch1) ↦{fullShare} f) ∗ (((c : Thread nD τ).loc cc0_scratch2) ↦{fullShare} g)
      ∗ ((aPts c (unbuf64 k0_pay100) ∗ lPts c (unbuf1 k0_pay99)) -∗ Q ⟨⟩)) ⊢ wpc clear Q := by
  unfold aPts lPts
  rw [buf_unbuf64, buf_unbuf1]
  unfold clear
  simp only [Prog.bind_lift]
  have H1 := fun (k : _ → Prog (TpuEff nD τ sig (Elt F) Λ₀ .tc) PUnit) => wp_load (Γ := .empty) (defs := defs₀ (F := F)) 𝒱₀ (c : Thread nD τ) none Set.univ (m := lM)
    (r := (Rect.unit (s := S2x4x256x1) ![0, 0, 0, 0] S2x4x256x1.size inb_S2x4x256x1_S2x4x256x1_0_0_0_0).toLoadRect) (hl := View.loadsAt_vmem h_S2x4x256x1) (k := k) (Q := Q)
    (S := Finset.univ) (q := fullShare) (f := g) (Finset.subset_univ _)
  have H2 := fun (k : PUnit → Prog (TpuEff nD τ sig (Elt F) Λ₀ .tc) PUnit) => wp_store (Γ := .empty) (defs := defs₀ (F := F)) 𝒱₀ (c : Thread nD τ) none Set.univ (m := lM)
    (r := Rect.unit (s := S2x4x256x1) ![0, 0, 0, 0] S2x4x256x1.size inb_S2x4x256x1_S2x4x256x1_0_0_0_0) (w := k0_pay99 (F := F)) (Mk := Finset.univ)
    (hx := View.stores_vmem_bits_univ h_S2x4x256x1 rfl) (hm := .inl rfl) (k := k) (Q := Q) (S := Finset.univ) (f := g) (Finset.subset_univ _)
  have H3 := fun (k : _ → Prog (TpuEff nD τ sig (Elt F) Λ₀ .tc) PUnit) => wp_load (Γ := .empty) (defs := defs₀ (F := F)) 𝒱₀ (c : Thread nD τ) none Set.univ (m := aM)
    (r := (Rect.unit (s := S2x4x256x64) ![0, 0, 0, 0] S2x4x256x64.size inb_S2x4x256x64_S2x4x256x64_0_0_0_0).toLoadRect) (hl := View.loadsAt_vmem h_S2x4x256x64) (k := k) (Q := Q)
    (S := Finset.univ) (q := fullShare) (f := f) (Finset.subset_univ _)
  have H4 := fun (k : PUnit → Prog (TpuEff nD τ sig (Elt F) Λ₀ .tc) PUnit) => wp_store (Γ := .empty) (defs := defs₀ (F := F)) 𝒱₀ (c : Thread nD τ) none Set.univ (m := aM)
    (r := Rect.unit (s := S2x4x256x64) ![0, 0, 0, 0] S2x4x256x64.size inb_S2x4x256x64_S2x4x256x64_0_0_0_0) (w := k0_pay100 (F := F)) (Mk := Finset.univ)
    (hx := View.stores_vmem_bits_univ h_S2x4x256x64 rfl) (hm := .inl rfl) (k := k) (Q := Q) (S := Finset.univ) (f := f) (Finset.subset_univ _)
  have e2 := Memref.write_access_unit_zero_univ (Elt F) cc0_scratch2 off4_zero inb_S2x4x256x1_S2x4x256x1_0_0_0_0 g (k0_pay99 (F := F))
  have e4 := Memref.write_access_unit_zero_univ (Elt F) cc0_scratch1 off4_zero inb_S2x4x256x64_S2x4x256x64_0_0_0_0 f (k0_pay100 (F := F))
  have e2' := congrArg (fun v => ((((c : Thread nD τ).loc cc0_scratch2) ↦{fullShare} v) : sProp 𝕄)) e2
  have e4' := congrArg (fun v => ((((c : Thread nD τ).loc cc0_scratch1) ↦{fullShare} v) : sProp 𝕄)) e4
  iintro ⟨Ha, Hl, Hk⟩
  iapply (H1 _) $$ Hl
  iintro Hl
  iapply (H2 _) $$ Hl
  iintro Hl
  iapply (H3 _) $$ Ha
  iintro Ha
  iapply (H4 _) $$ Ha
  iintro Ha
  rw [show (Prog.ret PUnit.unit : Prog (TpuEff nD τ sig (Elt F) Λ₀ .tc) PUnit) = pure ⟨⟩ from rfl, wp_pure]
  imodintro
  ihave Hl := (Entails.of_eq e2') $$ Hl
  ihave Ha := (Entails.of_eq e4') $$ Ha
  iapply Hk
  isplitl [Ha]; · iexact Ha
  iexact Hl

/-! ## The exchange buffers by their slots and lanes -/

/-- Elements of ring `R`'s key buffer, whatever they hold; -/
def kAny (R : Bool) (S : Finset S4x2x256x256.Idx) : sProp 𝕄 := match R with
  | false => iprop(∃ f : Buf (Elt F) ((c : Thread nD τ).loc cc0_scratch3), ((c : Thread nD τ).loc cc0_scratch3) ↦[S]{fullShare} f)
  | true => iprop(∃ f : Buf (Elt F) ((c : Thread nD τ).loc cc0_scratch5), ((c : Thread nD τ).loc cc0_scratch5) ↦[S]{fullShare} f)
/-- of its value buffer. -/
def vAny (R : Bool) (S : Finset S4x2x256x256.Idx) : sProp 𝕄 := match R with
  | false => iprop(∃ f : Buf (Elt F) ((c : Thread nD τ).loc cc0_scratch4), ((c : Thread nD τ).loc cc0_scratch4) ↦[S]{fullShare} f)
  | true => iprop(∃ f : Buf (Elt F) ((c : Thread nD τ).loc cc0_scratch6), ((c : Thread nD τ).loc cc0_scratch6) ↦[S]{fullShare} f)

theorem any_split {ℓ : Loc nD τ sig} {I J : Finset (Idx ℓ)} (h : Disjoint I J) :
    (iprop(∃ f : Buf (Elt F) ℓ, ℓ ↦[I ∪ J]{fullShare} f) : sProp 𝕄)
      ⊢ iprop((∃ f : Buf (Elt F) ℓ, ℓ ↦[I]{fullShare} f) ∗ (∃ f : Buf (Elt F) ℓ, ℓ ↦[J]{fullShare} f)) := by
  iintro ⟨%f, H⟩
  ihave H := (pointsTo_union h).1 $$ H
  icases H with ⟨H, H'⟩
  isplitl [H]; · iexists f; iexact H
  iexists f; iexact H'
theorem any_join {ℓ : Loc nD τ sig} {I J : Finset (Idx ℓ)} (h : Disjoint I J) :
    (iprop((∃ f : Buf (Elt F) ℓ, ℓ ↦[I]{fullShare} f) ∗ (∃ f : Buf (Elt F) ℓ, ℓ ↦[J]{fullShare} f)) : sProp 𝕄)
      ⊢ iprop(∃ f : Buf (Elt F) ℓ, ℓ ↦[I ∪ J]{fullShare} f) := by
  iintro ⟨⟨%f, H⟩, ⟨%g, H'⟩⟩
  iexists _
  iapply (pointsTo_join h)
  isplitl [H]; · iexact H
  iexact H'

theorem kAny_union (R : Bool) {I J : Finset S4x2x256x256.Idx} (h : Disjoint I J) : (kAny (F := F) c R (I ∪ J) : sProp 𝕄) ⊣⊢ iprop(kAny c R I ∗ kAny c R J) := by
  cases R <;> exact ⟨any_split h, any_join h⟩
theorem vAny_union (R : Bool) {I J : Finset S4x2x256x256.Idx} (h : Disjoint I J) : (vAny (F := F) c R (I ∪ J) : sProp 𝕄) ⊣⊢ iprop(vAny c R I ∗ vAny c R J) := by
  cases R <;> exact ⟨any_split h, any_join h⟩

theorem reg0_eq (s : Fin 4) : regSet 0 s = regSet 1 s ∪ regSet 2 s := by
  ext i
  have h1 := (i 1).isLt
  have h1' : (i 1).val < 2 := h1
  simp only [regSet, Finset.mem_union, Finset.mem_filter, Finset.mem_univ, true_and]
  show _ ∧ (0 = 0 ∨ _) ↔ (_ ∧ (1 = 0 ∨ _ = 1)) ∨ (_ ∧ (2 = 0 ∨ _ = 2))
  omega
theorem reg12_disj (s : Fin 4) : Disjoint (regSet 1 s) (regSet 2 s) := by
  rw [Finset.disjoint_left]
  intro i
  simp only [regSet, Finset.mem_filter, Finset.mem_univ, true_and]
  show _ ∧ (1 = 0 ∨ _ = 1) → ¬(_ ∧ (2 = 0 ∨ _ = 2))
  omega
theorem univ_eq : (Finset.univ : Finset S4x2x256x256.Idx) = regSet 0 0 ∪ (regSet 0 1 ∪ (regSet 0 2 ∪ regSet 0 3)) := by
  ext i
  have h0 : (i 0).val < 4 := (i 0).isLt
  simp only [regSet, Finset.mem_union, Finset.mem_filter, Finset.mem_univ, true_and, true_iff]
  show (_ = 0 ∧ (0 = 0 ∨ _)) ∨ (_ = 1 ∧ (0 = 0 ∨ _)) ∨ (_ = 2 ∧ (0 = 0 ∨ _)) ∨ (_ = 3 ∧ (0 = 0 ∨ _))
  omega
theorem reg_disj {l l' : Fin 3} {s s' : Fin 4} (h : s ≠ s') : Disjoint (regSet l s) (regSet l' s') := by
  rw [Finset.disjoint_left]
  intro i hi hi'
  simp only [regSet, Finset.mem_filter, Finset.mem_univ, true_and] at hi hi'
  exact h (Fin.ext (hi.1.symm.trans hi'.1))
theorem disj_0 : Disjoint (regSet 0 0) (regSet 0 1 ∪ (regSet 0 2 ∪ regSet 0 3)) :=
  Finset.disjoint_union_right.mpr ⟨reg_disj (by decide), Finset.disjoint_union_right.mpr ⟨reg_disj (by decide), reg_disj (by decide)⟩⟩
theorem disj_1 : Disjoint (regSet 0 1) (regSet 0 2 ∪ regSet 0 3) :=
  Finset.disjoint_union_right.mpr ⟨reg_disj (by decide), reg_disj (by decide)⟩
theorem disj_2 : Disjoint (regSet 0 2) (regSet 0 3) := reg_disj (by decide)

theorem kAny_reg (R : Bool) (s : Fin 4) : (kAny (F := F) c R (regSet 0 s) : sProp 𝕄) = anyReg R 0 c s := by cases R <;> rfl
theorem vAny_reg1 (R : Bool) (s : Fin 4) : (vAny (F := F) c R (regSet 1 s) : sProp 𝕄) = anyReg R 1 c s := by cases R <;> rfl
theorem vAny_reg2 (R : Bool) (s : Fin 4) : (vAny (F := F) c R (regSet 2 s) : sProp 𝕄) = anyReg R 2 c s := by cases R <;> rfl

/-- A slot, whatever it holds. -/
def slotAny (R : Bool) (s : Fin 4) : sProp 𝕄 := iprop(anyReg (F := F) R 0 c s ∗ anyReg R 1 c s ∗ anyReg R 2 c s)

theorem slot_kv (R : Bool) (s : Fin 4) : (slotAny (F := F) c R s : sProp 𝕄) ⊣⊢ iprop(kAny c R (regSet 0 s) ∗ vAny c R (regSet 0 s)) := by
  unfold slotAny
  rw [← kAny_reg, ← vAny_reg1, ← vAny_reg2]
  have H := vAny_union (F := F) c R (reg12_disj s)
  rw [← reg0_eq s] at H
  constructor
  · iintro ⟨H0, H1, H2⟩
    isplitl [H0]; · iexact H0
    iapply H.2
    isplitl [H1]; · iexact H1
    iexact H2
  · iintro ⟨H0, H1⟩
    isplitl [H0]; · iexact H0
    iapply H.1
    iexact H1

/-- A ring's two buffers whole are its four slots. -/
theorem bufs_slots (R : Bool) : (iprop(kAny (F := F) c R Finset.univ ∗ vAny c R Finset.univ) : sProp 𝕄)
    ⊢ iprop(slotAny c R 0 ∗ slotAny c R 1 ∗ slotAny c R 2 ∗ slotAny c R 3) := by
  rw [univ_eq]
  iintro ⟨Hk, Hv⟩
  ihave Hk := (kAny_union (F := F) c R disj_0).1 $$ Hk
  icases Hk with ⟨Hk0, Hk⟩
  ihave Hk := (kAny_union (F := F) c R disj_1).1 $$ Hk
  icases Hk with ⟨Hk1, Hk⟩
  ihave Hk := (kAny_union (F := F) c R disj_2).1 $$ Hk
  icases Hk with ⟨Hk2, Hk3⟩
  ihave Hv := (vAny_union (F := F) c R disj_0).1 $$ Hv
  icases Hv with ⟨Hv0, Hv⟩
  ihave Hv := (vAny_union (F := F) c R disj_1).1 $$ Hv
  icases Hv with ⟨Hv1, Hv⟩
  ihave Hv := (vAny_union (F := F) c R disj_2).1 $$ Hv
  icases Hv with ⟨Hv2, Hv3⟩
  isplitl [Hk0 Hv0]
  · iapply (slot_kv (F := F) c R 0).2; isplitl [Hk0]; · iexact Hk0
    iexact Hv0
  isplitl [Hk1 Hv1]
  · iapply (slot_kv (F := F) c R 1).2; isplitl [Hk1]; · iexact Hk1
    iexact Hv1
  isplitl [Hk2 Hv2]
  · iapply (slot_kv (F := F) c R 2).2; isplitl [Hk2]; · iexact Hk2
    iexact Hv2
  iapply (slot_kv (F := F) c R 3).2; isplitl [Hk3]; · iexact Hk3
  iexact Hv3
theorem slots_bufs (R : Bool) : (iprop(slotAny c R 0 ∗ slotAny c R 1 ∗ slotAny c R 2 ∗ slotAny c R 3) : sProp 𝕄)
    ⊢ iprop(kAny (F := F) c R Finset.univ ∗ vAny c R Finset.univ) := by
  rw [univ_eq]
  iintro ⟨H0, H1, H2, H3⟩
  ihave H0 := (slot_kv (F := F) c R 0).1 $$ H0
  icases H0 with ⟨Hk0, Hv0⟩
  ihave H1 := (slot_kv (F := F) c R 1).1 $$ H1
  icases H1 with ⟨Hk1, Hv1⟩
  ihave H2 := (slot_kv (F := F) c R 2).1 $$ H2
  icases H2 with ⟨Hk2, Hv2⟩
  ihave H3 := (slot_kv (F := F) c R 3).1 $$ H3
  icases H3 with ⟨Hk3, Hv3⟩
  isplitl [Hk0 Hk1 Hk2 Hk3]
  · iapply (kAny_union (F := F) c R disj_0).2
    isplitl [Hk0]; · iexact Hk0
    iapply (kAny_union (F := F) c R disj_1).2
    isplitl [Hk1]; · iexact Hk1
    iapply (kAny_union (F := F) c R disj_2).2
    isplitl [Hk2]; · iexact Hk2
    iexact Hk3
  · iapply (vAny_union (F := F) c R disj_0).2
    isplitl [Hv0]; · iexact Hv0
    iapply (vAny_union (F := F) c R disj_1).2
    isplitl [Hv1]; · iexact Hv1
    iapply (vAny_union (F := F) c R disj_2).2
    isplitl [Hv2]; · iexact Hv2
    iexact Hv3

/-! ## The first slots -/

theorem slot0_set : slot0.set = regSet 0 0 := kRect_set 0 _ rfl

theorem write_kfalse (f : Vec F S4x2x256x256 .fp8e4m3) (w : Vec F S1x2x256x256 .fp8e4m3) :
    ∀ i ∈ regSet 0 0, ((kM false).access slot0).write (Elt F) f w Finset.univ i = slotBuf w i := by
  intro i hi
  rw [← slot0_set] at hi
  obtain ⟨j, rfl⟩ := slot0.exists_idx_of_mem hi
  change _ = slotBuf w (slot0.emb j)
  refine (View.write_emb_of_mem (v := (kM false).access slot0) _ _ (Finset.mem_univ j)).trans ?_
  unfold slotBuf
  rw [show slotIx (slot0.emb j) = j from slotIx_emb 0 _ rfl j]; rfl
theorem wp_putKfalse (w : Vec F S1x2x256x256 .fp8e4m3) {hl hx hm} (k : PUnit → Prog (TpuEff nD τ sig (Elt F) Λ₀ .tc) α) (Q : α → sProp 𝕄) :
    kAny c false (regSet 0 0) ⊢ iprop((((c : Thread nD τ).loc cc0_scratch3 ↦[regSet 0 0]{fullShare} slotBuf w) -∗ wpc (k ⟨⟩) Q)
      -∗ wpc (.op (.load (kM false) slot0.toLoadRect hl) fun _ => .op (.store (kM false) slot0 w Finset.univ hx hm) k) Q) := by
  unfold kAny
  iintro ⟨%f, H⟩ Hk
  have H1 := fun (k : _ → Prog (TpuEff nD τ sig (Elt F) Λ₀ .tc) α) => wp_load_rect (Γ := .empty) (defs := defs₀ (F := F)) 𝒱₀ (c : Thread nD τ) none Set.univ (m := kM false)
    (r := slot0) (hl := hl) (k := k) (Q := Q) (S := regSet 0 0) (q := fullShare) (f := f) (by rw [View.set_slice_whole, slot0_set])
  have H2 := wp_store (Γ := .empty) (defs := defs₀ (F := F)) 𝒱₀ (c : Thread nD τ) none Set.univ (m := kM false) (r := slot0) (w := w) (Mk := Finset.univ)
    (hx := hx) (hm := hm) (k := k) (Q := Q) (S := regSet 0 0) (f := f) (by rw [View.setOn_univ, View.set_slice_whole, slot0_set])
  have e := pointsTo_congr (Ix := ℕ) (Val := Elt F) (Name := ℕ) (U := UU) (Lvl := ℕ) (ℓ := (c : Thread nD τ).loc cc0_scratch3) (q := fullShare) (write_kfalse f w)
  iapply (H1 _) $$ H
  iintro H
  iapply H2 $$ H
  iintro H
  iapply Hk
  iapply (Entails.of_eq e)
  iexact H
theorem write_ktrue (f : Vec F S4x2x256x256 .fp8e4m3) (w : Vec F S1x2x256x256 .fp8e4m3) :
    ∀ i ∈ regSet 0 0, ((kM true).access slot0).write (Elt F) f w Finset.univ i = slotBuf w i := by
  intro i hi
  rw [← slot0_set] at hi
  obtain ⟨j, rfl⟩ := slot0.exists_idx_of_mem hi
  change _ = slotBuf w (slot0.emb j)
  refine (View.write_emb_of_mem (v := (kM true).access slot0) _ _ (Finset.mem_univ j)).trans ?_
  unfold slotBuf
  rw [show slotIx (slot0.emb j) = j from slotIx_emb 0 _ rfl j]; rfl
theorem wp_putKtrue (w : Vec F S1x2x256x256 .fp8e4m3) {hl hx hm} (k : PUnit → Prog (TpuEff nD τ sig (Elt F) Λ₀ .tc) α) (Q : α → sProp 𝕄) :
    kAny c true (regSet 0 0) ⊢ iprop((((c : Thread nD τ).loc cc0_scratch5 ↦[regSet 0 0]{fullShare} slotBuf w) -∗ wpc (k ⟨⟩) Q)
      -∗ wpc (.op (.load (kM true) slot0.toLoadRect hl) fun _ => .op (.store (kM true) slot0 w Finset.univ hx hm) k) Q) := by
  unfold kAny
  iintro ⟨%f, H⟩ Hk
  have H1 := fun (k : _ → Prog (TpuEff nD τ sig (Elt F) Λ₀ .tc) α) => wp_load_rect (Γ := .empty) (defs := defs₀ (F := F)) 𝒱₀ (c : Thread nD τ) none Set.univ (m := kM true)
    (r := slot0) (hl := hl) (k := k) (Q := Q) (S := regSet 0 0) (q := fullShare) (f := f) (by rw [View.set_slice_whole, slot0_set])
  have H2 := wp_store (Γ := .empty) (defs := defs₀ (F := F)) 𝒱₀ (c : Thread nD τ) none Set.univ (m := kM true) (r := slot0) (w := w) (Mk := Finset.univ)
    (hx := hx) (hm := hm) (k := k) (Q := Q) (S := regSet 0 0) (f := f) (by rw [View.setOn_univ, View.set_slice_whole, slot0_set])
  have e := pointsTo_congr (Ix := ℕ) (Val := Elt F) (Name := ℕ) (U := UU) (Lvl := ℕ) (ℓ := (c : Thread nD τ).loc cc0_scratch5) (q := fullShare) (write_ktrue f w)
  iapply (H1 _) $$ H
  iintro H
  iapply H2 $$ H
  iintro H
  iapply Hk
  iapply (Entails.of_eq e)
  iexact H
theorem write_vfalse (f : Vec F S4x2x256x256 .bf16) (w : Vec F S1x2x256x256 .bf16) :
    ∀ i ∈ regSet 0 0, ((vM false).access slot0).write (Elt F) f w Finset.univ i = slotBuf w i := by
  intro i hi
  rw [← slot0_set] at hi
  obtain ⟨j, rfl⟩ := slot0.exists_idx_of_mem hi
  change _ = slotBuf w (slot0.emb j)
  refine (View.write_emb_of_mem (v := (vM false).access slot0) _ _ (Finset.mem_univ j)).trans ?_
  unfold slotBuf
  rw [show slotIx (slot0.emb j) = j from slotIx_emb 0 _ rfl j]; rfl
theorem wp_putVfalse (w : Vec F S1x2x256x256 .bf16) {hl hx hm} (k : PUnit → Prog (TpuEff nD τ sig (Elt F) Λ₀ .tc) α) (Q : α → sProp 𝕄) :
    vAny c false (regSet 0 0) ⊢ iprop((((c : Thread nD τ).loc cc0_scratch4 ↦[regSet 0 0]{fullShare} slotBuf w) -∗ wpc (k ⟨⟩) Q)
      -∗ wpc (.op (.load (vM false) slot0.toLoadRect hl) fun _ => .op (.store (vM false) slot0 w Finset.univ hx hm) k) Q) := by
  unfold vAny
  iintro ⟨%f, H⟩ Hk
  have H1 := fun (k : _ → Prog (TpuEff nD τ sig (Elt F) Λ₀ .tc) α) => wp_load_rect (Γ := .empty) (defs := defs₀ (F := F)) 𝒱₀ (c : Thread nD τ) none Set.univ (m := vM false)
    (r := slot0) (hl := hl) (k := k) (Q := Q) (S := regSet 0 0) (q := fullShare) (f := f) (by rw [View.set_slice_whole, slot0_set])
  have H2 := wp_store (Γ := .empty) (defs := defs₀ (F := F)) 𝒱₀ (c : Thread nD τ) none Set.univ (m := vM false) (r := slot0) (w := w) (Mk := Finset.univ)
    (hx := hx) (hm := hm) (k := k) (Q := Q) (S := regSet 0 0) (f := f) (by rw [View.setOn_univ, View.set_slice_whole, slot0_set])
  have e := pointsTo_congr (Ix := ℕ) (Val := Elt F) (Name := ℕ) (U := UU) (Lvl := ℕ) (ℓ := (c : Thread nD τ).loc cc0_scratch4) (q := fullShare) (write_vfalse f w)
  iapply (H1 _) $$ H
  iintro H
  iapply H2 $$ H
  iintro H
  iapply Hk
  iapply (Entails.of_eq e)
  iexact H
theorem write_vtrue (f : Vec F S4x2x256x256 .bf16) (w : Vec F S1x2x256x256 .bf16) :
    ∀ i ∈ regSet 0 0, ((vM true).access slot0).write (Elt F) f w Finset.univ i = slotBuf w i := by
  intro i hi
  rw [← slot0_set] at hi
  obtain ⟨j, rfl⟩ := slot0.exists_idx_of_mem hi
  change _ = slotBuf w (slot0.emb j)
  refine (View.write_emb_of_mem (v := (vM true).access slot0) _ _ (Finset.mem_univ j)).trans ?_
  unfold slotBuf
  rw [show slotIx (slot0.emb j) = j from slotIx_emb 0 _ rfl j]; rfl
theorem wp_putVtrue (w : Vec F S1x2x256x256 .bf16) {hl hx hm} (k : PUnit → Prog (TpuEff nD τ sig (Elt F) Λ₀ .tc) α) (Q : α → sProp 𝕄) :
    vAny c true (regSet 0 0) ⊢ iprop((((c : Thread nD τ).loc cc0_scratch6 ↦[regSet 0 0]{fullShare} slotBuf w) -∗ wpc (k ⟨⟩) Q)
      -∗ wpc (.op (.load (vM true) slot0.toLoadRect hl) fun _ => .op (.store (vM true) slot0 w Finset.univ hx hm) k) Q) := by
  unfold vAny
  iintro ⟨%f, H⟩ Hk
  have H1 := fun (k : _ → Prog (TpuEff nD τ sig (Elt F) Λ₀ .tc) α) => wp_load_rect (Γ := .empty) (defs := defs₀ (F := F)) 𝒱₀ (c : Thread nD τ) none Set.univ (m := vM true)
    (r := slot0) (hl := hl) (k := k) (Q := Q) (S := regSet 0 0) (q := fullShare) (f := f) (by rw [View.set_slice_whole, slot0_set])
  have H2 := wp_store (Γ := .empty) (defs := defs₀ (F := F)) 𝒱₀ (c : Thread nD τ) none Set.univ (m := vM true) (r := slot0) (w := w) (Mk := Finset.univ)
    (hx := hx) (hm := hm) (k := k) (Q := Q) (S := regSet 0 0) (f := f) (by rw [View.setOn_univ, View.set_slice_whole, slot0_set])
  have e := pointsTo_congr (Ix := ℕ) (Val := Elt F) (Name := ℕ) (U := UU) (Lvl := ℕ) (ℓ := (c : Thread nD τ).loc cc0_scratch6) (q := fullShare) (write_vtrue f w)
  iapply (H1 _) $$ H
  iintro H
  iapply H2 $$ H
  iintro H
  iapply Hk
  iapply (Entails.of_eq e)
  iexact H

theorem wp_fillSlots (x : KV F) (Q : PUnit → sProp 𝕄) :
    iprop(slotAny c false 0 ∗ slotAny c true 0
      ∗ (((reg false 0 c 0 fullShare x ∗ reg false 1 c 0 fullShare x ∗ reg false 2 c 0 fullShare x)
          ∗ (reg true 0 c 0 fullShare x ∗ reg true 1 c 0 fullShare x ∗ reg true 2 c 0 fullShare x)) -∗ Q ⟨⟩))
      ⊢ wpc (fillSlots x) Q := by
  have e0 := pointsTo_union (Ix := ℕ) (Val := Elt F) (Name := ℕ) (U := UU) (Lvl := ℕ) (ℓ := (c : Thread nD τ).loc cc0_scratch4) (q := fullShare) (f := slotBuf x.v) (reg12_disj 0)
  have e1 := pointsTo_union (Ix := ℕ) (Val := Elt F) (Name := ℕ) (U := UU) (Lvl := ℕ) (ℓ := (c : Thread nD τ).loc cc0_scratch6) (q := fullShare) (f := slotBuf x.v) (reg12_disj 0)
  rw [← reg0_eq 0] at e0 e1
  have r0 : (((c : Thread nD τ).loc cc0_scratch3 ↦[regSet 0 0]{fullShare} slotBuf x.k) : sProp 𝕄) = reg false 0 c 0 fullShare x := rfl
  have r1 : (((c : Thread nD τ).loc cc0_scratch5 ↦[regSet 0 0]{fullShare} slotBuf x.k) : sProp 𝕄) = reg true 0 c 0 fullShare x := rfl
  unfold fillSlots
  simp only [Prog.bind_lift]
  iintro ⟨H0, H1, Hk⟩
  ihave H0 := (slot_kv (F := F) c false 0).1 $$ H0
  icases H0 with ⟨Hk0, Hv0⟩
  ihave H1 := (slot_kv (F := F) c true 0).1 $$ H1
  icases H1 with ⟨Hk1, Hv1⟩
  iapply (wp_putKfalse c x.k _ _) $$ Hk0
  iintro Hk0
  iapply (wp_putVfalse c x.v _ _) $$ Hv0
  iintro Hv0
  iapply (wp_putKtrue c x.k _ _) $$ Hk1
  iintro Hk1
  iapply (wp_putVtrue c x.v _ _) $$ Hv1
  iintro Hv1
  rw [show (Prog.ret PUnit.unit : Prog (TpuEff nD τ sig (Elt F) Λ₀ .tc) PUnit) = pure ⟨⟩ from rfl, wp_pure]
  imodintro
  ihave Hv0 := e0.1 $$ Hv0
  ihave Hv1 := e1.1 $$ Hv1
  iapply Hk
  isplitl [Hk0 Hv0]
  · isplitl [Hk0]; · iapply (Entails.of_eq r0); iexact Hk0
    iexact Hv0
  · isplitl [Hk1]; · iapply (Entails.of_eq r1); iexact Hk1
    iexact Hv1

end Cert.RingAttn

end
-- ==== Proof.Body.lean ====
module

public import proofs.«01_k».proof.Proof.Pieces

/-! # The body of a device: from the handshake to its result -/

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

variable (kv : Dev nD → KV F)

/-! ## Windows of four -/

theorem four_univ (A : Fin 4 → sProp 𝕄) : bigSep Finset.univ A = iprop(A 0 ∗ A 1 ∗ A 2 ∗ A 3) := by
  rw [bigSep_univ_eq_bigSepL [0, 1, 2, 3] (by decide) (by decide)]
  rfl
theorem three_univ (A : Fin 3 → sProp 𝕄) : bigSep Finset.univ A = iprop(A 0 ∗ A 1 ∗ A 2) := by
  rw [bigSep_univ_eq_bigSepL [0, 1, 2] (by decide) (by decide)]
  rfl
theorem two_univ (A : Bool → sProp 𝕄) : bigSep Finset.univ A = iprop(A false ∗ A true) := by
  rw [bigSep_univ_eq_bigSepL [false, true] (by decide) (by decide)]
  rfl

theorem ico_four (A : ℕ → sProp 𝕄) (n : ℕ) : bigSep (Finset.Ico n (n + 4)) A = iprop(A n ∗ A (n + 1) ∗ A (n + 2) ∗ A (n + 3)) := by
  rw [bigSep_Ico_succ_bot (by omega), bigSep_Ico_succ_bot (by omega), bigSep_Ico_succ_bot (by omega), bigSep_Ico_one]

theorem ico_shift (A : ℕ → sProp 𝕄) (hA : ∀ k, A (k + 4) = A k) : ∀ n, bigSep (Finset.Ico n (n + 4)) A = iprop(A 0 ∗ A 1 ∗ A 2 ∗ A 3)
  | 0 => ico_four A 0
  | n + 1 => by
    rw [← ico_shift A hA n, bigSep_Ico_succ_bot (show n < n + 4 by omega), show n + 1 + 4 = (n + 4) + 1 from rfl,
      bigSep_Ico_succ_top (by omega), hA]

/-- Four numbers in a row name every slot once. -/
theorem window (A : Fin 4 → sProp 𝕄) (n : ℕ) : bigSep (Finset.Ico n (n + 4)) (fun h => A (sl h)) = bigSep Finset.univ A := by
  rw [ico_shift _ (fun k => congrArg A (sl_add4 k)) n, four_univ]
  rfl
theorem window_succ (A : Fin 4 → sProp 𝕄) (n : ℕ) : bigSep (Finset.Ico n (n + 4)) (fun h => A (sl (h + 1))) = bigSep Finset.univ A := by
  rw [ico_shift _ (fun k => congrArg A (sl_add4 (k + 1))) n, four_univ]
  rw [← four_univ A, bigSep_univ_equiv (Equiv.addRight (1 : Fin 4)) A, four_univ]
  rfl

/-! ## A ring before its first hop -/

section Start
variable (R : Bool) (c : Dev nD)

/-- What `c` holds of a lane at launch: its cells' positions, and the credits and duties of all its messages; -/
def laneIni (l : Fin 3) : sProp 𝕄 :=
  iprop(win (hops R) 0 (posR (F := F) R l c) ∗ left (hops R) 0 (credR (F := F) R l c) ∗ win (hops R) 0 (posS (F := F) R l c) ∗ left (hops R) 0 (tokS (F := F) R l c))
/-- and of a ring. -/
def ringIni : sProp 𝕄 :=
  iprop(laneIni (F := F) R c 0 ∗ laneIni (F := F) R c 1 ∗ laneIni (F := F) R c 2 ∗ crIn (F := F) R c 0 ∗ crToks (F := F) R c 0)

theorem lane_start (l : Fin 3) : iprop(laneIni (F := F) R c l ∗ reg R l c 0 fullShare (kv c)) ⊢ laneSt kv R c 0 l := by
  unfold laneIni laneSt recvIn
  rw [if_pos rfl]
  iintro ⟨⟨H1, H2, H3, H4⟩, H5⟩
  isplitl [H1 H2 H5]
  · isplitl [H1]; · iexact H1
    isplitl [H2]; · iexact H2
    iexact H5
  isplitl [H3]; · iexact H3
  iexact H4

theorem dest_start : (payB (F := F) R c : sProp 𝕄) ⊢ destSt R c 0 := by
  have h := hops_ge R
  unfold payB destSt
  rw [show max 3 (0 + 1) = 3 from rfl, bigSep_Ico_succ_bot (by omega), bigSep_Ico_succ_bot (by omega), bigSep_Ico_one]
  unfold slotIf
  rw [if_pos (by omega), if_pos (by omega), if_pos (by omega)]

theorem ring_start : iprop(ringIni (F := F) R c ∗ (reg R 0 c 0 fullShare (kv c) ∗ reg R 1 c 0 fullShare (kv c) ∗ reg R 2 c 0 fullShare (kv c)) ∗ payB (F := F) R c)
    ⊢ ringSt kv R c 0 := by
  have h := hops_ge R
  unfold ringIni ringSt
  iintro ⟨⟨L0, L1, L2, HI, HT⟩, ⟨R0, R1, R2⟩, HP⟩
  isplitl [L0 R0]
  · iapply (lane_start kv R c 0); isplitl [L0]; · iexact L0
    iexact R0
  isplitl [L1 R1]
  · iapply (lane_start kv R c 1); isplitl [L1]; · iexact L1
    iexact R1
  isplitl [L2 R2]
  · iapply (lane_start kv R c 2); isplitl [L2]; · iexact L2
    iexact R2
  isplitl [HP]; · iapply (dest_start (F := F) R c); iexact HP
  isplitr
  · unfold freed; rw [if_neg (by omega)]; iempintro
  isplitr
  · unfold keptSt; rw [Finset.Ico_eq_empty_of_le (by omega), bigSep_empty]; iempintro
  isplitl [HI]; · iexact HI
  iexact HT

/-! ## The handshake -/

theorem slot_free (h : ℕ) (hh : h < 4) : iprop(ctx kv ∗ slotAny (F := F) c R (sl (h + 1))) ⊢ slotFree R c h := by
  unfold slotAny slotFree slotL
  rw [Nat.div_eq_of_lt hh]
  iintro ⟨#Hc, H0, H1, H2⟩
  ihave HR0 := (ctx_rcv kv R 0 c (sl (h + 1))) $$ [Hc]
  · iexact Hc
  ihave HR1 := (ctx_rcv kv R 1 c (sl (h + 1))) $$ [Hc]
  · iexact Hc
  ihave HR2 := (ctx_rcv kv R 2 c (sl (h + 1))) $$ [Hc]
  · iexact Hc
  unfold cellRec
  icases HR0 with ⟨%κ0, -, #HR0⟩
  icases HR1 with ⟨%κ1, -, #HR1⟩
  icases HR2 with ⟨%κ2, -, #HR2⟩
  isplitl [H0]
  · isplitl [H0]; · iexact H0
    iexact HR0
  isplitl [H1]
  · isplitl [H1]; · iexact H1
    iexact HR1
  isplitl [H2]; · iexact H2
  iexact HR2

theorem pay_free : iprop(ctx kv ∗ slotAny (F := F) c R 1 ∗ slotAny (F := F) c R 2 ∗ slotAny (F := F) c R 3) ⊢ payB (F := F) R (src R c) := by
  unfold payB
  rw [dst_src]
  iintro ⟨#Hc, H1, H2, H3⟩
  isplitl [H1]
  · iapply (slot_free kv R c 0 (by omega)); isplitr; · iexact Hc
    iexact H1
  isplitl [H2]
  · iapply (slot_free kv R c 1 (by omega)); isplitr; · iexact Hc
    iexact H2
  iapply (slot_free kv R c 2 (by omega)); isplitr; · iexact Hc
  iexact H3

end Start

variable (c : Dev nD)

theorem dev1_prv : (⟨k0_dev1 c, k0_dev1_lt c⟩ : Dev nD) = prv c := Fin.ext (k0_dev1_eq c)
theorem dev2_nxt : (⟨k0_dev2 c, k0_dev2_lt c⟩ : Dev nD) = nxt c := Fin.ext (k0_dev2_eq c)

theorem payBar_false (d : Dev nD) (r : ℕ) : (sched kv).payload (barCell d) r 0 = payB false d := payload_bar kv false d r
theorem payBar_true (d : Dev nD) (r : ℕ) : (sched kv).payload (barCell d) r 1 = payB true d := payload_bar kv true d r

theorem rest_bar : bigSep ((sched kv).duties (barCell c) 0 \ ∅) (fun d => (sched kv).payload (barCell c) 0 d) = iprop(payB false c ∗ payB true c) := by
  rw [duties_bar, Finset.sdiff_empty, bigSep_insert (by decide), bigSep_singleton, payBar_false, payBar_true]; rfl

/-- One unit to a neighbour's barrier cell. -/
theorem wp_hello (d : Dev nD) (i : ℕ) (hi : i ∈ ({0, 1} : Finset ℕ)) (O : Tal) {α : Type} (k : PUnit → Prog (TpuEff nD τ sig (Elt F) Λ₀ .tc) α) (Q : α → sProp 𝕄) :
    iprop(ctx kv ∗ dutyTok ER (barCell d) 0 i ∗ (sched kv).payload (barCell d) 0 i ∗ owq c (O + tallyAt (barCell d) 1 1)
        ∗ (owq c O -∗ wp frame (wpE (defs₀ (F := F)) 𝒱₀ (c : Thread nD τ) none) Set.univ (k ⟨⟩) Q))
      ⊢ wp frame (wpE (defs₀ (F := F)) 𝒱₀ (c : Thread nD τ) none) Set.univ (.op (.semSignal (d : Thread nD τ) barS 1) k) Q := by
  unfold owq
  iintro ⟨#Hc, Ht, Hp, ⟨%W, HO⟩, Hk⟩
  ihave HI := (ctx_bar kv d) $$ [Hc]
  · iexact Hc
  unfold cellRec
  icases HI with ⟨%κ, #HI, #Hr⟩
  iapply (Rounds.wp_signal 𝒱₀ ER (sched kv) (c : Thread nD τ) none (dst := (d : Thread nD τ)) (κ := κ) (r := 0)
    (d := i) (by rw [duties_bar]; exact hi) (amount_bar kv d 0 i) 1 (O₀ := O + tallyAt (barCell d) 1 1) O rfl) $$ [HO Ht Hp]
  · isplitr; · iexact HI
    isplitl [HO]; · iexact HO
    isplitl [Ht]; · iexact Ht
    isplitl [Hp]; · iexact Hp
    iexact Hr
  iintro HO
  iapply Hk
  iexists _; iexact HO

/-- The wait on the own barrier cell. -/
theorem wp_meet (O : Tal) (hO : Hi 2 O) {α : Type} (k : PUnit → Prog (TpuEff nD τ sig (Elt F) Λ₀ .tc) α) (Q : α → sProp 𝕄) :
    iprop(ctx kv ∗ atPos ER (barCell c) 0 ∅ 0 ∗ cred (tallyAt (barCell c) 1 2) ∗ owq c O
        ∗ ((owq c O ∗ atPos ER (barCell c) 1 ∅ 0 ∗ payB false c ∗ payB true c) -∗ wp frame (wpE (defs₀ (F := F)) 𝒱₀ (c : Thread nD τ) none) Set.univ (k ⟨⟩) Q))
      ⊢ wp frame (wpE (defs₀ (F := F)) 𝒱₀ (c : Thread nD τ) none) Set.univ (.op (.semWait barS 2) k) Q := by
  unfold owq
  iintro ⟨#Hc, Hat, Hcr, ⟨%W, HO⟩, Hk⟩
  ihave HI := (ctx_bar kv c) $$ [Hc]
  · iexact Hc
  unfold cellRec
  icases HI with ⟨%κ, #HI, -⟩
  iapply (Rounds.wp_wait_rest_token 𝒱₀ ER (sched kv) (c : Thread nD τ) none (κ := κ)
    (wpE_semWait_eq 𝒱₀ (c : Thread nD τ) none Set.univ) (Set.mem_univ _) 1 (k' := 2) (O := O) (W := W) (R := 0) (m := 0) (T := ∅)
    (by rw [expect_bar])) $$ [Hcr HO Hat]
  · isplitr; · iexact HI
    isplitl [Hcr]; · iexact Hcr
    isplitl [HO]; · iexact HO
    isplitr; · iapply (ctx_mayWait kv c _ 1 O (by omega) hO); iexact Hc
    iexact Hat
  iintro ⟨HO, Hat, -, Hpay⟩
  ihave Hpay := (Entails.of_eq (rest_bar kv c)) $$ Hpay
  iapply Hk
  isplitl [HO]; · iexists _; iexact HO
  isplitl [Hat]; · iexact Hat
  iexact Hpay

theorem wp_greet (Q : PUnit → sProp 𝕄) :
    iprop(ctx kv ∗ owq c (ow₀ c) ∗ atPos ER (barCell c) 0 ∅ 0 ∗ cred (tallyAt (barCell c) 1 2)
        ∗ dutyTok ER (barCell (prv c)) 0 0 ∗ dutyTok ER (barCell (nxt c)) 0 1 ∗ payB (F := F) false (prv c) ∗ payB (F := F) true (nxt c)
        ∗ ((owq c (ow c 0) ∗ atPos ER (barCell c) 1 ∅ 0 ∗ payB (F := F) false c ∗ payB (F := F) true c) -∗ Q ⟨⟩))
      ⊢ wp frame (wpE (defs₀ (F := F)) 𝒱₀ (c : Thread nD τ) none) Set.univ (greet (F := F) c) Q := by
  unfold greet
  rw [dev1_prv, dev2_nxt]
  rw [show (do semSignalWord (prv c : Dev nD) barS 1#32; semSignalWord (nxt c : Dev nD) barS 1#32; semWaitWord barS 2#32 : Prog (TpuEff nD τ sig (Elt F) Λ₀ .tc) PUnit)
    = .op (.semSignal (prv c : Thread nD τ) barS 1) fun _ => .op (.semSignal (nxt c : Thread nD τ) barS 1) fun _ => .op (.semWait barS 2) .ret from rfl]
  unfold ow₀
  rw [← payBar_false kv (prv c) 0, ← payBar_true kv (nxt c) 0]
  iintro ⟨#Hc, HO, Hat, Hcr, Ht0, Ht1, Hp0, Hp1, Hk⟩
  iapply (wp_hello kv c (prv c) 0 (by decide) _ _ _)
  isplitr; · iexact Hc
  isplitl [Ht0]; · iexact Ht0
  isplitl [Hp0]; · iexact Hp0
  isplitl [HO]; · iexact HO
  iintro HO
  iapply (wp_hello kv c (nxt c) 1 (by decide) _ _ _)
  isplitr; · iexact Hc
  isplitl [Ht1]; · iexact Ht1
  isplitl [Hp1]; · iexact Hp1
  isplitl [HO]; · iexact HO
  iintro HO
  iapply (wp_meet kv c (ow c 0) ((Hi.ow c 0 (by omega)).mono (by omega)) _ _)
  isplitr; · iexact Hc
  isplitl [Hat]; · iexact Hat
  isplitl [Hcr]; · iexact Hcr
  isplitl [HO]; · iexact HO
  iintro H
  rw [show (Prog.ret PUnit.unit : Prog (TpuEff nD τ sig (Elt F) Λ₀ .tc) PUnit) = pure ⟨⟩ from rfl, wp_pure]
  imodintro
  iapply Hk
  iexact H

/-! ## The loop -/

/-- The query positions of a block, as the body computes them. -/
abbrev rowsOf : IVec S256x256 32 := k0_pay103 (Scalar.muli (num c) 4#32) (iota .tc S256x256 32 [0] iota_S256x256_d0_w32) 64#32 k0_pay101 k0_pay102 0#32

/-- The accumulators before hop `g`. -/
def accAt (Qv : Fin 2 → Fin 4 → VQ F) : ℕ → AL F
  | 0 => (unbuf64 k0_pay100, unbuf1 k0_pay99)
  | g + 1 => hopAL kv c (num c) (rowsOf c) k0_pay104 Qv g (accAt Qv g)

/-- What `c` holds before hop `g`. -/
def inv (Qv : Fin 2 → Fin 4 → VQ F) (g : ℕ) : sProp 𝕄 :=
  iprop(ringSt kv false c g ∗ ringSt kv true c g ∗ owq c (ow c g) ∗ qPts c Qv ∗ aPts c (accAt kv c Qv g).1 ∗ lPts c (accAt kv c Qv g).2)

theorem trips_eq : k0_t1_loop.trips = 17 := by decide +kernel

theorem wp_hopTrip (Qv : Fin 2 → Fin 4 → VQ F) (t : Fin k0_t1_loop.trips) (u : Unit) (v4 v7 : BitVec 32) :
    iprop(ctx kv ∗ inv kv c Qv t.val)
      ⊢ wp frame (wpE (defs₀ (F := F)) 𝒱₀ (c : Thread nD τ) none) Set.univ
          (atArgs (k0_t1_body (F := F)) c (num c) v4 v7 (Scalar.muli (num c) 4#32) (iota .tc S256x256 32 [0] iota_S256x256_d0_w32) 64#32 k0_pay101 k0_pay102 0#32 t u)
          (fun _ => iprop(ctx kv ∗ inv kv c Qv (t.val + 1))) := by
  have H := wp_trip (F := F) kv c t (num c) v4 v7 (Scalar.muli (num c) 4#32) (iota .tc S256x256 32 [0] iota_S256x256_d0_w32) 64#32 k0_pay101 k0_pay102 0#32 u Qv
    (accAt kv c Qv t.val) (fun _ => iprop(ctx kv ∗ inv kv c Qv (t.val + 1)))
  unfold inv at H ⊢
  iintro ⟨#Hc, HI⟩
  iapply H
  isplitr; · iexact Hc
  isplitl [HI]; · iexact HI
  iintro HI
  isplitr; · iexact Hc
  iexact HI

theorem wp_hopsLoop (Qv : Fin 2 → Fin 4 → VQ F) (Q : PUnit → sProp 𝕄) :
    iprop(ctx kv ∗ inv kv c Qv 0 ∗ (inv kv c Qv 17 -∗ Q ⟨⟩))
      ⊢ wp frame (wpE (defs₀ (F := F)) 𝒱₀ (c : Thread nD τ) none) Set.univ (hopsLoop (F := F) c) Q := by
  unfold hopsLoop
  dsimp only [atArgs]
  rw [k0_part24_eq_skeleton]
  unfold k0_part24_skel
  have H := Scf.wp_for (M := 𝕄) frame (wpE (defs₀ (F := F)) 𝒱₀ (c : Thread nD τ) none) Set.univ k0_t1_loop.lb k0_t1_loop.ub k0_t1_loop.st k0_t1_ok (⟨⟩ : Unit)
    (fun t u => atArgs (k0_t1_body (F := F)) c (num c) (Scalar.remsi (Scalar.addi (num c) 1#32) 32#32) (Scalar.remsi (Scalar.subi (Scalar.addi (num c) 32#32) 1#32) 32#32)
      (Scalar.muli (num c) 4#32) (iota .tc S256x256 32 [0] iota_S256x256_d0_w32) 64#32 k0_pay101 k0_pay102 0#32 t u)
    (fun g _ => iprop(ctx kv ∗ inv kv c Qv g)) (fun t u => wp_hopTrip kv c Qv t u _ _)
    (Q := fun _ => wp frame (wpE (defs₀ (F := F)) 𝒱₀ (c : Thread nD τ) none) Set.univ (pure ⟨⟩) Q)
  rw [wp_bind]
  refine BIBase.Entails.trans ?_ H
  iintro ⟨#Hc, HI, Hk⟩
  isplitl [HI]
  · isplitr; · iexact Hc
    iexact HI
  iintro %u ⟨-, HI⟩
  ihave HI := (Entails.of_eq (congrArg (inv kv c Qv) trips_eq)) $$ HI
  rw [wp_pure]
  imodintro
  iapply Hk
  iexact HI

/-! ## A ring after its last hop -/

section Exit
variable (R : Bool)

theorem close_snd (l : Fin 3) (h : ℕ) (hh : hops R ≤ h) : iprop(ctx kv ∗ posS R l c h) ⊢ iprop(|={Set.univ}=> semVal (sndCell R l c (sl h)) 0) := by
  unfold posS
  iintro ⟨Hc, Hat, -⟩
  ihave HI := (ctx_snd kv R l c (sl h)) $$ Hc
  unfold cellRec
  icases HI with ⟨%κ, #HI, -⟩
  iapply (Rounds.cell_close ER (sched kv) (Set.mem_univ κ) (fun h => h) (R := h / 4) (duties_snd_later kv R l c h hh))
  isplitr; · iexact HI
  iexact Hat
theorem close_rcv (l : Fin 3) (h : ℕ) (hh : hops R ≤ h) : iprop(ctx kv ∗ posR R l c h) ⊢ iprop(|={Set.univ}=> semVal (rcvCell R l c (sl (h + 1))) 0) := by
  unfold posR
  iintro ⟨Hc, Hat, -⟩
  ihave HI := (ctx_rcv kv R l c (sl (h + 1))) $$ Hc
  unfold cellRec
  icases HI with ⟨%κ, #HI, -⟩
  iapply (Rounds.cell_close ER (sched kv) (Set.mem_univ κ) (fun h => h) (R := h / 4) (duties_rcv_later kv R l c h hh))
  isplitr; · iexact HI
  iexact Hat
theorem close_cr : iprop(ctx kv ∗ crIn R c 17) ⊢ iprop(|={Set.univ}=> semVal (crCell R c) 0) := by
  have h := hops_le R
  unfold crIn
  rw [if_neg (show ¬17 < hops R by omega)]
  iintro ⟨Hc, Hat, -⟩
  ihave HI := (ctx_cr kv R c) $$ Hc
  unfold cellRec
  icases HI with ⟨%κ, #HI, -⟩
  iapply (Rounds.cell_close ER (sched kv) (Set.mem_univ κ) (fun h => h) (R := 1) (duties_cr_later kv R c))
  isplitr; · iexact HI
  iexact Hat
theorem close_bar : iprop(ctx kv ∗ atPos ER (barCell c) 1 ∅ 0) ⊢ iprop(|={Set.univ}=> semVal (barCell c) 0) := by
  iintro ⟨Hc, Hat⟩
  ihave HI := (ctx_bar kv c) $$ Hc
  unfold cellRec
  icases HI with ⟨%κ, #HI, -⟩
  iapply (Rounds.cell_close ER (sched kv) (Set.mem_univ κ) (fun h => h) (R := 1) (duties_bar_later kv c))
  isplitr; · iexact HI
  iexact Hat

theorem four_close (n : ℕ) (A B : ℕ → sProp 𝕄) (H : ∀ h, n ≤ h → iprop(ctx kv ∗ A h) ⊢ iprop(|={Set.univ}=> B h)) :
    iprop(ctx kv ∗ bigSep (Finset.Ico n (n + 4)) A) ⊢ iprop(|={Set.univ}=> bigSep (Finset.Ico n (n + 4)) B) := by
  rw [ico_four, ico_four]
  iintro ⟨#Hc, H0, H1, H2, H3⟩
  imod (H n (le_refl _)) $$ [H0] with H0
  · isplitr; · iexact Hc
    iexact H0
  imod (H (n + 1) (by omega)) $$ [H1] with H1
  · isplitr; · iexact Hc
    iexact H1
  imod (H (n + 2) (by omega)) $$ [H2] with H2
  · isplitr; · iexact Hc
    iexact H2
  imod (H (n + 3) (by omega)) $$ [H3] with H3
  · isplitr; · iexact Hc
    iexact H3
  imodintro
  isplitl [H0]; · iexact H0
  isplitl [H1]; · iexact H1
  isplitl [H2]; · iexact H2
  iexact H3

/-- A lane's semaphores at zero. -/
def laneSems (l : Fin 3) : sProp 𝕄 :=
  iprop((bigSep Finset.univ fun s => semVal (sndCell R l c s) 0) ∗ bigSep Finset.univ fun s => semVal (rcvCell R l c s) 0)
/-- A ring's. -/
def ringSems : sProp 𝕄 := iprop(laneSems (F := F) c R 0 ∗ laneSems (F := F) c R 1 ∗ laneSems (F := F) c R 2 ∗ semVal (crCell R c) 0)

theorem lane_exit (l : Fin 3) : iprop(ctx kv ∗ laneSt kv R c 17 l) ⊢ iprop(|={Set.univ}=> laneSems (F := F) c R l) := by
  have h := hops_le R
  unfold laneSt recvIn laneSems win
  rw [show min (17 - 1) (hops R) = hops R by omega, show min 17 (hops R) = hops R by omega,
    ← window (fun s => (semVal (sndCell R l c s) 0 : sProp 𝕄)) (hops R), ← window_succ (fun s => (semVal (rcvCell R l c s) 0 : sProp 𝕄)) (hops R)]
  iintro ⟨#Hc, ⟨HR, -⟩, HS, -⟩
  imod (four_close kv (hops R) _ _ (close_snd kv c R l)) $$ [HS] with HS
  · isplitr; · iexact Hc
    iexact HS
  imod (four_close kv (hops R) _ _ (close_rcv kv c R l)) $$ [HR] with HR
  · isplitr; · iexact Hc
    iexact HR
  imodintro
  isplitl [HS]; · iexact HS
  iexact HR

theorem kept_exit : (keptSt (F := F) R c 17 : sProp 𝕄) ⊢ iprop(slotAny c R 0 ∗ slotAny c R 1 ∗ slotAny c R 2 ∗ slotAny c R 3) := by
  have h := hops_le R
  have h' := hops_ge R
  unfold keptSt
  rw [← four_univ (fun s => (slotAny (F := F) c R s : sProp 𝕄)), ← window (fun s => (slotAny (F := F) c R s : sProp 𝕄)) (hops R + 1),
    show min 17 (hops R + 1) = hops R - 3 + 4 by omega, ico_four, ico_four, show hops R - 3 + 3 = hops R by omega,
    show hops R - 3 + 1 + 3 = hops R + 1 by omega, show hops R - 3 + 2 + 3 = hops R + 2 by omega, show hops R + 3 = hops R + 3 from rfl]
  have H : ∀ h, (slotFree (F := F) R c h : sProp 𝕄) ⊢ slotAny c R (sl (h + 1)) := fun h => by
    unfold slotFree slotL slotAny
    iintro ⟨⟨H0, -⟩, ⟨H1, -⟩, ⟨H2, -⟩⟩
    isplitl [H0]; · iexact H0
    isplitl [H1]; · iexact H1
    iexact H2
  iintro ⟨H0, H1, H2, H3⟩
  isplitl [H0]; · iapply (H (hops R)); iexact H0
  isplitl [H1]; · iapply (H (hops R + 1)); iexact H1
  isplitl [H2]; · iapply (H (hops R + 2)); iexact H2
  iapply (H (hops R + 3)); iexact H3

theorem ring_exit : iprop(ctx kv ∗ ringSt kv R c 17) ⊢ iprop(|={Set.univ}=> ((kAny (F := F) c R Finset.univ ∗ vAny (F := F) c R Finset.univ) ∗ ringSems (F := F) c R)) := by
  unfold ringSt ringSems
  iintro ⟨#Hc, L0, L1, L2, -, -, HK, HI, -⟩
  imod (lane_exit kv c R 0) $$ [L0] with L0
  · isplitr; · iexact Hc
    iexact L0
  imod (lane_exit kv c R 1) $$ [L1] with L1
  · isplitr; · iexact Hc
    iexact L1
  imod (lane_exit kv c R 2) $$ [L2] with L2
  · isplitr; · iexact Hc
    iexact L2
  imod (close_cr kv c R) $$ [HI] with HI
  · isplitr; · iexact Hc
    iexact HI
  imodintro
  isplitl [HK]
  · iapply (slots_bufs (F := F) c R)
    iapply (kept_exit (F := F) c R)
    iexact HK
  isplitl [L0]; · iexact L0
  isplitl [L1]; · iexact L1
  isplitl [L2]; · iexact L2
  iexact HI

end Exit

/-! ## The body -/

/-- What a device holds of the protocol at launch. -/
def protoIn : sProp 𝕄 :=
  iprop(atPos ER (barCell c) 0 ∅ 0 ∗ cred (tallyAt (barCell c) 1 2) ∗ dutyTok ER (barCell (prv c)) 0 0 ∗ dutyTok ER (barCell (nxt c)) 0 1
    ∗ ringIni (F := F) false c ∗ ringIni (F := F) true c)
/-- What it has of it at the end: every semaphore at zero. -/
def protoOut : sProp 𝕄 := iprop(semVal (barCell c) 0 ∗ ringSems (F := F) c false ∗ ringSems (F := F) c true)

/-- The buffers that live through the body only, whatever they hold. -/
def scr : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ kAny (F := F) c false Finset.univ ∗ vAny (F := F) c false Finset.univ ∗ kAny (F := F) c true Finset.univ ∗ vAny (F := F) c true Finset.univ)

/-- A device's result. -/
def bodyOut (X : Vec F S2x256x512 .f32) (Wq : Vec F S512x256 .f32) (Wo : Vec F S256x512 .f32) : Vec F S2x256x512 .f32 :=
  bufO fun b => outRow ((accAt kv c (queryAt X Wq) 17).1 b) ((accAt kv c (queryAt X Wq) 17).2 b) (woBlk Wo)

theorem wp_fillOwn (K V : Vec F S2x256x4x64 .f32) (hkv : kv c = ownKV K V) (Q : PUnit → sProp 𝕄) :
    iprop(slotAny c false 0 ∗ slotAny c true 0
      ∗ (((reg false 0 c 0 fullShare (kv c) ∗ reg false 1 c 0 fullShare (kv c) ∗ reg false 2 c 0 fullShare (kv c))
          ∗ (reg true 0 c 0 fullShare (kv c) ∗ reg true 1 c 0 fullShare (kv c) ∗ reg true 2 c 0 fullShare (kv c))) -∗ Q ⟨⟩))
      ⊢ wp frame (wpE (defs₀ (F := F)) 𝒱₀ (c : Thread nD τ) none) Set.univ (fillSlots (ownKV K V)) Q := by
  rw [← hkv]
  exact wp_fillSlots c (kv c) Q

theorem wp_body (X : Vec F S2x256x512 .f32) (Wq : Vec F S512x256 .f32) (K V : Vec F S2x256x4x64 .f32) (Wo : Vec F S256x512 .f32) (O : Vec F S2x256x512 .f32)
    (hkv : kv c = ownKV K V) (Q : PUnit → sProp 𝕄) :
    iprop(ctx kv ∗ protoIn (F := F) c ∗ owq c (ow₀ c) ∗ scr (F := F) c ∗ (xPts c X ∗ wqPts c Wq ∗ keyPts c K ∗ valPts c V ∗ woPts c Wo ∗ outPts c O)
        ∗ ((protoOut (F := F) c ∗ owq c 0 ∗ scr (F := F) c ∗ xPts c X ∗ wqPts c Wq ∗ keyPts c K ∗ valPts c V ∗ woPts c Wo ∗ outPts c (bodyOut kv c X Wq Wo)) -∗ Q ⟨⟩))
      ⊢ wp frame (wpE (defs₀ (F := F)) 𝒱₀ (c : Thread nD τ) none) Set.univ (bodyText (F := F)) Q := by
  have e := putO_putO O fun b => outRow ((accAt kv c (queryAt X Wq) 17).1 b) ((accAt kv c (queryAt X Wq) 17).2 b) (woBlk Wo)
  have e' := congrArg (outPts c) e
  unfold bodyText protoIn protoOut scr
  simp only [Prog.bind_lift]
  rw [wp_deviceId, wp_bind]
  iintro ⟨#Hc, ⟨Hat, Hcr, Ht0, Ht1, HR, HL⟩, HO, ⟨⟨%q, Hq⟩, ⟨%a, Ha⟩, ⟨%l, Hl⟩, HkR, HvR, HkL, HvL⟩, ⟨Hx, Hwq, HK, HV, Hwo, Ho⟩, Hk⟩
  ihave HbR := (bufs_slots (F := F) c false) $$ [HkR HvR]
  · isplitl [HkR]; · iexact HkR
    iexact HvR
  icases HbR with ⟨HR0, HR1, HR2, HR3⟩
  ihave HbL := (bufs_slots (F := F) c true) $$ [HkL HvL]
  · isplitl [HkL]; · iexact HkL
    iexact HvL
  icases HbL with ⟨HL0, HL1, HL2, HL3⟩
  ihave Hp0 := (pay_free (F := F) kv false c) $$ [HR1 HR2 HR3]
  · isplitr; · iexact Hc
    isplitl [HR1]; · iexact HR1
    isplitl [HR2]; · iexact HR2
    iexact HR3
  ihave Hp1 := (pay_free (F := F) kv true c) $$ [HL1 HL2 HL3]
  · isplitr; · iexact Hc
    isplitl [HL1]; · iexact HL1
    isplitl [HL2]; · iexact HL2
    iexact HL3
  iapply (wp_greet kv c _)
  isplitr; · iexact Hc
  isplitl [HO]; · iexact HO
  isplitl [Hat]; · iexact Hat
  isplitl [Hcr]; · iexact Hcr
  isplitl [Ht0]; · iexact Ht0
  isplitl [Ht1]; · iexact Ht1
  isplitl [Hp0]; · iexact Hp0
  isplitl [Hp1]; · iexact Hp1
  iintro ⟨HO, Hat, Hp0, Hp1⟩
  iapply (wp_ldKey c K) $$ HK
  iintro HK
  iapply (wp_ldVal c V) $$ HV
  iintro HV
  rw [wp_bind]
  iapply (wp_fillOwn kv c K V hkv _)
  isplitl [HR0]; · iexact HR0
  isplitl [HL0]; · iexact HL0
  iintro ⟨HsR, HsL⟩
  rw [wp_bind]
  iapply (wp_queries c X Wq (unbuf64 q) _)
  isplitl [Hx]; · iexact Hx
  isplitl [Hwq]; · iexact Hwq
  isplitl [Hq]
  · unfold qPts; iapply (Entails.of_eq (congrArg (fun v => ((((c : Thread nD τ).loc cc0_scratch0) ↦{fullShare} v) : sProp 𝕄)) (buf_unbuf64 q).symm)); iexact Hq
  iintro ⟨Hx, Hwq, Hq⟩
  rw [wp_bind]
  iapply (wp_clear c a l _)
  isplitl [Ha]; · iexact Ha
  isplitl [Hl]; · iexact Hl
  iintro ⟨Ha, Hl⟩
  rw [wp_bind]
  iapply (wp_hopsLoop kv c (queryAt X Wq) _)
  isplitr; · iexact Hc
  isplitl [HR HL HsR HsL Hp0 Hp1 HO Hq Ha Hl]
  · unfold inv
    isplitl [HR HsR Hp0]
    · iapply (ring_start kv false c)
      isplitl [HR]; · iexact HR
      isplitl [HsR]; · iexact HsR
      iexact Hp0
    isplitl [HL HsL Hp1]
    · iapply (ring_start kv true c)
      isplitl [HL]; · iexact HL
      isplitl [HsL]; · iexact HsL
      iexact Hp1
    isplitl [HO]; · iexact HO
    isplitl [Hq]; · iexact Hq
    isplitl [Ha]; · iexact Ha
    iexact Hl
  unfold inv
  iintro ⟨HR, HL, HO, Hq, Ha, Hl⟩
  rw [wp_bind]
  iapply (wp_result c _ _ Wo O 0 _)
  isplitl [Ha]; · iexact Ha
  isplitl [Hl]; · iexact Hl
  isplitl [Hwo]; · iexact Hwo
  isplitl [Ho]; · iexact Ho
  iintro ⟨Ha, Hl, Hwo, Ho⟩
  iapply (wp_fupd)
  iapply (wp_result c _ _ Wo _ 1 _)
  isplitl [Ha]; · iexact Ha
  isplitl [Hl]; · iexact Hl
  isplitl [Hwo]; · iexact Hwo
  isplitl [Ho]; · iexact Ho
  iintro ⟨Ha, Hl, Hwo, Ho⟩
  imod (ring_exit kv c false) $$ [HR] with HR
  · isplitr; · iexact Hc
    iexact HR
  imod (ring_exit kv c true) $$ [HL] with HL
  · isplitr; · iexact Hc
    iexact HL
  imod (close_bar kv c) $$ [Hat] with Hat
  · isplitr; · iexact Hc
    iexact Hat
  ihave Ho := (Entails.of_eq e') $$ Ho
  icases HR with ⟨⟨HkR, HvR⟩, HR⟩
  icases HL with ⟨⟨HkL, HvL⟩, HL⟩
  imodintro
  iapply Hk
  isplitl [Hat HR HL]
  · isplitl [Hat]; · iexact Hat
    isplitl [HR]; · iexact HR
    iexact HL
  isplitl [HO]; · iexact HO
  isplitl [Hq Ha Hl HkR HvR HkL HvL]
  · isplitl [Hq]; · iexists _; unfold qPts; iexact Hq
    isplitl [Ha]; · iexists _; unfold aPts; iexact Ha
    isplitl [Hl]; · iexists _; unfold lPts; iexact Hl
    isplitl [HkR]; · iexact HkR
    isplitl [HvR]; · iexact HvR
    isplitl [HkL]; · iexact HkL
    iexact HvL
  isplitl [Hx]; · iexact Hx
  isplitl [Hwq]; · iexact Hwq
  isplitl [HK]; · iexact HK
  isplitl [HV]; · iexact HV
  isplitl [Hwo]; · iexact Hwo
  unfold bodyOut
  iexact Ho

end Cert.RingAttn

end
-- ==== Proof.Deal.lean ====
module

public import proofs.«01_k».proof.Proof.Body

/-! # What the launch deals the devices: credits, duties and positions -/

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

variable (kv : Dev nD → KV F)

/-! ## The credits: what is owed to a device is what it waits for -/

section Credits

/-- What is owed to `d` for lane `l` of the message of hop `h` of ring `R`; -/
def iS (R : Bool) (l : Fin 3) (d : Dev nD) (h : ℕ) : Tal :=
  if h < hops R then tallyAt (rcvCell R l d (sl (h + 1))) (h + 3) (amt R l) else 0
/-- and for the credit it waits for at its hop `g`. -/
def iC (R : Bool) (d : Dev nD) (g : ℕ) : Tal := if 4 ≤ g ∧ g < hops R then tallyAt (crCell R d) (g + 2) 1 else 0

theorem oS_eq (R : Bool) (l : Fin 3) (c : Dev nD) (h : ℕ) : oS R l c h = iS R l (dst R c) h := rfl
theorem oC_eq (R : Bool) (c : Dev nD) (h : ℕ) : oC R c h = iC R (src R c) (h + 3) := by
  unfold oC iC
  by_cases hh : 1 ≤ h ∧ h + 4 ≤ hops R
  · rw [if_pos hh, if_pos (by omega)]
  · rw [if_neg hh, if_neg (by omega)]

def dueRing (R : Bool) (d : Dev nD) : Tal :=
  ((∑ h ∈ Finset.range 17, iS R 0 d h) + (∑ h ∈ Finset.range 17, iS R 1 d h) + ∑ h ∈ Finset.range 17, iS R 2 d h) + ∑ g ∈ Finset.range 20, iC R d g
/-- All that is owed to `d` at launch. -/
def due (d : Dev nD) : Tal := tallyAt (barCell d) 1 2 + (dueRing false d + dueRing true d)

def owTerm (c : Dev nD) (h : ℕ) : Tal :=
  oC true c h + oC false c h + oS true 2 c h + oS false 2 c h + oS true 1 c h + oS false 1 c h + oS true 0 c h + oS false 0 c h

theorem owF_sum (c : Dev nD) : ∀ n, owF c n = ∑ i ∈ Finset.range n, owTerm c (16 - i)
  | 0 => rfl
  | n + 1 => by
    rw [Finset.sum_range_succ, ← owF_sum c n]
    unfold owTerm
    rw [owF]
    simp only [add_assoc]

theorem ow_zero (c : Dev nD) : ow c 0 = ∑ h ∈ Finset.range 17, owTerm c h := by
  unfold ow
  rw [owF_sum]
  exact Finset.sum_range_reflect (owTerm c) 17

theorem sum_dst {A : Type} [AddCommMonoid A] (R : Bool) (f : Dev nD → A) : ∑ d, f (dst R d) = ∑ d, f d := Equiv.sum_comp (ringE R) f
theorem sum_src {A : Type} [AddCommMonoid A] (R : Bool) (f : Dev nD → A) : ∑ d, f (src R d) = ∑ d, f d := Equiv.sum_comp (ringE R).symm f

theorem sum_oS (R : Bool) (l : Fin 3) : ∑ d, ∑ h ∈ Finset.range 17, oS R l d h = ∑ d, ∑ h ∈ Finset.range 17, iS R l d h := by
  simp only [oS_eq]
  exact sum_dst R fun d => ∑ h ∈ Finset.range 17, iS R l d h
theorem sum_oC (R : Bool) : ∑ d, ∑ h ∈ Finset.range 17, oC R d h = ∑ d, ∑ g ∈ Finset.range 20, iC R d g := by
  simp only [oC_eq]
  rw [sum_src R fun d => ∑ h ∈ Finset.range 17, iC R d (h + 3)]
  refine Finset.sum_congr rfl fun d _ => ?_
  refine Eq.symm ?_
  rw [show (20 : ℕ) = 17 + 1 + 1 + 1 from rfl, Finset.sum_range_succ', Finset.sum_range_succ', Finset.sum_range_succ']
  have z : ∀ g, g < 4 → iC R d g = 0 := fun g hg => if_neg (by omega)
  rw [z 0 (by omega), z (0 + 1) (by omega), z (0 + 1 + 1) (by omega), add_zero, add_zero, add_zero]

theorem sum_due : ∑ d, ow₀ d = ∑ d, due d := by
  have hn : ∑ d, tallyAt (barCell (nxt d)) 1 1 = ∑ d, (tallyAt (barCell d) 1 1 : Tal) := sum_dst false fun d => (tallyAt (barCell d) 1 1 : Tal)
  have hp : ∑ d, tallyAt (barCell (prv d)) 1 1 = ∑ d, (tallyAt (barCell d) 1 1 : Tal) := sum_dst true fun d => (tallyAt (barCell d) 1 1 : Tal)
  have hb : ∀ d : Dev nD, (tallyAt (barCell d) 1 2 : Tal) = tallyAt (barCell d) 1 1 + tallyAt (barCell d) 1 1 := fun d => (tallyAt_add _ _ 1 1).symm
  unfold ow₀ due dueRing
  simp only [hb, ow_zero, owTerm, Finset.sum_add_distrib, sum_oS, sum_oC, hn, hp]
  abel

/-- All that `T` counts lies on `d`'s cells. -/
def On (d : Dev nD) (T : Tal) : Prop := ∀ g : GSem nD τ sig, g.1 ≠ (d : Thread nD τ) → T g = 0

theorem On.zero (d : Dev nD) : On d 0 := fun _ _ => rfl
theorem On.add {d : Dev nD} {T T' : Tal} (h : On d T) (h' : On d T') : On d (T + T') := fun g hg => by
  rw [Pi.add_apply, h g hg, h' g hg, add_zero]
theorem On.sum {d : Dev nD} (s : Finset ℕ) {T : ℕ → Tal} (h : ∀ i, On d (T i)) : On d (∑ i ∈ s, T i) := fun g hg => by
  rw [Finset.sum_apply]; exact Finset.sum_eq_zero fun i _ => h i g hg
theorem On.tally (d : Dev nD) (sm : SemLoc sig) (u n : ℕ) : On d (tallyAt ((d : Thread nD τ), sm) u n) := fun g hg =>
  tallyAt_ne_cell (fun h => hg (by rw [h])) _ _
theorem On.iS (R : Bool) (l : Fin 3) (d : Dev nD) (h : ℕ) : On d (iS R l d h) := by
  unfold RingAttn.iS; split
  · exact On.tally _ _ _ _
  · exact On.zero _
theorem On.iC (R : Bool) (d : Dev nD) (h : ℕ) : On d (iC R d h) := by
  unfold RingAttn.iC; split
  · exact On.tally _ _ _ _
  · exact On.zero _
theorem On.ring (R : Bool) (d : Dev nD) : On d (dueRing R d) :=
  (((On.sum _ fun h => On.iS R 0 d h).add (On.sum _ fun h => On.iS R 1 d h)).add (On.sum _ fun h => On.iS R 2 d h)).add (On.sum _ fun h => On.iC R d h)
theorem On.due (d : Dev nD) : On d (due d) := (On.tally d _ _ _).add ((On.ring false d).add (On.ring true d))

theorem cred_two (a b : Tal) : (cred (a + b) : sProp 𝕄) = iprop(cred a ∗ cred b) := BI.Entails.antisymm (cred_add _ _).1 (cred_add _ _).2
theorem cred_all (s : Finset ℕ) (T : ℕ → Tal) : (cred (∑ i ∈ s, T i) : sProp 𝕄) = bigSep s fun i => cred (T i) := by
  induction s using Finset.induction_on with
  | empty => rw [Finset.sum_empty, bigSep_empty, cred_zero]; rfl
  | insert a s ha ih => rw [Finset.sum_insert ha, cred_two, ih, bigSep_insert ha]; rfl

/-- The credits of a ring. -/
def credRing (R : Bool) (c : Dev nD) : sProp 𝕄 :=
  iprop(left (hops R) 0 (credR (F := F) R 0 c) ∗ left (hops R) 0 (credR (F := F) R 1 c) ∗ left (hops R) 0 (credR (F := F) R 2 c)
    ∗ left (hops R) 4 (fun g => cred (tallyAt (crCell R c) (g + 2) 1)))

theorem cred_iS (R : Bool) (l : Fin 3) (c : Dev nD) : (cred (∑ h ∈ Finset.range 17, iS R l c h) : sProp 𝕄) ⊢ left (hops R) 0 (credR (F := F) R l c) := by
  have hle := hops_le R
  rw [cred_all]
  unfold left
  refine (bigSep_subset (t := Finset.Ico 0 (hops R)) (fun h hh => Finset.mem_range.mpr (by have := (Finset.mem_Ico.mp hh).2; omega))).trans (bigSep_mono fun h hh => ?_)
  unfold iS credR
  rw [if_pos (Finset.mem_Ico.mp hh).2]
  exact BI.Entails.refl _
theorem cred_iC (R : Bool) (c : Dev nD) : (cred (∑ g ∈ Finset.range 20, iC R c g) : sProp 𝕄) ⊢ left (hops R) 4 (fun g => cred (tallyAt (crCell R c) (g + 2) 1)) := by
  have hle := hops_le R
  rw [cred_all]
  unfold left
  refine (bigSep_subset (t := Finset.Ico 4 (hops R)) (fun h hh => Finset.mem_range.mpr (by have := (Finset.mem_Ico.mp hh).2; omega))).trans (bigSep_mono fun h hh => ?_)
  unfold iC
  rw [if_pos (Finset.mem_Ico.mp hh)]
  exact BI.Entails.refl _

theorem cred_ring (R : Bool) (c : Dev nD) : (cred (dueRing R c) : sProp 𝕄) ⊢ credRing (F := F) R c := by
  unfold dueRing credRing
  rw [cred_two, cred_two, cred_two]
  iintro ⟨⟨⟨H0, H1⟩, H2⟩, H3⟩
  isplitl [H0]; · iapply (cred_iS (F := F) R 0 c); iexact H0
  isplitl [H1]; · iapply (cred_iS (F := F) R 1 c); iexact H1
  isplitl [H2]; · iapply (cred_iS (F := F) R 2 c); iexact H2
  iapply (cred_iC (F := F) R c); iexact H3

/-- The launch's credits of a device. -/
theorem creds (c : Dev nD) : (Pipeline.launchCred ow₀ c : sProp 𝕄) ⊢ iprop(cred (tallyAt (barCell c) 1 2) ∗ credRing (F := F) false c ∗ credRing (F := F) true c) := by
  rw [Pipeline.launchCred_of_sum ow₀ due sum_due (fun d g h => by by_contra hg; exact h (On.due d g hg)) c]
  unfold due
  rw [cred_two, cred_two]
  iintro ⟨HB, H0, H1⟩
  isplitl [HB]; · iexact HB
  isplitl [H0]; · iapply (cred_ring (F := F) false c); iexact H0
  iapply (cred_ring (F := F) true c); iexact H1

end Credits

/-! ## A device's cells one ring at a time -/

section Cells

def laneOf (A : CI → sProp 𝕄) (R : Bool) (l : Fin 3) : sProp 𝕄 :=
  iprop((bigSep Finset.univ fun s => A (.inl (false, R, l, s))) ∗ bigSep Finset.univ fun s => A (.inl (true, R, l, s)))
def ringOf (A : CI → sProp 𝕄) (R : Bool) : sProp 𝕄 :=
  iprop(laneOf A R 0 ∗ laneOf A R 1 ∗ laneOf A R 2 ∗ A (.inr (.inr R)))

theorem ch_all (A : Ch → sProp 𝕄) : bigSep Finset.univ A
    = iprop((((bigSep Finset.univ fun s => A (false, false, 0, s)) ∗ (bigSep Finset.univ fun s => A (false, false, 1, s)) ∗ bigSep Finset.univ fun s => A (false, false, 2, s))
        ∗ ((bigSep Finset.univ fun s => A (false, true, 0, s)) ∗ (bigSep Finset.univ fun s => A (false, true, 1, s)) ∗ bigSep Finset.univ fun s => A (false, true, 2, s)))
      ∗ (((bigSep Finset.univ fun s => A (true, false, 0, s)) ∗ (bigSep Finset.univ fun s => A (true, false, 1, s)) ∗ bigSep Finset.univ fun s => A (true, false, 2, s))
        ∗ ((bigSep Finset.univ fun s => A (true, true, 0, s)) ∗ (bigSep Finset.univ fun s => A (true, true, 1, s)) ∗ bigSep Finset.univ fun s => A (true, true, 2, s)))) := by
  rw [bigSep_univ_prod, two_univ, bigSep_univ_prod, bigSep_univ_prod, two_univ, two_univ,
    bigSep_univ_prod, bigSep_univ_prod, bigSep_univ_prod, bigSep_univ_prod, three_univ, three_univ, three_univ, three_univ]

theorem ci_all (A : CI → sProp 𝕄) : bigSep Finset.univ A
    = iprop(bigSep Finset.univ (fun ch : Ch => A (.inl ch)) ∗ A (.inr (.inl ())) ∗ A (.inr (.inr false)) ∗ A (.inr (.inr true))) := by
  rw [bigSep_univ_sum, bigSep_univ_sum, two_univ, bigSep_univ_eq_bigSepL [()] (by decide) (by decide)]
  rfl

theorem ci_rings (A : CI → sProp 𝕄) : bigSep Finset.univ A ⊣⊢ iprop(A (.inr (.inl ())) ∗ ringOf A false ∗ ringOf A true) := by
  rw [ci_all, ch_all]
  unfold ringOf laneOf
  constructor
  · iintro ⟨⟨⟨⟨S0, S1, S2⟩, T0, T1, T2⟩, ⟨U0, U1, U2⟩, V0, V1, V2⟩, B, C0, C1⟩
    isplitl [B]; · iexact B
    isplitl [S0 S1 S2 U0 U1 U2 C0]
    · isplitl [S0 U0]
      · isplitl [S0] <;> iassumption
      isplitl [S1 U1]
      · isplitl [S1] <;> iassumption
      isplitl [S2 U2]
      · isplitl [S2] <;> iassumption
      iexact C0
    isplitl [T0 V0]
    · isplitl [T0] <;> iassumption
    isplitl [T1 V1]
    · isplitl [T1] <;> iassumption
    isplitl [T2 V2]
    · isplitl [T2] <;> iassumption
    iexact C1
  · iintro ⟨B, ⟨⟨S0, U0⟩, ⟨S1, U1⟩, ⟨S2, U2⟩, C0⟩, ⟨T0, V0⟩, ⟨T1, V1⟩, ⟨T2, V2⟩, C1⟩
    isplitl [S0 S1 S2 T0 T1 T2 U0 U1 U2 V0 V1 V2]
    · isplitl [S0 S1 S2 T0 T1 T2]
      · isplitl [S0 S1 S2]
        · isplitl [S0]; · iexact S0
          isplitl [S1] <;> iassumption
        isplitl [T0]; · iexact T0
        isplitl [T1] <;> iassumption
      isplitl [U0 U1 U2]
      · isplitl [U0]; · iexact U0
        isplitl [U1] <;> iassumption
      isplitl [V0]; · iexact V0
      isplitl [V1] <;> iassumption
    isplitl [B]; · iexact B
    isplitl [C0] <;> iassumption

/-! ### The semaphores the body owns -/

abbrev osem : Ch ⊕ Bool → SemLoc sig
  | .inl ch => .dma (dsem ch.1 ch.2.1 ch.2.2.1 ch.2.2.2)
  | .inr R => .reg (crS R)

abbrev ownZ (c : Dev nD) : sProp 𝕄 := Pipeline.ownSems0 (Ix := ℕ) (Name := ℕ) (U := UU) (Lvl := ℕ) (Val := Elt F) (τ := τ) osem c

theorem ownSemFacts : Pipeline.OwnSemFacts cfg0.spec osem := by decide

theorem unscoped_eq (c : Dev nD) : (unscopedSems0 c : sProp 𝕄) = semVal (barCell c) 0 := by
  unfold unscopedSems0; rw [bigSep_eq_bigSepL_of_eq [SemLoc.reg barS] (by decide) (by decide)]; rfl

theorem ownZ_eq (c : Dev nD) : ownZ (F := F) c
    = iprop((bigSep Finset.univ fun ch : Ch => semVal ((c : Thread nD τ), osem (.inl ch)) 0) ∗ semVal (crCell false c) 0 ∗ semVal (crCell true c) 0) := by
  unfold ownZ Pipeline.ownSems0
  rw [bigSep_univ_sum, two_univ]
  rfl

theorem sems_all (c : Dev nD) : iprop(ownZ (F := F) c ∗ unscopedSems0 c) ⊣⊢ (bigSep Finset.univ fun k : CI => semVal (kcell (c, k)) 0 : sProp 𝕄) := by
  rw [ci_all, unscoped_eq, ownZ_eq]
  constructor
  · iintro ⟨⟨H, C0, C1⟩, B⟩
    isplitl [H]; · iexact H
    isplitl [B]; · iexact B
    isplitl [C0]
    · iexact C0
    iexact C1
  · iintro ⟨H, B, C0, C1⟩
    isplitl [H C0 C1]
    · isplitl [H]; · iexact H
      isplitl [C0]
      · iexact C0
      iexact C1
    iexact B

theorem sems_end (c : Dev nD) : protoOut (F := F) c ⊢ iprop(unscopedSems0 c ∗ ownZ (F := F) c) := by
  rw [show protoOut (F := F) c = iprop(semVal (kcell (c, .inr (.inl ()))) 0 ∗ ringOf (fun k : CI => semVal (kcell (c, k)) 0) false
      ∗ ringOf (fun k : CI => semVal (kcell (c, k)) 0) true) from rfl]
  iintro H
  ihave H := (ci_rings fun k : CI => (semVal (kcell (c, k)) 0 : sProp 𝕄)).2 $$ H
  ihave H := (sems_all (F := F) c).2 $$ H
  icases H with ⟨H1, H2⟩
  isplitl [H2] <;> iassumption

end Cells

/-! ## The duties, from the devices whose cells they are on to the devices that pay them -/

section Duties

/-- A device's duties: its barrier cell's two, its transfers' one per hop, its credit cells'. -/
abbrev TI : Type := Bool ⊕ ((Bool × Bool × Fin 3 × Fin 16) ⊕ (Bool × Fin 16))

def tokOf (p : Dev nD × TI) : GSem nD τ sig × ℕ × ℕ :=
  match p.2 with
  | .inl b => (barCell p.1, 0, if b then 1 else 0)
  | .inr (.inl (rc, R, l, h)) => (((p.1 : Thread nD τ), .dma (dsem rc R l (if rc then sl (h.val + 1) else sl h.val))), h.val / 4, 0)
  | .inr (.inr (R, i)) => (crCell R p.1, 0, i.val)

theorem hop_of {rc : Bool} {h h' : Fin 16} (h1 : (if rc then sl (h.val + 1) else sl h.val) = (if rc then sl (h'.val + 1) else sl h'.val))
    (h2 : h.val / 4 = h'.val / 4) : h = h' := by
  apply Fin.ext
  cases rc
  · have := congrArg Fin.val h1; simp [sl] at this; omega
  · have := congrArg Fin.val h1; simp [sl] at this; omega

theorem tokOf_injective : Function.Injective tokOf := by
  rintro ⟨c, i⟩ ⟨c', i'⟩ h
  have hc : c = c' := by
    have := congrArg (fun x : GSem nD τ sig × ℕ × ℕ => x.1.1.1) h
    rcases i with b | ⟨rc, R, l, n⟩ | ⟨R, n⟩ <;> rcases i' with b' | ⟨rc', R', l', n'⟩ | ⟨R', n'⟩ <;> exact this
  subst hc
  have hs := congrArg (fun x : GSem nD τ sig × ℕ × ℕ => x.1.2) h
  have hr := congrArg (fun x : GSem nD τ sig × ℕ × ℕ => x.2) h
  rcases i with b | ⟨rc, R, l, n⟩ | ⟨R, n⟩ <;> rcases i' with b' | ⟨rc', R', l', n'⟩ | ⟨R', n'⟩ <;> dsimp only [tokOf] at hs hr
  · cases b <;> cases b' <;> first | rfl | exact absurd hr (by decide)
  · cases hs
  · exact absurd (SemLoc.reg.inj hs).symm (cr_ne_bar R')
  · cases hs
  · have e := congrArg chOf (SemLoc.dma.inj hs)
    rw [chOf_dsem, chOf_dsem] at e
    have e := Option.some.inj e
    have e1 := (Prod.mk.inj e).1
    have e := (Prod.mk.inj e).2
    have e2 := (Prod.mk.inj e).1
    have e := (Prod.mk.inj e).2
    have e3 := (Prod.mk.inj e).1
    have e4 := (Prod.mk.inj e).2
    subst e1 e2 e3
    have := hop_of e4 (Prod.mk.inj hr).1
    subst this; rfl
  · cases hs
  · exact absurd (SemLoc.reg.inj hs) (cr_ne_bar R)
  · cases hs
  · have e := cr_inj R R' (SemLoc.reg.inj hs)
    subst e
    have := Fin.ext (Prod.mk.inj hr).2
    subst this; rfl

def ringToks : Finset (GSem nD τ sig × ℕ × ℕ) := Finset.univ.map ⟨tokOf, tokOf_injective⟩

/-- The duties on a ring's cells of `c`: its send cells', its receive cells', its credit cell's. -/
def sndToks (R : Bool) (l : Fin 3) (c : Dev nD) : sProp 𝕄 := bigSep Finset.univ fun h : Fin 16 => dutyTok ER (sndCell R l c (sl h.val)) (h.val / 4) 0
def rcvToks (R : Bool) (l : Fin 3) (c : Dev nD) : sProp 𝕄 := bigSep Finset.univ fun h : Fin 16 => dutyTok ER (rcvCell R l c (sl (h.val + 1))) (h.val / 4) 0
def crdToks (R : Bool) (c : Dev nD) : sProp 𝕄 := bigSep Finset.univ fun i : Fin 16 => dutyTok ER (crCell R c) 0 i.val

def laneToks (R : Bool) (c : Dev nD) (f : Dev nD → Dev nD) : sProp 𝕄 :=
  iprop((sndToks (F := F) R 0 c ∗ sndToks (F := F) R 1 c ∗ sndToks (F := F) R 2 c) ∗ (rcvToks (F := F) R 0 (f c) ∗ rcvToks (F := F) R 1 (f c) ∗ rcvToks (F := F) R 2 (f c)))

/-- The duties on `c`'s own cells. -/
def toksAt (c : Dev nD) : sProp 𝕄 := bigSep Finset.univ fun i : TI => dutyTok ER (tokOf (c, i)).1 (tokOf (c, i)).2.1 (tokOf (c, i)).2.2

def toksFrom (c : Dev nD) : sProp 𝕄 :=
  iprop((dutyTok ER (barCell c) 0 0 ∗ dutyTok ER (barCell c) 0 1)
    ∗ ((((sndToks (F := F) false 0 c ∗ sndToks (F := F) false 1 c ∗ sndToks (F := F) false 2 c) ∗ (sndToks (F := F) true 0 c ∗ sndToks (F := F) true 1 c ∗ sndToks (F := F) true 2 c))
        ∗ ((rcvToks (F := F) false 0 c ∗ rcvToks (F := F) false 1 c ∗ rcvToks (F := F) false 2 c) ∗ (rcvToks (F := F) true 0 c ∗ rcvToks (F := F) true 1 c ∗ rcvToks (F := F) true 2 c)))
      ∗ (crdToks (F := F) false c ∗ crdToks (F := F) true c)))

theorem toksAt_eq (c : Dev nD) : toksAt (F := F) c = toksFrom c := by
  unfold toksAt
  rw [bigSep_univ_sum, bigSep_univ_sum, two_univ, bigSep_univ_prod, bigSep_univ_prod, two_univ, two_univ, bigSep_univ_prod, bigSep_univ_prod, two_univ, two_univ,
    bigSep_univ_prod, bigSep_univ_prod, bigSep_univ_prod, bigSep_univ_prod, three_univ, three_univ, three_univ, three_univ]
  rfl

/-- The duties `c` pays. -/
def toksTo (c : Dev nD) : sProp 𝕄 :=
  iprop((dutyTok ER (barCell (prv c)) 0 0 ∗ dutyTok ER (barCell (nxt c)) 0 1)
    ∗ ((((sndToks (F := F) false 0 c ∗ sndToks (F := F) false 1 c ∗ sndToks (F := F) false 2 c) ∗ (sndToks (F := F) true 0 c ∗ sndToks (F := F) true 1 c ∗ sndToks (F := F) true 2 c))
        ∗ ((rcvToks (F := F) false 0 (dst false c) ∗ rcvToks (F := F) false 1 (dst false c) ∗ rcvToks (F := F) false 2 (dst false c))
          ∗ (rcvToks (F := F) true 0 (dst true c) ∗ rcvToks (F := F) true 1 (dst true c) ∗ rcvToks (F := F) true 2 (dst true c))))
      ∗ (crdToks (F := F) false (src false c) ∗ crdToks (F := F) true (src true c))))

theorem all_dst (R : Bool) (A : Dev nD → sProp 𝕄) : (bigSep Finset.univ fun c => A (dst R c)) = bigSep Finset.univ A :=
  (bigSep_univ_equiv (ringE R) A).symm
theorem all_src (R : Bool) (A : Dev nD → sProp 𝕄) : (bigSep Finset.univ fun c => A (src R c)) = bigSep Finset.univ A :=
  (bigSep_univ_equiv (ringE R).symm A).symm

theorem toks_around : (bigSep Finset.univ fun c : Dev nD => toksAt (F := F) c) = bigSep Finset.univ fun c : Dev nD => toksTo (F := F) c := by
  have h0 := all_dst true fun c : Dev nD => (dutyTok ER (barCell c) 0 0 : sProp 𝕄)
  have h1 := all_dst false fun c : Dev nD => (dutyTok ER (barCell c) 0 1 : sProp 𝕄)
  simp only [toksAt_eq]
  unfold toksFrom toksTo
  simp only [bigSep_sep']
  rw [← h0, ← h1, ← all_dst false (rcvToks (F := F) false 0), ← all_dst false (rcvToks (F := F) false 1), ← all_dst false (rcvToks (F := F) false 2),
    ← all_dst true (rcvToks (F := F) true 0), ← all_dst true (rcvToks (F := F) true 1), ← all_dst true (rcvToks (F := F) true 2),
    ← all_src false (crdToks (F := F) false), ← all_src true (crdToks (F := F) true)]
  rfl

/-- Sixteen numbered pieces, those below `n`. -/
theorem fin_left (A : ℕ → sProp 𝕄) (n : ℕ) (hn : n ≤ 16) : (bigSep Finset.univ fun h : Fin 16 => A h.val) ⊢ left n 0 A := by
  have e : (bigSep Finset.univ fun h : Fin 16 => A h.val) = bigSep (Finset.range 16) A := by
    rw [show Finset.range 16 = (Finset.univ : Finset (Fin 16)).map Fin.valEmbedding from by decide, bigSep_map]; rfl
  rw [e]
  unfold left
  exact bigSep_subset fun h hh => Finset.mem_range.mpr (by have := (Finset.mem_Ico.mp hh).2; omega)

theorem toks_lane (R : Bool) (l : Fin 3) (c : Dev nD) : iprop(sndToks (F := F) R l c ∗ rcvToks R l (dst R c)) ⊢ left (hops R) 0 (tokS (F := F) R l c) := by
  have e : left (hops R) 0 (tokS (F := F) R l c)
      = iprop(left (hops R) 0 (fun h => dutyTok ER (sndCell R l c (sl h)) (h / 4) 0) ∗ left (hops R) 0 (fun h => dutyTok ER (rcvCell R l (dst R c) (sl (h + 1))) (h / 4) 0)) := by
    unfold left tokS
    exact bigSep_sep' _ _ _
  rw [e]
  exact BI.sep_mono (fin_left (fun h => dutyTok ER (sndCell R l c (sl h)) (h / 4) 0) _ (hops_le R))
    (fin_left (fun h => dutyTok ER (rcvCell R l (dst R c) (sl (h + 1))) (h / 4) 0) _ (hops_le R))

theorem toks_cr (R : Bool) (c : Dev nD) : crdToks (F := F) R (src R c) ⊢ crToks (F := F) R c 0 := by
  have e : crToks (F := F) R c 0 = left (hops R - 4) 0 (fun i => dutyTok ER (crCell R (src R c)) 0 i) := by
    unfold crToks left
    rw [show Finset.Ico (max 1 0) (hops R - 3) = (Finset.Ico 0 (hops R - 4)).map (addRightEmbedding 1) from by cases R <;> decide, bigSep_map]
    rfl
  rw [e]
  exact fin_left (fun i => dutyTok ER (crCell R (src R c)) 0 i) _ (by have := hops_le R; omega)

end Duties

/-! ## A device's part of the protocol at launch -/

section Start

theorem with_ctx {I : Type} [DecidableEq I] {s : Finset I} {P : sProp 𝕄} [BI.Persistent P] {A B : I → sProp 𝕄}
    (h : ∀ i ∈ s, iprop(P ∗ A i) ⊢ B i) : iprop(P ∗ bigSep s A) ⊢ bigSep s B :=
  (sep_mono_left (BI.bigSep_of_persistent s P)).trans (by rw [← bigSep_sep']; exact bigSep_mono h)

theorem cell_here (g : GSem nD τ sig) (h : ctx kv ⊢ cellRec kv g) :
    iprop(ctx kv ∗ atPos ER g 0 ∅ 0) ⊢ iprop(atPos ER g 0 ∅ 0 ∗ reached ER g 0) := by
  iintro ⟨#Hc, Ha⟩
  ihave HI := h $$ [Hc]
  · iexact Hc
  unfold cellRec
  icases HI with ⟨%κ, -, #HI⟩
  isplitl [Ha]; · iexact Ha
  iexact HI

variable (R : Bool) (c : Dev nD)

theorem win_snd (l : Fin 3) : iprop(ctx kv ∗ bigSep Finset.univ fun s => atPos ER (sndCell R l c s) 0 ∅ 0) ⊢ win (hops R) 0 (posS (F := F) R l c) := by
  have e : win (hops R) 0 (posS (F := F) R l c)
      = bigSep (Finset.Ico 0 (0 + 4)) (fun h => iprop(atPos ER (sndCell R l c (sl h)) 0 ∅ 0 ∗ reached ER (sndCell R l c (sl h)) 0)) := by
    unfold win posS
    rw [Nat.zero_min]
    exact bigSep_congr fun h hh => by rw [Nat.div_eq_of_lt (Finset.mem_Ico.mp hh).2]
  rw [e, window (fun s => iprop(atPos ER (sndCell R l c s) 0 ∅ 0 ∗ reached ER (sndCell R l c s) 0)) 0]
  exact with_ctx fun s _ => cell_here kv _ (ctx_snd kv R l c s)
theorem win_rcv (l : Fin 3) : iprop(ctx kv ∗ bigSep Finset.univ fun s => atPos ER (rcvCell R l c s) 0 ∅ 0) ⊢ win (hops R) 0 (posR (F := F) R l c) := by
  have e : win (hops R) 0 (posR (F := F) R l c)
      = bigSep (Finset.Ico 0 (0 + 4)) (fun h => iprop(atPos ER (rcvCell R l c (sl (h + 1))) 0 ∅ 0 ∗ reached ER (rcvCell R l c (sl (h + 1))) 0)) := by
    unfold win posR
    rw [Nat.zero_min]
    exact bigSep_congr fun h hh => by rw [Nat.div_eq_of_lt (Finset.mem_Ico.mp hh).2]
  rw [e, window_succ (fun s => iprop(atPos ER (rcvCell R l c s) 0 ∅ 0 ∗ reached ER (rcvCell R l c s) 0)) 0]
  exact with_ctx fun s _ => cell_here kv _ (ctx_rcv kv R l c s)

/-- Where `c` stands in its cells' rounds. -/
abbrev posAt (c : Dev nD) (k : CI) : sProp 𝕄 := atPos ER (kcell (c, k)) 0 ∅ 0

theorem lane_intro (l : Fin 3) :
    iprop(ctx kv ∗ laneOf (posAt (F := F) c) R l ∗ left (hops R) 0 (credR (F := F) R l c) ∗ sndToks (F := F) R l c ∗ rcvToks R l (dst R c)) ⊢ laneIni (F := F) R c l := by
  unfold laneOf laneIni
  iintro ⟨#Hc, ⟨Hs, Hr⟩, Hcr, Ht⟩
  isplitl [Hr]
  · iapply (win_rcv kv R c l); isplitr; · iexact Hc
    iexact Hr
  isplitl [Hcr]; · iexact Hcr
  isplitl [Hs]
  · iapply (win_snd kv R c l); isplitr; · iexact Hc
    iexact Hs
  iapply (toks_lane (F := F) R l c); iexact Ht

theorem ring_intro :
    iprop(ctx kv ∗ ringOf (posAt (F := F) c) R ∗ credRing (F := F) R c
        ∗ (sndToks (F := F) R 0 c ∗ sndToks (F := F) R 1 c ∗ sndToks (F := F) R 2 c)
        ∗ (rcvToks (F := F) R 0 (dst R c) ∗ rcvToks (F := F) R 1 (dst R c) ∗ rcvToks (F := F) R 2 (dst R c)) ∗ crdToks (F := F) R (src R c)) ⊢ ringIni (F := F) R c := by
  unfold ringOf credRing ringIni
  iintro ⟨#Hc, ⟨P0, P1, P2, PC⟩, ⟨C0, C1, C2, CC⟩, ⟨S0, S1, S2⟩, ⟨V0, V1, V2⟩, T⟩
  isplitl [P0 C0 S0 V0]
  · iapply (lane_intro kv R c 0); isplitr; · iexact Hc
    isplitl [P0]; · iexact P0
    isplitl [C0]; · iexact C0
    isplitl [S0] <;> iassumption
  isplitl [P1 C1 S1 V1]
  · iapply (lane_intro kv R c 1); isplitr; · iexact Hc
    isplitl [P1]; · iexact P1
    isplitl [C1]; · iexact C1
    isplitl [S1] <;> iassumption
  isplitl [P2 C2 S2 V2]
  · iapply (lane_intro kv R c 2); isplitr; · iexact Hc
    isplitl [P2]; · iexact P2
    isplitl [C2]; · iexact C2
    isplitl [S2] <;> iassumption
  isplitl [PC CC]
  · unfold crIn
    rw [if_pos (show 0 < hops R by have := hops_ge R; omega)]
    isplitl [PC]
    · iexists ∅; iexact PC
    iexact CC
  iapply (toks_cr (F := F) R c); iexact T

/-- A device's positions, its credits and the duties it pays are its part of the protocol. -/
theorem proto_intro :
    iprop(ctx kv ∗ (bigSep Finset.univ fun k : CI => posAt (F := F) c k) ∗ toksTo (F := F) c
        ∗ cred (tallyAt (barCell c) 1 2) ∗ credRing (F := F) false c ∗ credRing (F := F) true c) ⊢ protoIn (F := F) c := by
  unfold toksTo protoIn
  iintro ⟨#Hc, Hp, ⟨⟨B0, B1⟩, ⟨⟨S0, S1⟩, V0, V1⟩, T0, T1⟩, CB, C0, C1⟩
  ihave Hp := (ci_rings (posAt (F := F) c)).1 $$ Hp
  icases Hp with ⟨PB, P0, P1⟩
  isplitl [PB]; · iexact PB
  isplitl [CB]; · iexact CB
  isplitl [B0]; · iexact B0
  isplitl [B1]; · iexact B1
  isplitl [P0 C0 S0 V0 T0]
  · iapply (ring_intro kv false c); isplitr; · iexact Hc
    isplitl [P0]; · iexact P0
    isplitl [C0]; · iexact C0
    isplitl [S0]; · iexact S0
    isplitl [V0] <;> iassumption
  iapply (ring_intro kv true c); isplitr; · iexact Hc
  isplitl [P1]; · iexact P1
  isplitl [C1]; · iexact C1
  isplitl [S1]; · iexact S1
  isplitl [V1] <;> iassumption

end Start

/-! ## The cells made -/

section Make

theorem kcell_injective : Function.Injective (kcell : Dev nD × CI → GSem nD τ sig) := by
  rintro ⟨c, k⟩ ⟨c', k'⟩ h
  have hc : c = c' := congrArg (fun g : GSem nD τ sig => g.1.1) h
  subst hc
  have hs : ciSem k = ciSem k' := congrArg Prod.snd h
  have : k = k' := by
    rcases k with ⟨rc, R, l, s⟩ | u | R <;> rcases k' with ⟨rc', R', l', s'⟩ | u' | R' <;> dsimp only [ciSem] at hs
    · have e := congrArg chOf (SemLoc.dma.inj hs)
      rw [chOf_dsem, chOf_dsem] at e
      rw [Option.some.inj e]
    · cases hs
    · cases hs
    · cases hs
    · rfl
    · exact absurd (SemLoc.reg.inj hs).symm (cr_ne_bar R')
    · cases hs
    · exact absurd (SemLoc.reg.inj hs) (cr_ne_bar R)
    · rw [cr_inj R R' (SemLoc.reg.inj hs)]
  subst this; rfl

def ringCells : Finset (GSem nD τ sig) := Finset.univ.map ⟨kcell, kcell_injective⟩

def u₀ : UU :=
  (initOf (Pipeline.cells cfgs cellOf_inj) (Pipeline.launchToks cfgs cellOf_inj), initOf ringCells ringToks)

/-- What the launch deals `c`: its cells' rounds, its positions in them, and its cells' duties. -/
def dealt (c : Dev nD) : sProp 𝕄 :=
  iprop((bigSep Finset.univ fun k : CI => roundState ER (sched kv) (kcell (c, k)) 0)
    ∗ (bigSep Finset.univ fun k : CI => reached ER (kcell (c, k)) 0) ∗ (bigSep Finset.univ fun k : CI => posAt (F := F) c k) ∗ toksAt (F := F) c)

theorem fund_ring : BI.own (ER (initOf ringCells ringToks)) ⊢ (|==> bigSep Finset.univ (dealt kv) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toksAt (F := F) c := by
    unfold ringToks; rw [bigSep_map, bigSep_univ_prod]; rfl
  iintro HX
  imod (Rounds.fund ER (sched kv) ringCells ringToks) $$ HX with ⟨Hst, Hr, Hat, Htok⟩
  imodintro
  ihave Hst := (Entails.of_eq (hX fun g => roundState ER (sched kv) g 0)) $$ Hst
  ihave Hr := (Entails.of_eq (hX fun g => reached ER g 0)) $$ Hr
  ihave Hat := (Entails.of_eq (hX fun g => atPos ER g 0 ∅ 0)) $$ Hat
  ihave Htok := (Entails.of_eq hT) $$ Htok
  unfold dealt; simp only [bigSep_sep']
  isplitl [Hst]; · iexact Hst
  isplitl [Hr]; · iexact Hr
  isplitl [Hat]; · iexact Hat
  iexact Htok

theorem make_cell (g : GSem nD τ sig) : iprop(semVal g 0 ∗ roundState ER (sched kv) g 0 ∗ reached ER g 0) ⊢ (|={Set.univ}=> cellRec kv g : sProp 𝕄) := by
  iintro ⟨Hv, Hst, #Hr⟩
  imod ((Rounds.body_intro ER (sched kv) g).trans inv_alloc) $$ [Hv Hst] with ⟨%κ, HI⟩
  · isplitl [Hv] <;> iassumption
  imodintro
  unfold cellRec
  iexists κ
  isplitl [HI]; · iexact HI
  iexact Hr

/-- One device's cells made: its semaphores at zero and its cells' rounds become the cells' invariants. -/
theorem make (c : Dev nD) : iprop(ownZ (F := F) c ∗ unscopedSems0 c ∗ dealt kv c)
    ⊢ |={Set.univ}=> iprop((bigSep Finset.univ fun k : CI => cellRec kv (kcell (c, k))) ∗ (bigSep Finset.univ fun k : CI => posAt (F := F) c k) ∗ toksAt (F := F) c) := by
  unfold dealt
  iintro ⟨Hos, Hus, Hst, Hr, Hat, Htok⟩
  ihave Hv := (sems_all (F := F) c).1 $$ [Hos Hus]
  · isplitl [Hos] <;> iassumption
  imod (show iprop((bigSep Finset.univ fun k : CI => semVal (kcell (c, k)) 0) ∗ (bigSep Finset.univ fun k : CI => roundState ER (sched kv) (kcell (c, k)) 0)
        ∗ bigSep Finset.univ fun k : CI => reached ER (kcell (c, k)) 0)
      ⊢ (|={Set.univ}=> bigSep Finset.univ fun k : CI => cellRec kv (kcell (c, k)) : sProp 𝕄) from by
        rw [← bigSep_sep', ← bigSep_sep']
        exact (bigSep_mono fun k _ => make_cell kv (kcell (c, k))).trans (bigSep_fupd _ _)) $$ [Hv Hst Hr] with Hinv
  · isplitl [Hv]; · iexact Hv
    isplitl [Hst] <;> iassumption
  imodintro
  isplitl [Hinv]; · iexact Hinv
  isplitl [Hat] <;> iassumption

/-- Every cell of every device. -/
def cells : sProp 𝕄 := bigSep Finset.univ fun p : Dev nD × CI => cellRec kv (kcell p)
instance cells_persistent : BI.Persistent (cells kv) := by unfold cells; infer_instance

/-- What a device holds once the cells are made. -/
def ready (c : Dev nD) : sProp 𝕄 := iprop(cells kv ∗ (bigSep Finset.univ fun k : CI => posAt (F := F) c k) ∗ toksTo (F := F) c)

theorem regroup : (bigSep Finset.univ fun c : Dev nD =>
      iprop((bigSep Finset.univ fun k : CI => cellRec kv (kcell (c, k))) ∗ (bigSep Finset.univ fun k : CI => posAt (F := F) c k) ∗ toksAt (F := F) c))
    ⊢ bigSep Finset.univ (ready kv) := by
  rw [bigSep_sep', bigSep_sep', toks_around, ← bigSep_univ_prod fun p : Dev nD × CI => cellRec kv (kcell p), ← bigSep_sep']
  refine with_ctx (P := cells kv) fun c _ => ?_
  unfold ready
  exact BI.Entails.refl _

theorem glob : (bigSep Finset.univ fun c => iprop(ownZ (F := F) c ∗ unscopedSems0 c ∗ dealt kv c) : sProp 𝕄) ⊢ |={Set.univ}=> bigSep Finset.univ (ready kv) :=
  ((bigSep_mono fun c _ => make kv c).trans (bigSep_fupd _ _)).trans (BI.fupd_mono (regroup kv))

end Make

end Cert.RingAttn

end
-- ==== Proof.Launch.lean ====
module

public import proofs.«01_k».proof.Proof.Deal
public import proofs.«01_k».proof.Proof.Gen.KernelIdeal.Points
public import Idealize.ShloMosaic.Lib.Pipeline.CollectiveSegs

/-! # The whole execution: every device's body from launch to the result -/

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

variable (m : (ℓ : Loc nD τ sig) → Buf (Elt F) ℓ) (ρ : Dev nD → PrngReg)

/-- The memory at launch: any contents, every counter at zero. -/
def s₀ : MemSt nD τ sig (Elt F) := ⟨m, fun _ => 0, ρ⟩

/-! ## What the devices hold -/

def argX (c : Dev nD) : Vec F S2x256x512 .f32 := (win0_0.blk (0 : Fin 1)).view.read (Elt F) (m ((c : Thread nD τ).loc main_arg0))
def argWq (c : Dev nD) : Vec F S512x256 .f32 := (win0_1.blk (0 : Fin 1)).view.read (Elt F) (m ((c : Thread nD τ).loc main_arg1))
def argK (c : Dev nD) : Vec F S2x256x4x64 .f32 := (win0_2.blk (0 : Fin 1)).view.read (Elt F) (m ((c : Thread nD τ).loc main_arg2))
def argV (c : Dev nD) : Vec F S2x256x4x64 .f32 := (win0_3.blk (0 : Fin 1)).view.read (Elt F) (m ((c : Thread nD τ).loc main_arg3))
def argWo (c : Dev nD) : Vec F S256x512 .f32 := (win0_4.blk (0 : Fin 1)).view.read (Elt F) (m ((c : Thread nD τ).loc main_arg4))

/-- Every device's keys and values as they travel. -/
def kvOf (c : Dev nD) : KV F := ownKV (argK m c) (argV m c)

/-- The result of device `c`. -/
def outOf (c : Dev nD) : Vec F S2x256x512 .f32 := bodyOut (kvOf m) c (argX m c) (argWq m c) (argWo m c)

def atStart (c : Dev nD) : sProp 𝕄 := iprop(ctx (kvOf m) ∗ protoIn (F := F) c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => argX m c
    | ⟨1, _⟩ => argWq m c
    | ⟨2, _⟩ => argK m c
    | ⟨3, _⟩ => argV m c
    | ⟨4, _⟩ => argWo m c
    | ⟨5, _⟩ => outOf m c
  Φ t := match t with
    | ⟨0, _⟩ => iprop(atStart m c ∗ scr (F := F) c)
    | ⟨_ + 1, _⟩ => iprop(protoOut (F := F) c ∗ scr (F := F) c)
  q _ := fullShare
  owed t := match t with
    | ⟨0, _⟩ => ow₀ c
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop((atStart m c ∗ scr (F := F) c)
    ∗ (dats m ρ 0 c).owesAt 0 t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop((protoOut (F := F) c ∗ scr (F := F) c) ∗ (dats m ρ 0 c).owesAt 0 t0_0.succ
    ∗ stg c cc0_stg0_0 (argX m c) ∗ stg c cc0_stg1_0 (argWq m c) ∗ stg c cc0_stg2_0 (argK m c) ∗ stg c cc0_stg3_0 (argV m c)
    ∗ stg c cc0_stg4_0 (argWo m c) ∗ stg c cc0_stg5_0 (outOf m c))

theorem before_0 (c : Dev nD) (d) : (dats m ρ 0 c).before (0 : Fin 6) t0_0 d = argX m c := by unfold Dat.before; rw [if_pos (fetch0_0 t0_0)]; rfl
theorem before_1 (c : Dev nD) (d) : (dats m ρ 0 c).before (1 : Fin 6) t0_0 d = argWq m c := by unfold Dat.before; rw [if_pos (fetch0_1 t0_0)]; rfl
theorem before_2 (c : Dev nD) (d) : (dats m ρ 0 c).before (2 : Fin 6) t0_0 d = argK m c := by unfold Dat.before; rw [if_pos (fetch0_2 t0_0)]; rfl
theorem before_3 (c : Dev nD) (d) : (dats m ρ 0 c).before (3 : Fin 6) t0_0 d = argV m c := by unfold Dat.before; rw [if_pos (fetch0_3 t0_0)]; rfl
theorem before_4 (c : Dev nD) (d) : (dats m ρ 0 c).before (4 : Fin 6) t0_0 d = argWo m c := by unfold Dat.before; rw [if_pos (fetch0_4 t0_0)]; rfl

theorem stg_in (c : Dev nD) (b : Ref sig .tc) (X : b.ty.Contents (Elt F)) : stg (F := F) c b X ⊢ (((c : Thread nD τ).loc b) ↦{fullShare} X : sProp 𝕄) := by
  iintro ⟨%f, %hf, H⟩
  subst hf
  iexact H
theorem stg_out (c : Dev nD) (b : Ref sig .tc) (X : b.ty.Contents (Elt F)) : (((c : Thread nD τ).loc b) ↦{fullShare} X : sProp 𝕄) ⊢ stg (F := F) c b X := by
  iintro H
  iexists X
  isplitr; · (ipureintro; rfl)
  iexact H

/-- The body on core `c`. -/
theorem body_at (c : Dev nD) :
    bodyPre m ρ c ⊢ wp frame (wpE (defs₀ (F := F)) 𝒱₀ (c : Thread nD τ) none) Set.univ (bodyText (F := F)) (fun _ => bodyPost m ρ c) := by
  unfold bodyPre
  simp only [before_0, before_1, before_2, before_3, before_4]
  unfold atStart Dat.owesAt Pipeline.owesWithin
  iintro ⟨⟨⟨#Hc, Hp⟩, Hs⟩, ⟨%W, %hW, HO⟩, ⟨%d0, H0⟩, ⟨%d1, H1⟩, ⟨%d2, H2⟩, ⟨%d3, H3⟩, ⟨%d4, H4⟩, ⟨%d5, %g5, %hg5, H5⟩⟩
  ihave H0 := (stg_in (F := F) c cc0_stg0_0 (argX m c)) $$ H0
  ihave H1 := (stg_in (F := F) c cc0_stg1_0 (argWq m c)) $$ H1
  ihave H2 := (stg_in (F := F) c cc0_stg2_0 (argK m c)) $$ H2
  ihave H3 := (stg_in (F := F) c cc0_stg3_0 (argV m c)) $$ H3
  ihave H4 := (stg_in (F := F) c cc0_stg4_0 (argWo m c)) $$ H4
  iapply (wp_body (kvOf m) c (argX m c) (argWq m c) (argK m c) (argV m c) (argWo m c) g5 rfl (fun _ => bodyPost m ρ c))
  isplitr; · iexact Hc
  isplitl [Hp]; · iexact Hp
  isplitl [HO]; · unfold owq; iexists W; iexact HO
  isplitl [Hs]; · iexact Hs
  isplitl [H0 H1 H2 H3 H4 H5]
  · unfold xPts wqPts keyPts valPts woPts outPts
    isplitl [H0]; · iexact H0
    isplitl [H1]; · iexact H1
    isplitl [H2]; · iexact H2
    isplitl [H3]; · iexact H3
    isplitl [H4]; · iexact H4
    iexact H5
  unfold bodyPost Dat.owesAt Pipeline.owesWithin owq xPts wqPts keyPts valPts woPts outPts outOf
  iintro ⟨Hp, ⟨%W', HO⟩, Hs, H0, H1, H2, H3, H4, H5⟩
  isplitl [Hp Hs]
  · isplitl [Hp] <;> iassumption
  isplitl [HO]
  · iexists W'
    isplitr; · ipureintro; exact fun _ _ => Or.inl trivial
    iexact HO
  isplitl [H0]; · iapply (stg_out (F := F) c cc0_stg0_0 (argX m c)); iexact H0
  isplitl [H1]; · iapply (stg_out (F := F) c cc0_stg1_0 (argWq m c)); iexact H1
  isplitl [H2]; · iapply (stg_out (F := F) c cc0_stg2_0 (argK m c)); iexact H2
  isplitl [H3]; · iapply (stg_out (F := F) c cc0_stg3_0 (argV m c)); iexact H3
  isplitl [H4]; · iapply (stg_out (F := F) c cc0_stg4_0 (argWo m c)); iexact H4
  iapply (stg_out (F := F) c cc0_stg5_0 (bodyOut (kvOf m) c (argX m c) (argWq m c) (argWo m c))); iexact H5

set_option maxRecDepth 8000 in
/-- The body, as the pipeline calls it. -/
theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  show bodyPre m ρ c ⊢ wp frame (wpE (defs₀ (F := F)) 𝒱₀ (c : Thread nD τ) none) Set.univ (atArgs (cc0_body (F := F))) (fun _ => bodyPost m ρ c)
  rw [body_eq]
  exact body_at m ρ c

/-! ## The launch -/

theorem share_eq (c : Dev nD) (w : Fin cfg0.W) : (dats m ρ 0 c).share w = fullShare := by unfold Dat.share; split <;> rfl

/-- A device's start: the cells, its part of the protocol. -/
theorem start_intro (c : Dev nD) :
    iprop(Pipeline.unscopedRestP Pipeline.Prefetch.none cfg0.spec c (fun b => m ((c : Thread nD τ).loc b)) ∗ levAts L lv
        ∗ Pipeline.launchCred ow₀ c ∗ prngReg c (ρ c) ∗ ready (kvOf m) c)
      ⊢ |={Set.univ}=> iprop(atStart m c ∗ emp) := by
  iintro ⟨-, #Hlev, Hcr, -, HG⟩
  ihave Hc := (creds (F := F) c) $$ Hcr
  unfold ready
  icases HG with ⟨#HC, Hp, Ht⟩
  imodintro
  isplitl
  · unfold atStart
    ihave #HX : (ctx (kvOf m) : sProp 𝕄) $$ []
    · unfold ctx cells; isplitr; · iexact HC
      iexact Hlev
    isplitr; · iexact HX
    iapply (proto_intro (kvOf m) c)
    isplitr; · iexact HX
    isplitl [Hp]; · iexact Hp
    isplitl [Ht]; · iexact Ht
    iexact Hc
  · iempintro

theorem scr_eq (c : Dev nD) : (Pipeline.scopedRest (Ix := ℕ) (Name := ℕ) (U := UU) (Lvl := ℕ) (Val := Elt F) cfg0.spec c : sProp 𝕄) = scr (F := F) c := by
  rw [scopedRest0_eq]; rfl

theorem phi0_intro (c : Dev nD) :
    iprop(atStart m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(atStart m c ∗ scr (F := F) c) from rfl, scr_eq]
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(protoOut (F := F) c ∗ scr (F := F) c) from rfl, scr_eq]
  iintro ⟨Hp, Hs⟩
  ihave H := (sems_end (F := F) c) $$ Hp
  icases H with ⟨Hu, Ho⟩
  isplitl [Hu]; · iexact Hu
  isplitl [Ho]; · iexact Ho
  iexact Hs

theorem Hi.start (c : Dev nD) : Hi 1 (ow₀ c) :=
  (((Hi.ow c 0 (by omega)).mono (by omega)).add (Hi.tally _ _ 1 1 (by omega) (by omega))).add (Hi.tally _ _ 1 1 (by omega) (by omega))

theorem waits (c : Dev nD) : (levAts L lv : sProp 𝕄) ⊢ Pipeline.cellsWaits cfgs (dats m ρ) 0 0 c :=
  Pipeline.cellsWaits_intro cfgs (dats m ρ) 0 0 c fun w s t =>
    mayWait c _ 0 _ (by omega) (by
      rcases t with ⟨_ | _, ht⟩
      · exact Hi.start c
      · exact Hi.zero _)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every weakly fair execution from a memory whose counters are zero ends, each array holding what `finalA` says and every
    counter at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := ow₀) (howed₀ := fun _ => rfl) (howedN := fun _ => rfl)
    (L := L) (lv := lv) (hL := L_of_ne) (hwaits := waits m ρ)
    (G := dealt (kvOf m)) (G' := ready (kvOf m)) (u₀ := u₀)
    (hu₀ := by
      unfold u₀
      iintro Hu
      ihave H := (ownU_pair _ _) $$ Hu
      icases H with ⟨HP, HX⟩
      imod (fund_ring (kvOf m)) $$ HX with HG
      imodintro
      isplitl [HP] <;> iassumption)
    (hglob := glob (kvOf m))
    (hA := fun _ _ => rfl) (hpf := fun _ k => k.elim0)
    (X := atStart m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_in (c : Dev nD) (w : Fin cfg0.W) (h : (cfg0.win w).isOut = false) :
    finalA m ρ c w = (s₀ m ρ).mem ((cfg0.win w).arr.view.loc (c : Thread nD τ)) := (dats (F := F) m ρ 0 c).arrAt_in w h _

end Cert.RingAttn

end
-- ==== Proof.Frames.lean ====
module

public import proofs.«01_k».proof.Defs
public import proofs.«01_k».proof.Proof.Launch
public import proofs.«01_k».proof.Proof.Gen.Kernel
public import Idealize.ShloMosaic.PureOps.BitExact

@[expose] public section

noncomputable section

namespace Cert.RingAttn

open Idealize.ShloMosaic Idealize.ShloMosaic.TcCoe
open Idealize.SL.Sem

/-! The kernel as printed and the kernel with its masked value named are one program on bit patterns, once the name is
read as the pattern it replaces: the two are compared part by part. -/

/-- On bit patterns a named constant is the pattern it stands for. -/
abbrev namedBits : Named Bits := ⟨fun _ _ {φ} b => Scalar.ofBits φ b⟩

attribute [local instance] namedBits Cert.Kernel.Gen.facts Cert.KernelIdeal.Gen.facts

set_option maxRecDepth 100000
set_option maxHeartbeats 1000000

/-- The pass over all the hops is the same program in both. -/
theorem part24_same : Cert.Kernel.k0_part24 (F := Bits) = Cert.KernelIdeal.k0_part24 (F := Bits) := rfl

/-- The body is the same program in both. -/
theorem body_same : Cert.Kernel.cc0_body (F := Bits) = Cert.KernelIdeal.cc0_body (F := Bits) := rfl

/-- The table of the kernels' bodies is the same in both. -/
theorem bodies_same : Cert.Kernel.defs₀ (F := Bits) = Cert.KernelIdeal.defs₀ (F := Bits) := by
  unfold Cert.Kernel.defs₀ Cert.KernelIdeal.defs₀
  congr 1
  funext l x
  match l, x with
  | 0, (t, s) => rfl

/-- The table of bodies and pipelines is the same in both. -/
theorem defs_same : Cert.Kernel.defs (F := Bits) = Cert.KernelIdeal.defs (F := Bits) :=
  congrArg (Pipeline.defs (Cert.Kernel.pcfgs (F := Bits))) bodies_same

section
variable {F : FTy → Type} [FloatOps F] [Named F]
  (m : (ℓ : Loc Cert.KernelIdeal.nD Cert.KernelIdeal.τ Cert.KernelIdeal.sig) → Buf (Elt F) ℓ)
  (ρ : Dev Cert.KernelIdeal.nD → PrngReg)

/-- Every run ends, its arguments unchanged and every semaphore at zero. -/
theorem run_frame :
    θ_run (Cert.KernelIdeal.defs (F := F)) (onTc (τ := Cert.KernelIdeal.τ) (Cert.KernelIdeal.main (F := F)))
      ⟨m, fun _ => 0, ρ⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0) :=
  (θ_run Cert.KernelIdeal.defs _ _).mono (fun _ h =>
    ⟨fun c => ⟨(h.1 c 0).trans (finalA_in m ρ c 0 rfl), (h.1 c 1).trans (finalA_in m ρ c 1 rfl),
      (h.1 c 2).trans (finalA_in m ρ c 2 rfl), (h.1 c 3).trans (finalA_in m ρ c 3 rfl),
      (h.1 c 4).trans (finalA_in m ρ c 4 rfl)⟩, h.2⟩) (run_main m ρ)

end

/-- The kernel as printed runs to its end. -/
theorem frame_kernel : Cert.quiescent_Kernel := by
  intro m ρ _
  rw [defs_same]
  exact run_frame (F := Bits) m ρ

/-- The idealized kernel runs to its end. -/
theorem frame_kernelIdeal : Cert.quiescent_KernelIdeal := fun m ρ _ => run_frame (F := Ideal) m ρ

end Cert.RingAttn

end
-- ==== Proof.Read.lean ====
module

public import proofs.«01_k».proof.Proof.Body
public import Idealize.ShloMosaic.Lib.Pointwise

/-! # The kernel's values at an index, over the extended reals -/

@[expose] public section

noncomputable section

namespace Cert.RingAttn

open Cert.KernelIdeal Cert.KernelIdeal.Gen

open Idealize.ShloMosaic
open Idealize.ShloMosaic.TcCoe
open Idealize.SL.Sem

/-- Column `d` of head `h`. -/
def col (h : Fin 4) (d : Fin 64) : Fin 256 := ⟨64 * h.val + d.val, by omega⟩

/-- The inputs' rectangle of a batch entry, at an index. -/
theorem xRect_at (b : Fin 2) (r : Fin 256) (k : Fin 512) : (xRect b).emb (ix3 0 r k) = ix3 b r k := by
  funext a
  apply Fin.ext
  match a with
  | ⟨0, _⟩ => simp [Rect.emb_apply, ix3]
  | ⟨1, _⟩ => simp [Rect.emb_apply, ix3]
  | ⟨2, _⟩ => simp [Rect.emb_apply, ix3]
/-- The query weights' rectangle of a head, at an index. -/
theorem wqRect_at (h : Fin 4) (k : Fin 512) (d : Fin 64) : (wqRect h).emb (ix2 k d) = ix2 k (col h d) := by
  funext a
  apply Fin.ext
  match a with
  | ⟨0, _⟩ => simp [Rect.emb_apply, ix2]
  | ⟨1, _⟩ => simp [Rect.emb_apply, ix2, col]
/-- The output weights' rectangle of a head, at an index. -/
theorem woRect_at (h : Fin 4) (d : Fin 64) (n : Fin 512) : (woRect h).emb (ix2 d n) = ix2 (col h d) n := by
  funext a
  apply Fin.ext
  match a with
  | ⟨0, _⟩ => simp [Rect.emb_apply, ix2, col]
  | ⟨1, _⟩ => simp [Rect.emb_apply, ix2]

/-- A query is a scaled product of a row with a column of the query weights. -/
theorem query_at (X : Vec Ideal S2x256x512 .f32) (W : Vec Ideal S512x256 .f32) (b : Fin 2) (h : Fin 4) (r : Fin 256) (d : Fin 64) :
    queryAt X W b h (ix4 0 0 r d) = (∑ k : Fin 512, X (ix3 b r k) * W (ix2 k (col h d))) * Ideal.ofBits .f32 0x3E000000#32 := by
  unfold queryAt
  pointwise [k0_pay89, xBlk, wqBlk]
  simp only [xRect_at, wqRect_at]

/-- A weight is the exponential of a product of a query with a key, and of its bias. -/
theorem headP_at (bias : FVec Ideal S256x256 .f32) (k : FVec Ideal S2x256x256 .bf16) (b : Fin 2) (h : Fin 4) (q : VQ Ideal) (r j : Fin 256) :
    headP bias k b h q (ix2 r j) = Ideal.exp ((∑ d : Fin 64, q (ix4 0 0 r d) * k (ix3 b j (col h d))) + bias (ix2 r j)) := by
  pointwise [headP]
  rfl

/-- A hop adds to a row's sum the sum of its exponentials. -/
theorem headL_at (p : FVec Ideal S256x256 .f32) (l : VL Ideal) (r : Fin 256) :
    headL p l (ix4 0 0 r 0) = l (ix4 0 0 r 0) + ∑ j : Fin 256, p (ix2 r j) := by
  pointwise [headL]

/-- A hop adds to a row's accumulator the product of its exponentials with the values. -/
theorem headA_at (p : FVec Ideal S256x256 .f32) (v : Vec Ideal S1x256x64 .bf16) (a : VA Ideal) (r : Fin 256) (d : Fin 64) :
    headA p v a (ix4 0 0 r d) = a (ix4 0 0 r d) + ∑ j : Fin 256, p (ix2 r j) * v (ix3 0 j d) := by
  pointwise [headA]

/-- A column's head. -/
theorem col_div (h : Fin 4) (d : Fin 64) : (col h d).val / 64 = h.val := by show (64 * h.val + d.val) / 64 = h.val; omega
/-- A column's place in its head. -/
theorem col_mod (h : Fin 4) (d : Fin 64) : (col h d).val % 64 = d.val := by show (64 * h.val + d.val) % 64 = d.val; omega

/-- A device's keys as they travel, read at a head's column, are the keys; -/
theorem key_at (K V : Vec Ideal S2x256x4x64 .f32) (b : Fin 2) (h : Fin 4) (j : Fin 256) (d : Fin 64) :
    k0_pay3 (ownKV K V).k (ix3 b j (col h d)) = K (ix4 b j h d) := by
  unfold ownKV
  pointwise [k0_pay3, k0_pay85, k0_pay83]
  simp only [col_div, col_mod]

/-- The values' rectangle of a batch entry and a head, at an index. -/
theorem vcol_at (b : Fin 2) (h : Fin 4) (j : Fin 256) (d : Fin 64) :
    (Fin.cons ⟨0, Nat.one_pos⟩ ((vcol b h).emb (ix3 0 j d)) : S1x2x256x256.Idx) = ix4 0 b j (col h d) := by
  funext a
  apply Fin.ext
  match a with
  | ⟨0, _⟩ => rfl
  | ⟨1, _⟩ => exact (Rect.emb_apply (vcol b h) (ix3 0 j d) 0).trans (by simp [ix3, ix4])
  | ⟨2, _⟩ => exact (Rect.emb_apply (vcol b h) (ix3 0 j d) 1).trans (by simp [ix3, ix4])
  | ⟨3, _⟩ => exact (Rect.emb_apply (vcol b h) (ix3 0 j d) 2).trans (by simp [ix3, ix4, col])

/-- and so are the values. -/
theorem val_at (K V : Vec Ideal S2x256x4x64 .f32) (b : Fin 2) (h : Fin 4) (j : Fin 256) (d : Fin 64) :
    vBlk (ownKV K V).v b h (ix3 0 j d) = V (ix4 b j h d) := by
  show (ownKV K V).v (Fin.cons ⟨0, Nat.one_pos⟩ ((vcol b h).emb (ix3 0 j d))) = V (ix4 b j h d)
  rw [vcol_at]
  unfold ownKV
  pointwise [k0_pay86, k0_pay84]
  simp only [col_div, col_mod]

/-- A result is the sum, over the heads and their columns, of the normalised sums with the output weights. -/
theorem outRow_at (A : Fin 4 → VA Ideal) (L : Fin 4 → VL Ideal) (W : Fin 4 → Vec Ideal S64x512 .f32) (r : Fin 256) (n : Fin 512) :
    outRow A L W (ix3 0 r n) = ∑ h : Fin 4, ∑ d : Fin 64, Ideal.div (A h (ix4 0 0 r d)) (L h (ix4 0 0 r 0)) * W h (ix2 d n) := by
  unfold outRow
  pointwise [k0_pay107, k0_pay108]
  rw [Fin.sum_univ_four]

end Cert.RingAttn
-- ==== Proof.Mask.lean ====
module

public import proofs.«01_k».proof.Proof.Read

/-! # The kernel's masks at an index -/

@[expose] public section

noncomputable section

namespace Cert.RingAttn

open Cert.KernelIdeal Cert.KernelIdeal.Gen

open Idealize.ShloMosaic
open Idealize.ShloMosaic.TcCoe
open Idealize.SL.Sem

/-- Whether a query at position `q` attends to the key at position `k`: same block of 64, the first block, or block
    numbers that add to a multiple of 3. -/
abbrev Sees (q k : ℕ) : Prop := (q / 64 = k / 64 ∨ k / 64 = 0) ∨ (q / 64 + k / 64) % 3 = 0

/-- A floor division by 64, on words, of a number below 256. -/
def fdiv (w : BitVec 32) : BitVec 32 :=
  Scalar.select
      (IntOp.andi
        (IntOp.cmpi CmpIPredicate.ne
          (IntOp.subi (BitVec.setWidth 32 (IntOp.cmpi CmpIPredicate.sgt w 0#32))
            (BitVec.setWidth 32 (IntOp.cmpi CmpIPredicate.slt w 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector w 64#32) 0#32))
      (IntOp.subi (IntOp.divsi ArithUnit.vector w 64#32) 1#32)
      (IntOp.divsi ArithUnit.vector w 64#32)

set_option maxRecDepth 16384 in
theorem fdiv_eq : ∀ j : Fin 256, fdiv (BitVec.ofNat 32 j.val) = BitVec.ofNat 32 (j.val / 64) := by decide +kernel

/-- A device's number, as a word. -/
theorem num_eq : ∀ c : Dev nD, num c = BitVec.ofNat 32 c.val := by decide +kernel

/-- The word of a query row's block of 64. -/
theorem rows_at (c : Dev nD) (r j : Fin 256) :
    rowsOf c (ix2 r j) = IntOp.addi (Scalar.muli (num c) 4#32) (BitVec.ofNat 32 (r.val / 64)) := by
  unfold rowsOf
  pointwise [k0_pay103, k0_pay101, k0_pay102]
  rw [← fdiv_eq]
  rfl
/-- The word of a key column's block of 64, counted in its device's part. -/
theorem cols_at (r j : Fin 256) : k0_pay104 (ix2 r j) = BitVec.ofNat 32 (j.val / 64) := by
  pointwise [k0_pay104]
  exact fdiv_eq j

/-- Whether the mask is on, as computed on the numbers of a query's and a key's blocks of 64. -/
def hit (q k : BitVec 32) : BitVec 1 :=
  IntOp.ori (IntOp.ori (IntOp.cmpi .eq q k) (IntOp.cmpi .eq k 0#32))
    (IntOp.cmpi .eq (IntOp.remsi .vector (IntOp.addi q k) 3#32) 0#32)

set_option maxRecDepth 16384 in
theorem hit_eq : ∀ a b : Fin 128, hit (BitVec.ofNat 32 a.val) (BitVec.ofNat 32 b.val)
    = if (a.val = b.val ∨ b.val = 0) ∨ (a.val + b.val) % 3 = 0 then 1#1 else 0#1 := by decide +kernel

/-- The word of the block a key's column is in, at hop `g`, when the blocks come from the device `o` the word says. -/
def keyBlk (o : BitVec 32) (b : ℕ) : BitVec 32 := IntOp.addi (Scalar.muli o 4#32) (BitVec.ofNat 32 b)

set_option maxRecDepth 16384 in
theorem blk_eq : ∀ (c : Fin 32) (a : Fin 4), keyBlk (BitVec.ofNat 32 c.val) a.val = BitVec.ofNat 32 (4 * c.val + a.val) := by
  decide +kernel

set_option maxRecDepth 16384 in
theorem origR_eq : ∀ (c : Dev nD) (g : Fin 17),
    Scalar.remsi (Scalar.addi (Scalar.subi (BitVec.ofNat 32 c.val) (Scf.iv 0#32 1#32 g.val)) 32#32) 32#32
      = BitVec.ofNat 32 (orig false c g.val).val := by decide +kernel
set_option maxRecDepth 16384 in
theorem origL_eq : ∀ (c : Dev nD) (g : Fin 17),
    Scalar.remsi (Scalar.addi (BitVec.ofNat 32 c.val) (Scf.iv 0#32 1#32 g.val)) 32#32
      = BitVec.ofNat 32 (orig true c g.val).val := by decide +kernel

/-- The mask's test, in terms of the places in the whole sequence. -/
theorem hit_pos (c o : Fin 32) (r j : Fin 256) :
    hit (keyBlk (BitVec.ofNat 32 c.val) (r.val / 64)) (keyBlk (BitVec.ofNat 32 o.val) (j.val / 64))
      = if Sees (256 * c.val + r.val) (256 * o.val + j.val) then 1#1 else 0#1 := by
  have h1 := blk_eq c ⟨r.val / 64, by omega⟩
  have h2 := blk_eq o ⟨j.val / 64, by omega⟩
  have h3 := hit_eq ⟨4 * c.val + r.val / 64, by omega⟩ ⟨4 * o.val + j.val / 64, by omega⟩
  have e1 : (256 * c.val + r.val) / 64 = 4 * c.val + r.val / 64 := by omega
  have e2 : (256 * o.val + j.val) / 64 = 4 * o.val + j.val / 64 := by omega
  simp only [Sees, e1, e2]
  rw [show keyBlk (BitVec.ofNat 32 c.val) (r.val / 64) = _ from h1, show keyBlk (BitVec.ofNat 32 o.val) (j.val / 64) = _ from h2]
  exact h3

/-- A choice by the test's word is the choice by the test. -/
theorem sel_hit (p : Prop) [Decidable p] :
    Scalar.select (if p then 1#1 else 0#1) (0 : EReal) (Named.named (F := Ideal) κ "mask" (φ := .f32) 3463342888#32 : EReal)
      = if p then 0 else ⊥ := by
  split <;> rfl

/-- What the right ring's scores are shifted by at hop `g`: nothing where the query sees the key, and −∞ elsewhere; -/
theorem biasR_at (c : Dev nD) (g : ℕ) (hg : g < 17) (r j : Fin 256) :
    k0_pay2 (F := Ideal) (num c) (rowsOf c) k0_pay104 (Scf.iv 0#32 1#32 g) (ix2 r j)
      = if Sees (256 * c.val + r.val) (256 * (orig false c g).val + j.val) then (0 : EReal) else ⊥ := by
  pointwise [k0_pay2]
  rw [rows_at, cols_at, num_eq, show Scalar.remsi _ _ = _ from origR_eq c ⟨g, hg⟩]
  refine Eq.trans ?_ (sel_hit _)
  rw [← hit_pos]
  rfl
/-- and the same of the left ring's. -/
theorem biasL_at (c : Dev nD) (g : ℕ) (hg : g < 17) (r j : Fin 256) :
    k0_pay42 (F := Ideal) (num c) (rowsOf c) k0_pay104 (Scf.iv 0#32 1#32 g) (ix2 r j)
      = if Sees (256 * c.val + r.val) (256 * (orig true c g).val + j.val) then (0 : EReal) else ⊥ := by
  pointwise [k0_pay42]
  rw [rows_at, cols_at, num_eq, show Scalar.remsi _ _ = _ from origL_eq c ⟨g, hg⟩]
  refine Eq.trans ?_ (sel_hit _)
  rw [← hit_pos]
  rfl

end Cert.RingAttn
-- ==== Proof.Sums.lean ====
module

public import proofs.«01_k».proof.Proof.Mask

/-! # The kernel's result as sums over the devices -/

@[expose] public section

noncomputable section

namespace Cert.RingAttn

open Cert.KernelIdeal Cert.KernelIdeal.Gen

open Idealize.ShloMosaic
open Idealize.ShloMosaic.TcCoe
open Idealize.SL.Sem

/-- The devices whose keys and values have been taken into account before hop `g`. -/
def origins (c : Dev nD) : ℕ → List (Dev nD)
  | 0 => []
  | g + 1 => if 1 ≤ g ∧ g ≤ hops true then orig true c g :: orig false c g :: origins c g else orig false c g :: origins c g

set_option maxRecDepth 16384 in
/-- After the last hop every device's have been, once. -/
theorem origins_perm : ∀ c : Dev nD, (origins c 17).Perm (List.finRange 32) := by decide +kernel

/-- A sum over the devices in the order of the hops is the sum over all of them. -/
theorem origins_sum (c : Dev nD) (f : Dev nD → EReal) : ((origins c 17).map f).sum = ∑ o : Fin 32, f o :=
  (((origins_perm c).map f).sum_eq).trans (Fin.sum_univ_def f).symm

/-- A sum over devices and rows is the sum over the whole sequence. -/
theorem sum_blocks (f : Fin 8192 → EReal) : (∑ o : Fin 32, ∑ j : Fin 256, f ⟨256 * o.val + j.val, by omega⟩) = ∑ J, f J := by
  rw [← Fintype.sum_prod_type' (f := fun (o : Fin 32) (j : Fin 256) => f ⟨256 * o.val + j.val, by omega⟩),
    ← Equiv.sum_comp (finProdFinEquiv (m := 32) (n := 256)) f]
  refine Finset.sum_congr rfl fun p _ => congrArg f (Fin.ext ?_)
  show 256 * p.1.val + p.2.val = p.2.val + 256 * p.1.val
  omega
/-- A sum over heads and their columns is the sum over all columns. -/
theorem sum_cols (f : Fin 256 → EReal) : (∑ h : Fin 4, ∑ d : Fin 64, f (col h d)) = ∑ k, f k := by
  rw [← Fintype.sum_prod_type' (f := fun (h : Fin 4) (d : Fin 64) => f (col h d)),
    ← Equiv.sum_comp (finProdFinEquiv (m := 4) (n := 64)) f]
  refine Finset.sum_congr rfl fun p _ => congrArg f (Fin.ext ?_)
  show 64 * p.1.val + p.2.val = p.2.val + 64 * p.1.val
  omega

variable (K V : Dev nD → Vec Ideal S2x256x4x64 .f32) (Qv : Fin 2 → Fin 4 → VQ Ideal) (c : Dev nD)

/-- The weight of device `o`'s key `j` for the query `r` of device `c`. -/
def wgt (b : Fin 2) (h : Fin 4) (r : Fin 256) (o : Dev nD) (j : Fin 256) : EReal :=
  Ideal.exp ((∑ d : Fin 64, (Qv b h (ix4 0 0 r d) : EReal) * (K o (ix4 b j h d) : EReal))
    + if Sees (256 * c.val + r.val) (256 * o.val + j.val) then 0 else ⊥)

/-- Each device's own keys and values. -/
abbrev kvs : Dev nD → KV Ideal := fun o => ownKV (K o) (V o)

/-- The exponentials of a hop of the right ring. -/
theorem headPR (g : ℕ) (hg : g < 17) (b : Fin 2) (h : Fin 4) (r j : Fin 256) :
    headP (k0_pay2 (F := Ideal) (num c) (rowsOf c) k0_pay104 (Scf.iv 0#32 1#32 g)) (k0_pay3 (kvs K V (orig false c g)).k) b h (Qv b h) (ix2 r j)
      = wgt K Qv c b h r (orig false c g) j := by
  rw [headP_at, biasR_at c g hg]
  simp only [key_at]
  rfl
/-- The exponentials of a hop of the left ring. -/
theorem headPL (g : ℕ) (hg : g < 17) (b : Fin 2) (h : Fin 4) (r j : Fin 256) :
    headP (k0_pay42 (F := Ideal) (num c) (rowsOf c) k0_pay104 (Scf.iv 0#32 1#32 g)) (k0_pay3 (kvs K V (orig true c g)).k) b h (Qv b h) (ix2 r j)
      = wgt K Qv c b h r (orig true c g) j := by
  rw [headP_at, biasL_at c g hg]
  simp only [key_at]
  rfl

/-- What a query's normaliser holds before hop `g`: the weights of the keys so far; -/
theorem accL_at (b : Fin 2) (h : Fin 4) (r : Fin 256) : ∀ g : ℕ, g ≤ 17 →
    ((accAt (kvs K V) c Qv g).2 b h (ix4 0 0 r 0) : EReal)
      = ((origins c g).map fun o => ∑ j : Fin 256, wgt K Qv c b h r o j).sum := by
  intro g
  induction g with
  | zero =>
    intro _
    show (unbuf1 (k0_pay99 (F := Ideal)) b h (ix4 0 0 r 0) : EReal) = 0
    unfold unbuf1
    pointwise [k0_pay99]
  | succ g ih =>
    intro hg
    have i := ih (by omega)
    unfold accAt origins hopAL
    by_cases hh : 1 ≤ g ∧ g ≤ hops true
    · rw [if_pos hh, if_pos hh]
      unfold stepAL stepL
      dsimp only
      rw [headL_at, headL_at, i]
      simp only [headPR K V Qv c g (by omega), headPL K V Qv c g (by omega), List.map_cons, List.sum_cons]
      rw [add_comm, add_comm (List.sum _)]
    · rw [if_neg hh, if_neg hh]
      unfold stepAL stepL
      dsimp only
      rw [headL_at, i]
      simp only [headPR K V Qv c g (by omega), List.map_cons, List.sum_cons]
      rw [add_comm]

/-- and its sums the values so weighted. -/
theorem accA_at (b : Fin 2) (h : Fin 4) (r : Fin 256) (d : Fin 64) : ∀ g : ℕ, g ≤ 17 →
    ((accAt (kvs K V) c Qv g).1 b h (ix4 0 0 r d) : EReal)
      = ((origins c g).map fun o => ∑ j : Fin 256, wgt K Qv c b h r o j * (V o (ix4 b j h d) : EReal)).sum := by
  intro g
  induction g with
  | zero =>
    intro _
    show (unbuf64 (k0_pay100 (F := Ideal)) b h (ix4 0 0 r d) : EReal) = 0
    unfold unbuf64
    pointwise [k0_pay100]
  | succ g ih =>
    intro hg
    have i := ih (by omega)
    unfold accAt origins hopAL
    by_cases hh : 1 ≤ g ∧ g ≤ hops true
    · rw [if_pos hh, if_pos hh]
      unfold stepAL stepA
      dsimp only
      rw [headA_at, headA_at, i]
      simp only [headPR K V Qv c g (by omega), headPL K V Qv c g (by omega), val_at, List.map_cons, List.sum_cons]
      rw [add_comm, add_comm (List.sum _)]
    · rw [if_neg hh, if_neg hh]
      unfold stepAL stepA
      dsimp only
      rw [headA_at, i]
      simp only [headPR K V Qv c g (by omega), val_at, List.map_cons, List.sum_cons]
      rw [add_comm]

/-- A device's result at an index: over the heads and their columns, the weighted values over the weights, with the output weights. -/
theorem bodyOut_at (X : Vec Ideal S2x256x512 .f32) (Wq : Vec Ideal S512x256 .f32) (Wo : Vec Ideal S256x512 .f32)
    (b : Fin 2) (r : Fin 256) (n : Fin 512) :
    (bodyOut (kvs K V) c X Wq Wo (ix3 b r n) : EReal)
      = ∑ h : Fin 4, ∑ d : Fin 64,
          Ideal.div (∑ o : Fin 32, ∑ j : Fin 256, wgt K (queryAt X Wq) c b h r o j * (V o (ix4 b j h d) : EReal))
              (∑ o : Fin 32, ∑ j : Fin 256, wgt K (queryAt X Wq) c b h r o j)
            * (Wo (ix2 (col h d) n) : EReal) := by
  have e : bodyOut (kvs K V) c X Wq Wo (ix3 b r n)
      = outRow ((accAt (kvs K V) c (queryAt X Wq) 17).1 b) ((accAt (kvs K V) c (queryAt X Wq) 17).2 b) (woBlk Wo) (ix3 0 r n) := by
    unfold bodyOut bufO
    congr 1
    funext a
    match a with
    | ⟨0, _⟩ => rfl
    | ⟨1, _⟩ => rfl
    | ⟨2, _⟩ => rfl
  rw [e, outRow_at]
  refine Finset.sum_congr rfl fun h _ => Finset.sum_congr rfl fun d _ => ?_
  rw [accA_at K V _ c b h r d 17 le_rfl, accL_at K V _ c b h r 17 le_rfl, origins_sum, origins_sum]
  congr 1
  unfold woBlk
  rw [← woRect_at]

end Cert.RingAttn
-- ==== Proof.Ref.lean ====
module

public import proofs.«01_k».proof.Proof.Mask
public import proofs.«01_k».proof.Proof.Gen.ReferenceIdeal.Read

/-! # The reference's values at an index, over the extended reals -/

@[expose] public section

noncomputable section

namespace Cert.RingRef

open Cert.ReferenceIdeal Cert.ReferenceIdeal.Gen Cert.ReferenceIdeal.Read

open Idealize.ShloMosaic
open Idealize.ShloMosaic.TcCoe
open Idealize.SL.Sem
open Cert.RingAttn (Sees hit hit_eq)

/-- A floor division by 64, on words, as the reference computes it. -/
def fdiv (w : BitVec 32) : BitVec 32 :=
  Scalar.select
      (IntOp.andi
        (IntOp.cmpi CmpIPredicate.ne
          (if w = 0 then 0 else if w.msb = true then -1 else 1 : BitVec 32)
          (if (64#32 : BitVec 32) = 0 then 0
          else if BitVec.msb 64#32 = true then -1 else 1 : BitVec 32))
        (IntOp.cmpi CmpIPredicate.ne (IntOp.remsi ArithUnit.host w 64#32)
          0#32))
      (IntOp.subi (IntOp.divsi ArithUnit.host w 64#32) 1#32)
      (IntOp.divsi ArithUnit.host w 64#32)

/-- It is the division of the position by 64. -/
theorem fdiv_eq (i : Fin 8192) : fdiv (BitVec.ofNat 32 i.val) = BitVec.ofNat 32 (i.val / 64) := by
  have hm : (BitVec.ofNat 32 i.val).msb = false := by
    rw [BitVec.msb_eq_false_iff_two_mul_lt, BitVec.toNat_ofNat]; omega
  have hd : IntOp.divsi ArithUnit.host (BitVec.ofNat 32 i.val) 64#32 = BitVec.ofNat 32 (i.val / 64) := by
    unfold IntOp.divsi
    rw [if_neg (by rintro (h | ⟨_, h⟩) <;> exact absurd h (by decide)), BitVec.sdiv_eq, hm, show (64#32).msb = false from rfl]
    apply BitVec.eq_of_toNat_eq
    show ((BitVec.ofNat 32 i.val) / 64#32).toNat = _
    simp only [BitVec.toNat_udiv, BitVec.toNat_ofNat, Nat.reducePow, Nat.reduceMod]
    omega
  by_cases h : i.val = 0
  · rw [h]; decide
  · have h0 : ¬ BitVec.ofNat 32 i.val = 0 := fun e => h (by
      have := congrArg BitVec.toNat e
      rw [BitVec.toNat_ofNat] at this
      simp at this
      omega)
    have e : IntOp.cmpi CmpIPredicate.ne (1 : BitVec 32) (if (64#32 : BitVec 32) = 0 then 0 else if BitVec.msb 64#32 = true then -1 else 1) = 0#1 := by decide
    unfold fdiv
    rw [hd, if_neg h0, hm, if_neg (by decide), e]
    simp [IntOp.andi, Scalar.select]

/-- The remainder by 3, on words, as the reference computes it. -/
def rem3 (w : BitVec 32) : BitVec 32 :=
  let t : BitVec 32 := Scalar.select (IntOp.cmpi CmpIPredicate.eq 3#32 0#32) 1#32 3#32
  Scalar.select
      (IntOp.andi
        (IntOp.cmpi CmpIPredicate.ne
          (IntOp.cmpi CmpIPredicate.slt (IntOp.remsi ArithUnit.host w t) 0#32)
          (IntOp.cmpi CmpIPredicate.slt t 0#32))
        (IntOp.cmpi CmpIPredicate.ne (IntOp.remsi ArithUnit.host w t) 0#32))
      (IntOp.addi (IntOp.remsi ArithUnit.host w t) t)
      (IntOp.remsi ArithUnit.host w t)

set_option maxRecDepth 65536 in
theorem rem3_eq : ∀ n : Fin 256, rem3 (BitVec.ofNat 32 n.val) = IntOp.remsi .vector (BitVec.ofNat 32 n.val) 3#32 := by decide +kernel

/-- The queries' blocks. -/
theorem v3_at (i : Fin 8192) : val_main_v3 (F := Ideal) (ix1 i) = BitVec.ofNat 32 (i.val / 64) := by
  unfold val_main_v3 val_main_call0_v11 val_main_call0_v13 val_main_call0_v12 val_main_call0_v10 val_main_call0_v9 val_main_call0_v8 val_main_call0_v7 val_main_call0_v6 val_main_call0_v5 val_main_call0_v4 val_main_call0_v3 val_main_call0_v2 val_main_call0_v1 val_main_call0_v0 val_main_call0_c val_main_call0_c_0 val_main_v2 val_main_c
  pointwise
  simp only [id_eq]
  pointwise
  exact fdiv_eq i
/-- The keys' blocks. -/
theorem v6_at (i : Fin 8192) : val_main_v6 (F := Ideal) (ix1 i) = BitVec.ofNat 32 (i.val / 64) := by
  unfold val_main_v6 val_main_call1_v11 val_main_call1_v13 val_main_call1_v12 val_main_call1_v10 val_main_call1_v9 val_main_call1_v8 val_main_call1_v7 val_main_call1_v6 val_main_call1_v5 val_main_call1_v4 val_main_call1_v3 val_main_call1_v2 val_main_call1_v1 val_main_call1_v0 val_main_call1_c val_main_call1_c_0 val_main_v5 val_main_c_0
  pointwise
  simp only [id_eq]
  pointwise
  exact fdiv_eq i
/-- Where the mask's tables read the queries' blocks: at the row. -/
theorem ix4_15 (i j : Fin 8192) : idx_main_v4 (idx_main_v15 (ix2 i j)) = ix1 i := by funext a; match a with | ⟨0, _⟩ => rfl
/-- The same, at the equality. -/
theorem ix4_8 (i j : Fin 8192) : idx_main_v4 (idx_main_v8 (ix2 i j)) = ix1 i := by funext a; match a with | ⟨0, _⟩ => rfl
/-- Where the mask's tables read the keys' blocks: at the column. -/
theorem ix7_16 (i j : Fin 8192) : idx_main_v7 (idx_main_v16 (ix2 i j)) = ix1 j := by funext a; match a with | ⟨0, _⟩ => rfl
/-- The same, at the equality. -/
theorem ix7_9 (i j : Fin 8192) : idx_main_v7 (idx_main_v9 (ix2 i j)) = ix1 j := by funext a; match a with | ⟨0, _⟩ => rfl
/-- The same, at the test for the first block. -/
theorem ix7_13 (i j : Fin 8192) : idx_main_v7 (idx_main_v13 (ix2 i j)) = ix1 j := by funext a; match a with | ⟨0, _⟩ => rfl

/-- The reference's mask is `Sees`. -/
theorem v18_at (i j : Fin 8192) : val_main_v18 (F := Ideal) (ix2 i j)
    = rem3 (IntOp.addi (BitVec.ofNat 32 (i.val / 64)) (BitVec.ofNat 32 (j.val / 64))) := by
  simp only [val_main_v18_apply, val_main_call2_v14_apply, val_main_call2_v13_apply, val_main_call2_v12_apply, val_main_call2_v11_apply, val_main_call2_v10_apply, val_main_call2_v9_apply, val_main_call2_v8_apply, val_main_call2_v7_apply, val_main_call2_v6_apply, val_main_call2_v5_apply, val_main_call2_v4_apply, val_main_call2_v3_apply, val_main_call2_v2_apply, val_main_call2_v1_apply, val_main_call2_v0_apply, val_main_call2_c_apply, val_main_call2_c_0_apply, val_main_call2_c_1_apply, val_main_call2_c_2_apply, val_main_call2_c_3_apply, val_main_c_2_apply, val_main_v17_apply, val_main_v16_apply, val_main_v15_apply, val_main_v4_apply, val_main_v7_apply, ix4_15, ix7_16, v3_at, v6_at]
  rfl

/-- The reference's mask is on where the query sees the key. -/
theorem mask_at (i j : Fin 8192) : val_main_v21 (F := Ideal) (ix2 i j) = if Sees i.val j.val then 1#1 else 0#1 := by
  rw [val_main_v21_apply, val_main_v14_apply, val_main_v20_apply, v18_at, val_main_v10_apply, val_main_v13_apply, val_main_v8_apply,
    val_main_v9_apply, val_main_v12_apply, val_main_v4_apply, val_main_v7_apply, ix4_8, ix7_9, v3_at, v6_at]
  have h := hit_eq ⟨i.val / 64, by omega⟩ ⟨j.val / 64, by omega⟩
  have e : IntOp.addi (BitVec.ofNat 32 (i.val / 64)) (BitVec.ofNat 32 (j.val / 64)) = BitVec.ofNat 32 (i.val / 64 + j.val / 64) :=
    (BitVec.ofNat_add _ _).symm
  have h3 := rem3_eq ⟨i.val / 64 + j.val / 64, by omega⟩
  simp only [hit, e] at h
  rw [e, show rem3 (BitVec.ofNat 32 (i.val / 64 + j.val / 64)) = _ from h3]
  exact h

/-- A disjunction with a true member is true. -/
theorem fold_or {n : ℕ} (f : Fin n → BitVec 1) (a : Fin n) (h : f a = 1#1) : Finset.fold IntOp.ori (0#1) f Finset.univ = 1#1 := by
  have e := Finset.fold_insert (op := IntOp.ori) (b := 0#1) (f := f) (Finset.notMem_erase a Finset.univ)
  rw [Finset.insert_erase (Finset.mem_univ a), h] at e
  rw [e]
  generalize Finset.fold IntOp.ori (0#1) f (Finset.univ.erase a) = z
  revert z
  decide

/-- Some key is always seen, so every row is kept. -/
theorem keep_at (i : Fin 8192) : val_main_v32 (F := Ideal) (ix1 i) = 1#1 := by
  unfold val_main_v32 val_main_c_6
  pointwise
  exact fold_or _ i (by rw [mask_at, if_pos (Or.inl (Or.inl rfl))])
/-- Where the normaliser reads whether a row keeps a key: at the row. -/
theorem ix_keep (b : Fin 2) (h : Fin 4) (i j : Fin 8192) : idx_main_v39 (idx_main_call5_v1 (ix4 b h i j)) = ix1 i := by
  funext a; match a with | ⟨0, _⟩ => rfl

/-- The inputs. -/
abbrev A0 := (⟨S2x8192x512, .f32⟩ : BufTy).Contents (Elt Ideal)
/-- The query weights. -/
abbrev A1 := (⟨S512x256, .f32⟩ : BufTy).Contents (Elt Ideal)
/-- The keys, or the values. -/
abbrev A2 := (⟨S2x8192x4x64, .f32⟩ : BufTy).Contents (Elt Ideal)
/-- The output weights. -/
abbrev A4 := (⟨S256x512, .f32⟩ : BufTy).Contents (Elt Ideal)

/-- The score of the key at `j` for the query at `i`, −∞ where the query does not see the key. -/
def score (x0 : A0) (x1 : A1) (x2 : A2) (b : Fin 2) (h : Fin 4) (i j : Fin 8192) : EReal :=
  if Sees i.val j.val then
    (∑ d : Fin 64, (∑ k : Fin 512, (x0 (ix3 b i k) : EReal) * (x1 (ix2 k (Cert.RingAttn.col h d)) : EReal)) * (x2 (ix4 b j h d) : EReal))
      * Ideal.ofBits .f32 0x3E000000#32
  else ⊥

/-- The softmax of the scores `s`, dotted with `v`. -/
def attn {N : ℕ} (s v : Fin N → EReal) : EReal :=
  ∑ j, v j * Ideal.div (Ideal.exp (s j - Finset.univ.sup s)) (∑ j', Ideal.exp (s j' - Finset.univ.sup s))

/-- A query's projection. -/
theorem q_at (x0 : A0) (x1 : A1) (b : Fin 2) (i : Fin 8192) (h : Fin 4) (d : Fin 64) :
    val_main_v1 (F := Ideal) x0 x1 (ix4 b i h d)
      = ∑ k : Fin 512, (x0 (ix3 b i k) : EReal) * (x1 (ix2 k (Cert.RingAttn.col h d)) : EReal) := by
  unfold val_main_v1 val_main_v0
  pointwise
  have e : (⟨h.val * 64 + d.val, by omega⟩ : Fin 256) = Cert.RingAttn.col h d := Fin.ext (by show h.val * 64 + d.val = 64 * h.val + d.val; omega)
  rw [e]
/-- The scaled products of queries and keys. -/
theorem score_at (x0 : A0) (x1 : A1) (x2 : A2) (b : Fin 2) (h : Fin 4) (i j : Fin 8192) :
    val_main_v24 (F := Ideal) x0 x1 x2 (ix4 b h i j)
      = (∑ d : Fin 64, (val_main_v1 (F := Ideal) x0 x1 (ix4 b i h d) : EReal) * (x2 (ix4 b j h d) : EReal)) * Ideal.ofBits .f32 0x3E000000#32 := by
  rw [val_main_v24_apply]
  unfold val_main_v22 val_main_v23 val_main_cst
  generalize val_main_v1 (F := Ideal) x0 x1 = Q
  pointwise
/-- The word of minus infinity. -/
theorem ofBits_neg_inf : Ideal.ofBits .f32 0xFF800000#32 = ⊥ := by simp [Ideal.ofBits, Ideal.ieee]
/-- The masked scores. -/
theorem sc_at (x0 : A0) (x1 : A1) (x2 : A2) (b : Fin 2) (h : Fin 4) (i j : Fin 8192) :
    val_main_v26 (F := Ideal) x0 x1 x2 (ix4 b h i j) = score x0 x1 x2 b h i j := by
  unfold score
  simp only [← q_at]
  rw [← score_at, val_main_v26_apply]
  unfold val_main_call3_v1 val_main_v25 val_main_call3_v2 val_main_call3_v0 val_main_cst_4
  generalize val_main_v24 (F := Ideal) x0 x1 x2 = Q
  pointwise
  rw [mask_at]
  split
  · rfl
  · exact ofBits_neg_inf
/-- A row's maximum. -/
theorem max_at (x0 : A0) (x1 : A1) (x2 : A2) (b : Fin 2) (h : Fin 4) (i j : Fin 8192) :
    val_main_v29 (F := Ideal) x0 x1 x2 (ix4 b h i j) = Finset.univ.sup (score x0 x1 x2 b h i) := by
  have e : score x0 x1 x2 b h i = fun x => val_main_v26 (F := Ideal) x0 x1 x2 (ix4 b h i x) := funext fun x => (sc_at ..).symm
  rw [e]
  unfold val_main_v29 val_main_v28 val_main_v27 val_main_cst_5
  generalize val_main_v26 (F := Ideal) x0 x1 x2 = Q
  pointwise
  rw [ofBits_neg_inf]
  rfl
/-- The exponentials, the maximum taken off. -/
theorem w_at (x0 : A0) (x1 : A1) (x2 : A2) (b : Fin 2) (h : Fin 4) (i j : Fin 8192) :
    val_main_v31 (F := Ideal) x0 x1 x2 (ix4 b h i j)
      = Ideal.exp (score x0 x1 x2 b h i j - Finset.univ.sup (score x0 x1 x2 b h i)) := by
  rw [← max_at x0 x1 x2 b h i j, ← sc_at]
  unfold val_main_v31 val_main_v30
  generalize val_main_v26 (F := Ideal) x0 x1 x2 = Q
  generalize val_main_v29 (F := Ideal) x0 x1 x2 = M
  pointwise
/-- The normaliser: every row keeps a key, so it is the row's sum. -/
theorem z_at (x0 : A0) (x1 : A1) (x2 : A2) (b : Fin 2) (h : Fin 4) (i j : Fin 8192) :
    val_main_v37 (F := Ideal) x0 x1 x2 (ix4 b h i j)
      = ∑ j', Ideal.exp (score x0 x1 x2 b h i j' - Finset.univ.sup (score x0 x1 x2 b h i)) := by
  simp only [← w_at]
  unfold val_main_v37 val_main_v36 val_main_call4_v1 val_main_v33 val_main_v35 val_main_call4_v2 val_main_call4_v0 val_main_cst_8 val_main_v34 val_main_cst_7
  generalize val_main_v31 (F := Ideal) x0 x1 x2 = Q
  pointwise
  rw [keep_at]
  exact if_pos rfl
/-- The weights. -/
theorem p_at (x0 : A0) (x1 : A1) (x2 : A2) (b : Fin 2) (h : Fin 4) (i j : Fin 8192) :
    val_main_v40 (F := Ideal) x0 x1 x2 (ix4 b h i j)
      = Ideal.div (val_main_v31 (F := Ideal) x0 x1 x2 (ix4 b h i j)) (val_main_v37 (F := Ideal) x0 x1 x2 (ix4 b h i j)) := by
  rw [val_main_v40_apply, val_main_v38_apply, val_main_call5_v1_apply, val_main_v39_apply, ix_keep, keep_at]
  generalize val_main_v31 (F := Ideal) x0 x1 x2 (ix4 b h i j) = Q
  generalize val_main_v37 (F := Ideal) x0 x1 x2 (ix4 b h i j) = Z
  exact if_pos rfl

/-- The reference's result at an index. -/
theorem out_at (x0 : A0) (x1 : A1) (x2 x3 : A2) (x4 : A4) (b : Fin 2) (i : Fin 8192) (n : Fin 512) :
    val_main_v44 (F := Ideal) x0 x1 x2 x3 x4 (ix3 b i n)
      = ∑ k : Fin 256, attn (score x0 x1 x2 b ⟨k.val / 64, by omega⟩ i) (fun j => x3 (ix4 b j ⟨k.val / 64, by omega⟩ ⟨k.val % 64, by omega⟩))
          * (x4 (ix2 k n) : EReal) := by
  unfold attn
  simp only [← w_at]
  have e : ∀ h : Fin 4, ∀ j : Fin 8192, Ideal.div (val_main_v31 (F := Ideal) x0 x1 x2 (ix4 b h i j)) (∑ j', val_main_v31 (F := Ideal) x0 x1 x2 (ix4 b h i j'))
      = val_main_v40 (F := Ideal) x0 x1 x2 (ix4 b h i j) := fun h j => by
    rw [p_at, z_at]; simp only [w_at]
  simp only [e]
  unfold val_main_v44 val_main_v43 val_main_v42 val_main_v41
  generalize val_main_v40 (F := Ideal) x0 x1 x2 = Z
  pointwise

end Cert.RingRef
-- ==== Proof.Soft.lean ====
module

public import proofs.«01_k».proof.Proof.Sums
public import proofs.«01_k».proof.Proof.Ref

/-! # The softmax over the extended reals: without the maximum and with it -/

@[expose] public section

noncomputable section

namespace Cert.RingAttn

open Idealize.ShloMosaic

/-- A sum of reals, among the extended reals. -/
theorem coe_sum {ι : Type} (t : Finset ι) (f : ι → ℝ) : (∑ j ∈ t, (f j : EReal)) = ((∑ j ∈ t, f j : ℝ) : EReal) := by
  classical
  induction t using Finset.induction_on with
  | empty => simp
  | insert a t ha ih => rw [Finset.sum_insert ha, Finset.sum_insert ha, ih, EReal.coe_add]

/-- A factor that is a real, and not negative, distributes over a sum. -/
theorem sum_mul_coe {ι : Type} (t : Finset ι) (f : ι → EReal) {r : ℝ} (hr : 0 ≤ r) :
    (∑ j ∈ t, f j) * (r : EReal) = ∑ j ∈ t, f j * (r : EReal) := by
  classical
  induction t using Finset.induction_on with
  | empty => simp
  | insert a t ha ih =>
    rw [Finset.sum_insert ha, Finset.sum_insert ha, ← ih,
      EReal.right_distrib_of_nonneg_of_ne_top (by exact_mod_cast hr) (EReal.coe_ne_top r)]

variable {N : ℕ} (s : Fin N → ℝ) (seen : Fin N → Prop) [DecidablePred seen] (v : Fin N → EReal)

/-- A key's weight, as a real: the exponential of its score, nothing where it is not seen. -/
def pw (j : Fin N) : ℝ := if seen j then Real.exp (s j) else 0

/-- The exponentials are not negative. -/
theorem pw_nonneg (j : Fin N) : 0 ≤ pw s seen j := by
  unfold pw; split
  · exact (Real.exp_pos _).le
  · exact le_rfl
/-- Where a position is seen, their sum is positive. -/
theorem pw_sum_pos (i : Fin N) (hi : seen i) : 0 < ∑ j, pw s seen j :=
  Finset.sum_pos' (fun j _ => pw_nonneg s seen j) ⟨i, Finset.mem_univ i, by unfold pw; rw [if_pos hi]; exact Real.exp_pos _⟩

/-- A score with minus infinity added where it is not seen has that exponential. -/
theorem exp_bias (j : Fin N) : Ideal.exp ((s j : EReal) + if seen j then 0 else ⊥) = ((pw s seen j : ℝ) : EReal) := by
  unfold pw
  split
  · rw [add_zero, Ideal.exp_coe]
  · rw [EReal.add_bot, Ideal.exp_bot, EReal.coe_zero]

/-- The masked score. -/
abbrev sc (j : Fin N) : EReal := if seen j then (s j : EReal) else ⊥

/-- Where a position is seen, the maximum is a real. -/
theorem sup_real (i : Fin N) (hi : seen i) : ∃ m : ℝ, Finset.univ.sup (sc s seen) = (m : EReal) := by
  obtain ⟨j, _, hj⟩ := Finset.exists_mem_eq_sup Finset.univ ⟨i, Finset.mem_univ i⟩ (sc s seen)
  have hle : sc s seen i ≤ Finset.univ.sup (sc s seen) := Finset.le_sup (Finset.mem_univ i)
  by_cases h : seen j
  · exact ⟨s j, hj.trans (if_pos h)⟩
  · rw [hj, sc, sc, if_pos hi, if_neg h] at hle
    exact absurd (le_bot_iff.mp hle) (EReal.coe_ne_bot _)

/-- Taking a real off the scores scales the exponentials. -/
theorem exp_shift (m : ℝ) (j : Fin N) : Ideal.exp (sc s seen j - (m : EReal)) = ((pw s seen j * Real.exp (-m) : ℝ) : EReal) := by
  unfold sc pw
  split
  · rw [← EReal.coe_sub, Ideal.exp_coe, ← Real.exp_add, sub_eq_add_neg]
  · rw [EReal.bot_sub, Ideal.exp_bot, zero_mul, EReal.coe_zero]

/-- Weighted values over the weights, no maximum taken, are the softmax of the scores with the values. -/
theorem soft_eq (i : Fin N) (hi : seen i) :
    Ideal.div (∑ j, Ideal.exp ((s j : EReal) + if seen j then 0 else ⊥) * v j) (∑ j, Ideal.exp ((s j : EReal) + if seen j then 0 else ⊥))
      = Cert.RingRef.attn (sc s seen) v := by
  have hL := pw_sum_pos s seen i hi
  obtain ⟨m, hm⟩ := sup_real s seen i hi
  have he := Real.exp_pos (-m)
  unfold Cert.RingRef.attn
  rw [hm]
  simp only [exp_bias, exp_shift]
  rw [coe_sum, coe_sum, Ideal.div_coe hL.ne', sum_mul_coe _ _ (one_div_nonneg.mpr hL.le)]
  refine Finset.sum_congr rfl fun j _ => ?_
  rw [← Finset.sum_mul, Ideal.div_coe (mul_pos hL he).ne', mul_comm ((pw s seen j : ℝ) : EReal), mul_assoc, ← EReal.coe_mul, ← EReal.coe_mul]
  congr 2
  field_simp

/-- The scores, scaled before the product with the keys or after it, are the same real. -/
theorem score_eq {D E : ℕ} (x : Fin E → ℝ) (w : Fin E → Fin D → ℝ) (k : Fin D → ℝ) (c : ℝ) :
    (∑ d, ((∑ e, (x e : EReal) * (w e d : EReal)) * (c : EReal)) * (k d : EReal)) = (((∑ d, (∑ e, x e * w e d) * k d) * c : ℝ) : EReal)
    ∧ (∑ d, (∑ e, (x e : EReal) * (w e d : EReal)) * (k d : EReal)) * (c : EReal) = (((∑ d, (∑ e, x e * w e d) * k d) * c : ℝ) : EReal) := by
  simp only [← EReal.coe_mul, coe_sum]
  refine ⟨congrArg _ ?_, trivial⟩
  rw [Finset.sum_mul]
  exact Finset.sum_congr rfl fun d _ => by ring

/-- The scale is an eighth. -/
theorem eighth_real : Ideal.ofBits .f32 0x3E000000#32 = ((1 / 8 : ℝ) : EReal) := by
  simp [Ideal.ofBits, Ideal.ieee, -EReal.coe_mul]; norm_num

end Cert.RingAttn
-- ==== Proof.Final.lean ====
module

public import proofs.«01_k».proof.Defs
public import proofs.«01_k».proof.Proof.Soft
public import proofs.«01_k».proof.Proof.Launch
public import proofs.«01_k».proof.Proof.Gen.ReferenceIdeal.Run
public import proofs.«01_k».proof.Proof.Gen.Pre_finite_inputs_KernelIdeal
public import Idealize.ShloMosaic.Lib.LayoutAt

/-! # The kernel's result is the reference's -/

@[expose] public section

noncomputable section

namespace Cert.RingAttn

open Cert.KernelIdeal Cert.KernelIdeal.Gen

open Idealize.ShloMosaic
open Idealize.ShloMosaic.TcCoe
open Idealize.SL.Sem

/-! ## Finite inputs -/

/-- Where the conjunction of a finite family is true, each member is. -/
theorem fold_and {α : Type} [DecidableEq α] (t : Finset α) (f : α → BitVec 1) (h : Finset.fold IntOp.andi (1#1) f t = 1#1)
    (a : α) (ha : a ∈ t) : f a = 1#1 := by
  have e := Finset.fold_insert (op := IntOp.andi) (b := 1#1) (f := f) (Finset.notMem_erase a t)
  rw [Finset.insert_erase ha, h] at e
  revert e
  generalize Finset.fold IntOp.andi (1#1) f (t.erase a) = z
  generalize f a = y
  revert y z
  decide

/-- A conjunction that is true has both sides true. -/
theorem and_one (y z : BitVec 1) (h : IntOp.andi y z = 1#1) : y = 1#1 ∧ z = 1#1 := by
  revert y z
  decide

/-- A value whose magnitude is below infinity is a real. -/
theorem real_of_lt (x : EReal) (h : BitVec.ofBool (decide (FloatOps.absf (F := Ideal) (φ := .f32) x < Ideal.ofBits .f32 0x7F800000#32)) = 1#1) :
    ∃ t : ℝ, x = t := by
  have hb : Ideal.ofBits .f32 0x7F800000#32 = (⊤ : EReal) := by simp [Ideal.ofBits, Ideal.ieee]
  rw [hb] at h
  have h' : (FloatOps.absf (F := Ideal) (φ := .f32) x : EReal) < ⊤ := by
    by_contra hn
    rw [decide_eq_false hn] at h
    exact absurd h (by decide)
  have h2 : max x (-x) < (⊤ : EReal) := h'
  induction x with
  | bot => simp at h2
  | top => simp at h2
  | coe t => exact ⟨t, rfl⟩

/-- The precondition, read at one device: its inputs, its query weights and its keys are reals. -/
theorem real_of_pre [Cert.Pre_finite_inputs_KernelIdeal.Facts] (X : Vec Ideal S2x256x512 .f32) (W : Vec Ideal S512x256 .f32)
    (K V : Vec Ideal S2x256x4x64 .f32) (Wo : Vec Ideal S256x512 .f32)
    (h : Cert.Pre_finite_inputs_KernelIdeal.fn (F := Ideal) X W K V Wo = fun _ => 1#1) :
    (∀ b r k, ∃ t : ℝ, (X (ix3 b r k) : EReal) = t) ∧ (∀ k n, ∃ t : ℝ, (W (ix2 k n) : EReal) = t)
      ∧ ∀ b r g d, ∃ t : ℝ, (K (ix4 b r g d) : EReal) = t := by
  have h0 := congrFun h ix0
  have hh : IntOp.andi (IntOp.andi
      (Finset.fold IntOp.andi (1#1) (fun k : Fin 2 × Fin 256 × Fin 512 => BitVec.ofBool (decide (FloatOps.absf (F := Ideal) (φ := .f32) (X (ix3 k.1 k.2.1 k.2.2)) < Ideal.ofBits .f32 0x7F800000#32))) Finset.univ)
      (Finset.fold IntOp.andi (1#1) (fun k : Fin 512 × Fin 256 => BitVec.ofBool (decide (FloatOps.absf (F := Ideal) (φ := .f32) (W (ix2 k.1 k.2)) < Ideal.ofBits .f32 0x7F800000#32))) Finset.univ))
      (Finset.fold IntOp.andi (1#1) (fun x => BitVec.ofBool (decide (FloatOps.absf (F := Ideal) (φ := .f32) (K x) < Ideal.ofBits .f32 0x7F800000#32))) Finset.univ) = 1#1 := by
    revert h0
    unfold Cert.Pre_finite_inputs_KernelIdeal.fn
    pointwise
    rw [Finset.filter_true_of_mem (fun x _ => funext fun a => a.elim0)]
    exact id
  obtain ⟨h1, hK⟩ := and_one _ _ hh
  obtain ⟨hX, hW⟩ := and_one _ _ h1
  exact ⟨fun b r k => real_of_lt _ (fold_and _ _ hX (b, r, k) (Finset.mem_univ _)),
    fun k n => real_of_lt _ (fold_and _ _ hW (k, n) (Finset.mem_univ _)),
    fun b r g d => real_of_lt _ (fold_and _ _ hK (ix4 b r g d) (Finset.mem_univ _))⟩

/-! ## The launch's arrays -/

section
variable {F : FTy → Type} [FloatOps F] [Named F] (m : (ℓ : Loc nD τ sig) → Buf (Elt F) ℓ) (ρ : Dev nD → PrngReg) (c : Dev nD)

/-- The launch's inputs are the argument array. -/
theorem argX_eq : argX m c = m ((c : Thread nD τ).loc main_arg0) :=
  Memref.read_access_unit_zero (Elt F) main_arg0
    (show (fun a => (win0_0.index t0_0) a * main_arg0.ty.shape.size a) = fun _ => 0 from
      funext fun a => by fin_cases a <;> decide) (fun a => by fin_cases a <;> decide) _
/-- The launch's query weights are the argument array. -/
theorem argWq_eq : argWq m c = m ((c : Thread nD τ).loc main_arg1) :=
  Memref.read_access_unit_zero (Elt F) main_arg1
    (show (fun a => (win0_1.index t0_0) a * main_arg1.ty.shape.size a) = fun _ => 0 from
      funext fun a => by fin_cases a <;> decide) (fun a => by fin_cases a <;> decide) _
/-- The launch's keys are the argument array. -/
theorem argK_eq : argK m c = m ((c : Thread nD τ).loc main_arg2) :=
  Memref.read_access_unit_zero (Elt F) main_arg2
    (show (fun a => (win0_2.index t0_0) a * main_arg2.ty.shape.size a) = fun _ => 0 from
      funext fun a => by fin_cases a <;> decide) (fun a => by fin_cases a <;> decide) _
/-- The launch's values are the argument array. -/
theorem argV_eq : argV m c = m ((c : Thread nD τ).loc main_arg3) :=
  Memref.read_access_unit_zero (Elt F) main_arg3
    (show (fun a => (win0_3.index t0_0) a * main_arg3.ty.shape.size a) = fun _ => 0 from
      funext fun a => by fin_cases a <;> decide) (fun a => by fin_cases a <;> decide) _
/-- The launch's output weights are the argument array. -/
theorem argWo_eq : argWo m c = m ((c : Thread nD τ).loc main_arg4) :=
  Memref.read_access_unit_zero (Elt F) main_arg4
    (show (fun a => (win0_4.index t0_0) a * main_arg4.ty.shape.size a) = fun _ => 0 from
      funext fun a => by fin_cases a <;> decide) (fun a => by fin_cases a <;> decide) _
/-- The result's window is the whole array. -/
theorem read_res (f : Buf (Elt F) ((c : Thread nD τ).loc main_v1)) : (win0_5.blk t0_0).view.read (Elt F) f = f :=
  Memref.read_access_unit_zero (Elt F) main_v1
    (show (fun a => (win0_5.index t0_0) a * main_v1.ty.shape.size a) = fun _ => 0 from
      funext fun a => by fin_cases a <;> decide) (fun a => by fin_cases a <;> decide) f

/-- The result array ends holding what the body left. -/
theorem finalA_out : finalA m ρ c (5 : Fin 6) = outOf m c := by
  have hw : ((cfg0.win 5).blk t0_0).view.read (Elt F) ((dats m ρ 0 c).arrAt 5 cfg0.N) = (dats m ρ 0 c).flushed 5 t0_0 := by
    rw [show cfg0.N = t0_0.val + 1 from rfl, (dats m ρ 0 c).arrAt_succ (5 : Fin 6) t0_0, flush0_5, if_pos rfl]
    exact View.read_write_univ _ _
  have hf : (dats m ρ 0 c).flushed 5 t0_0 = outOf m c := by
    show (cfg0.win 5).cut _ ((dats m ρ 0 c).after 5 t0_0) = _
    exact funext fun _ => rfl
  rw [hf] at hw
  exact (read_res c _).symm.trans hw
end

/-! ## Positions -/

/-- Device `c`'s row `r` in the whole sequence. -/
def pos (c : Fin 32) (r : Fin 256) : Fin 8192 := ⟨256 * c.val + r.val, by omega⟩

/-- Every position is a row of a device. -/
theorem pos_surj (i : Fin 8192) : ∃ c r, i = pos c r :=
  ⟨⟨i.val / 256, by omega⟩, ⟨i.val % 256, by omega⟩, Fin.ext (by show i.val = 256 * (i.val / 256) + i.val % 256; omega)⟩

/-- Device `c`'s block of an array of rank three, at an index. -/
theorem block3_at {α : Type} (v : (⟨3, ![2, 8192, 512]⟩ : Shape).Idx → α) (c : Fin 32) (b : Fin 2) (r : Fin 256) (k : Fin 512) :
    Layout.block ⟨3, ![2, 256, 512]⟩ ⟨3, ![2, 8192, 512]⟩ 1 32 c v (by decide) (ix3 b r k) = v (ix3 b (pos c r) k) := by
  rw [Layout.block_apply]
  refine congrArg v (funext fun a => Fin.ext ?_)
  match a with
  | ⟨0, _⟩ => rw [Layout.Tiles.idx_val_of_ne _ _ _ _ (by simp)]; rfl
  | ⟨1, _⟩ => rw [Layout.Tiles.idx_val_self _ _ _ _ (by simp)]; show c.val * 256 + r.val = 256 * c.val + r.val; omega
  | ⟨2, _⟩ => rw [Layout.Tiles.idx_val_of_ne _ _ _ _ (by simp)]; rfl
/-- Device `c`'s block of an array of rank four, at an index. -/
theorem block4_at {α : Type} (v : (⟨4, ![2, 8192, 4, 64]⟩ : Shape).Idx → α) (c : Fin 32) (b : Fin 2) (r : Fin 256) (h : Fin 4) (d : Fin 64) :
    Layout.block ⟨4, ![2, 256, 4, 64]⟩ ⟨4, ![2, 8192, 4, 64]⟩ 1 32 c v (by decide) (ix4 b r h d) = v (ix4 b (pos c r) h d) := by
  rw [Layout.block_apply]
  refine congrArg v (funext fun a => Fin.ext ?_)
  match a with
  | ⟨0, _⟩ => rw [Layout.Tiles.idx_val_of_ne _ _ _ _ (by simp)]; rfl
  | ⟨1, _⟩ => rw [Layout.Tiles.idx_val_self _ _ _ _ (by simp)]; show c.val * 256 + r.val = 256 * c.val + r.val; omega
  | ⟨2, _⟩ => rw [Layout.Tiles.idx_val_of_ne _ _ _ _ (by simp)]; rfl
  | ⟨3, _⟩ => rw [Layout.Tiles.idx_val_of_ne _ _ _ _ (by simp)]; rfl

/-! ## The values -/

open Cert.RingRef (A0 A1 A2 A4 attn score)

/-- Where inputs, query weights and keys are reals, device `c`'s result is its block of the reference's. -/
theorem value_eq (x0 : A0) (x1 : A1) (x2 x3 : A2) (x4 : A4)
    (X : Dev nD → Vec Ideal S2x256x512 .f32) (K V : Dev nD → Vec Ideal S2x256x4x64 .f32)
    (hX : ∀ c b r k, X c (ix3 b r k) = x0 (ix3 b (pos c r) k))
    (hK : ∀ c b r h d, K c (ix4 b r h d) = x2 (ix4 b (pos c r) h d))
    (hV : ∀ c b r h d, V c (ix4 b r h d) = x3 (ix4 b (pos c r) h d))
    (fX : ∀ b i k, ∃ t : ℝ, (x0 (ix3 b i k) : EReal) = t) (fW : ∀ k n, ∃ t : ℝ, (x1 (ix2 k n) : EReal) = t)
    (fK : ∀ b j h d, ∃ t : ℝ, (x2 (ix4 b j h d) : EReal) = t)
    (c : Dev nD) (b : Fin 2) (r : Fin 256) (n : Fin 512) :
    (bodyOut (kvs K V) c (X c) x1 x4 (ix3 b r n) : EReal)
      = Cert.ReferenceIdeal.Read.val_main_v44 (F := Ideal) x0 x1 x2 x3 x4 (ix3 b (pos c r) n) := by
  choose tX hX' using fX
  choose tW hW' using fW
  choose tK hK' using fK
  rw [bodyOut_at, Cert.RingRef.out_at, ← sum_cols]
  refine Finset.sum_congr rfl fun h _ => Finset.sum_congr rfl fun d _ => ?_
  have eh : (⟨(col h d).val / 64, by have := (col h d).isLt; omega⟩ : Fin 4) = h := Fin.ext (col_div h d)
  have ed : (⟨(col h d).val % 64, by omega⟩ : Fin 64) = d := Fin.ext (col_mod h d)
  rw [eh, ed]
  refine congrArg (fun t : EReal => t * (x4 (ix2 (col h d) n) : EReal)) ?_
  let s : Fin 8192 → ℝ := fun J => (∑ d', (∑ e, tX b (pos c r) e * tW e (col h d')) * tK b J h d') * (1 / 8)
  have hw : ∀ o j, wgt K (queryAt (X c) x1) c b h r o j = Ideal.exp ((s (pos o j) : EReal) + if Sees (pos c r).val (pos o j).val then 0 else ⊥) := by
    intro o j
    unfold wgt
    simp only [query_at, hX, hK, hX', hW', hK', eighth_real]
    rw [(score_eq (fun e => tX b (pos c r) e) (fun e d' => tW e (col h d')) (fun d' => tK b (pos o j) h d') (1 / 8)).1]
    rfl
  have hs : score x0 x1 x2 b h (pos c r) = sc s (fun J => Sees (pos c r).val J.val) := by
    funext J
    unfold score sc
    simp only [hX', hW', hK', eighth_real]
    rw [(score_eq (fun e => tX b (pos c r) e) (fun e d' => tW e (col h d')) (fun d' => tK b J h d') (1 / 8)).2]
  rw [hs, ← soft_eq s (fun J => Sees (pos c r).val J.val) _ (pos c r) (Or.inl (Or.inl rfl))]
  simp only [hw, hV]
  refine congrArg₂ Ideal.div ?_ ?_
  · exact sum_blocks (fun J => Ideal.exp ((s J : EReal) + if Sees (pos c r).val J.val then 0 else ⊥) * (x3 (ix4 b J h d) : EReal))
  · exact sum_blocks (fun J => Ideal.exp ((s J : EReal) + if Sees (pos c r).val J.val then 0 else ⊥))

/-! ## The claim -/

/-- The kernel on its 32 devices and the reference on one, from the same whole arrays, with finite inputs, query weights
    and keys: both run, and each device ends with its block of the reference's result. -/
theorem algebraic : Cert.algebraic_KernelIdeal_ReferenceIdeal_pre_finite_inputs_KernelIdeal := by
  intro m g m' g' hpre hm
  refine ⟨Cert.ReferenceIdeal.Read.val_main_v44 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)), ?_, ?_⟩
  · refine (θ_run Cert.KernelIdeal.defs _ _).mono (fun r h c => ⟨?_,
      (h.1 c 0).trans (finalA_in m g c 0 rfl), (h.1 c 1).trans (finalA_in m g c 1 rfl),
      (h.1 c 2).trans (finalA_in m g c 2 rfl), (h.1 c 3).trans (finalA_in m g c 3 rfl),
      (h.1 c 4).trans (finalA_in m g c 4 rfl)⟩) (run_main m g)
    refine (h.1 c 5).trans ((finalA_out m g c).trans ?_)
    have hX : ∀ (c : Dev nD) b r k, argX m c (ix3 b r k) = m' (((0 : Dev Cert.ReferenceIdeal.nD).tc : Thread Cert.ReferenceIdeal.nD Cert.ReferenceIdeal.τ).loc Cert.ReferenceIdeal.main_arg0) (ix3 b (pos c r) k) :=
      fun c b r k => by rw [argX_eq, (hm c).1]; exact block3_at _ c b r k
    have hK : ∀ (c : Dev nD) b r h d, argK m c (ix4 b r h d) = m' (((0 : Dev Cert.ReferenceIdeal.nD).tc : Thread Cert.ReferenceIdeal.nD Cert.ReferenceIdeal.τ).loc Cert.ReferenceIdeal.main_arg2) (ix4 b (pos c r) h d) :=
      fun c b r h d => by rw [argK_eq, (hm c).2.2.1]; exact block4_at _ c b r h d
    have hV : ∀ (c : Dev nD) b r h d, argV m c (ix4 b r h d) = m' (((0 : Dev Cert.ReferenceIdeal.nD).tc : Thread Cert.ReferenceIdeal.nD Cert.ReferenceIdeal.τ).loc Cert.ReferenceIdeal.main_arg3) (ix4 b (pos c r) h d) :=
      fun c b r h d => by rw [argV_eq, (hm c).2.2.2.1]; exact block4_at _ c b r h d
    have hp := fun c => real_of_pre _ _ _ _ _ (hpre c)
    funext i
    obtain ⟨b, r, n, rfl⟩ : ∃ (b : Fin 2) (r : Fin 256) (n : Fin 512), i = ix3 b r n :=
      ⟨i 0, i 1, i 2, funext fun a => by match a with | ⟨0, _⟩ => rfl | ⟨1, _⟩ => rfl | ⟨2, _⟩ => rfl⟩
    refine Eq.trans ?_ (block3_at _ c b r n).symm
    show bodyOut (kvs (argK m) (argV m)) c (argX m c) (argWq m c) (argWo m c) (ix3 b r n) = _
    rw [argWq_eq, argWo_eq, (hm c).2.1, (hm c).2.2.2.2]
    refine value_eq _ _ _ _ _ (argX m) (argK m) (argV m) hX hK hV ?_ ?_ ?_ c b r n
    · intro b i k
      obtain ⟨c, r, rfl⟩ := pos_surj i
      obtain ⟨t, ht⟩ := (hp c).1 b r k
      exact ⟨t, by rw [← hX, argX_eq]; exact ht⟩
    · intro k n
      obtain ⟨t, ht⟩ := (hp c).2.1 k n
      exact ⟨t, by rw [← (hm c).2.1]; exact ht⟩
    · intro b i h d
      obtain ⟨c, r, rfl⟩ := pos_surj i
      obtain ⟨t, ht⟩ := (hp c).2.2 b r h d
      exact ⟨t, by rw [← hK, argK_eq]; exact ht⟩
  · exact (θ_run Cert.ReferenceIdeal.defs _ _).mono (fun r h =>
      ⟨(h 0).1.trans (Cert.ReferenceIdeal.Read.val_main_v44_eq m' 0), (h 0).2⟩) (Cert.ReferenceIdeal.Value.run (F := Ideal) m' g')

end Cert.RingAttn
-- ==== Proof.lean ====
module

public import proofs.«01_k».proof.Defs
public import proofs.«01_k».proof.Proof.Frames
public import proofs.«01_k».proof.Proof.Final
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_inputs_KernelIdeal
public import proofs.«01_k».proof.Proof.Gen.Pre_finite_inputs_ReferenceIdeal

@[expose] public section

namespace Cert.Proof

open Idealize.ShloMosaic Idealize.ShloMosaic.TcCoe
open Idealize.SL.Sem

/-- The reference runs to its end; it has no semaphore. -/
theorem frame_reference : Cert.quiescent_ReferenceIdeal := by
  intro m ρ _
  exact (θ_run Cert.ReferenceIdeal.defs _ _).mono (fun r h => ⟨fun c => (h c).2,
    Idealize.ShloMosaic.sem_eq_zero_of_no_sems (by decide) r.2⟩) (Cert.ReferenceIdeal.Value.run (F := Ideal) m ρ)

/-- The masked value's name stands for the word that it replaces. -/
theorem preserves : Cert.preserves_Kernel_KernelIdeal :=
  IdealRules.named_const.statement Cert.KernelIdeal.κ "mask" .f32 0xCE6E6B28#32 ⊥ rfl

/-- The certificate. -/
theorem claim : Cert.Claim :=
  ⟨Cert.Kernel.Gen.facts, Cert.KernelIdeal.Gen.facts, Cert.ReferenceIdeal.Gen.facts,
    Cert.Pre_finite_inputs_KernelIdeal.Gen.facts, Cert.Pre_finite_inputs_ReferenceIdeal.Gen.facts,
    Cert.RingAttn.frame_kernel, Cert.RingAttn.frame_kernelIdeal, fun m ρ _ => Cert.RingAttn.frame_kernelIdeal m ρ trivial,
    frame_reference, fun m ρ _ => frame_reference m ρ trivial, preserves, Cert.RingAttn.algebraic⟩

end Cert.Proof

end
